-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "qscale" .f32 0x3E553B95#32 (((Real.sqrt 48)⁻¹ * (Real.log 2)⁻¹ : ℝ) : EReal)
  ∧ IdealRules.named_const.Statement Cert.KernelIdeal.κ "inv96" .f32 0x3C2AAAAB#32 ((1 / 96 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
-- ==== Pre_finite.lean ====
abbrev S8x4096x1024 : Shape := ⟨3, ![8, 4096, 1024]⟩
abbrev S1024x6144 : Shape := ⟨2, ![1024, 6144]⟩
abbrev S3072 : Shape := ⟨1, ![3072]⟩
abbrev S4x48 : Shape := ⟨2, ![4, 48]⟩
abbrev S96 : Shape := ⟨1, ![96]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S4x48 : S_.BroadcastsInDim S4x48 (![] : Fin 0 → Fin S4x48.rank)
  reducesTo_S4x48_S_d0_1 : S4x48.ReducesTo [0, 1] S_

variable [Facts]

def fn {F : FTy → Type} [FloatOps F] (main_arg0 : FVec F S8x4096x1024 .f32) (main_arg1 : FVec F S1024x6144 .f32) (main_arg2 : FVec F S3072 .f32) (main_arg3 : FVec F S4x48 .f32) (main_arg4 : FVec F S96 .f32) (main_arg5 : FVec F S_ .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S4x48 .f32 := Host.absf main_arg3
  let main_cst_2 : FVec F S_ .f32 := constant S_ .f32 0x7F800000#32
  let main_v10 : FVec F S4x48 .f32 := broadcastInDim S4x48 ![] bcast_S_S4x48 main_cst_2
  let main_v11 : IVec S4x48 1 := cmpf .olt main_v9 main_v10
  let main_c_3 : IVec S_ 1 := constantI S_ 1 1#1
  let main_v12 : IVec S_ 1 := (fun x v => Host.reduce IntOp.andi x v reducesTo_S4x48_S_d0_1 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_v16 : IVec S_ 1 := andi main_v13 main_v15
  main_v16
-- ==== Pre_in_range.lean ====
abbrev S288 : Shape := ⟨1, ![288]⟩
abbrev S1 : Shape := ⟨1, ![1]⟩
abbrev S1179648x128 : Shape := ⟨2, ![1179648, 128]⟩
abbrev S4x32x1024x1024 : Shape := ⟨4, ![4, 32, 1024, 1024]⟩
abbrev S4x32x1x1024 : Shape := ⟨4, ![4, 32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S288 32) (main_arg2 : IVec S1 32) (main_arg3 : FVec F S1179648x128 .f32) (main_arg4 : FVec F S4x32x1024x1024 .f32) (main_arg5 : FVec F S4x32x1x1024 .f32) (main_arg6 : FVec F S4x32x1024x1024 .f32) (main_arg7 : FVec F S4x32x1x1024 .f32) (main_arg8 : FVec F S4x32x1024x1024 .f32) (main_arg9 : FVec F S4x32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 0#32
  let main_v6 : IVec S288 32 := broadcastInDim S288 ![] bcast_S_S288 main_c_2
  let main_v7 : IVec S288 1 := cmpi .sge main_arg1 main_v6
  let main_c_3 : IVec S_ 32 := constantI S_ 32 288#32
  let main_v8 : IVec S288 32 := broadcastInDim S288 ![] bcast_S_S288 main_c_3
  let main_v9 : IVec S288 1 := cmpi .slt main_arg1 main_v8
  let main_v10 : IVec S288 1 := andi main_v7 main_v9
  let main_c_4 : IVec S_ 1 := constantI S_ 1 1#1
  let main_v11 : IVec S_ 1 := (fun x v => Host.reduce IntOp.andi x v reducesTo_S288_S_d0 h_S_) main_v10 main_c_4
  let main_v12 : IVec S_ 1 := andi main_v5 main_v11
  main_v12
-- ==== Kernel.lean ====
abbrev S8x4096x1024 : Shape := ⟨3, ![8, 4096, 1024]⟩
abbrev S1024x6144 : Shape := ⟨2, ![1024, 6144]⟩
abbrev S3072 : Shape := ⟨1, ![3072]⟩
abbrev S4x48 : Shape := ⟨2, ![4, 48]⟩
abbrev S96 : Shape := ⟨1, ![96]⟩
abbrev S_ : Shape := ⟨0, ![]⟩
abbrev S4 : Shape := ⟨1, ![4]⟩
abbrev S1024x256 : Shape := ⟨2, ![1024, 256]⟩
abbrev S1024x384 : Shape := ⟨2, ![1024, 384]⟩
abbrev S1024x3072 : Shape := ⟨2, ![1024, 3072]⟩
abbrev S1024x8x2x24 : Shape := ⟨4, ![1024, 8, 2, 24]⟩
abbrev S1024x8x2x32 : Shape := ⟨4, ![1024, 8, 2, 32]⟩
abbrev S1024x512 : Shape := ⟨2, ![1024, 512]⟩
abbrev S1024x4x96 : Shape := ⟨3, ![1024, 4, 96]⟩
abbrev S1024x4x128 : Shape := ⟨3, ![1024, 4, 128]⟩
abbrev S1024x6528 : Shape := ⟨2, ![1024, 6528]⟩
abbrev S1024x6656 : Shape := ⟨2, ![1024, 6656]⟩
abbrev S1x3072 : Shape := ⟨2, ![1, 3072]⟩
abbrev S1x6656 : Shape := ⟨2, ![1, 6656]⟩
abbrev S4x1 : Shape := ⟨2, ![4, 1]⟩
abbrev S4x2 : Shape := ⟨2, ![4, 2]⟩
abbrev S32768x1024 : Shape := ⟨2, ![32768, 1024]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S24 : Shape := ⟨1, ![24]⟩
abbrev S1x24 : Shape := ⟨2, ![1, 24]⟩
abbrev S4096x24 : Shape := ⟨2, ![4096, 24]⟩
abbrev S32768x6656 : Shape := ⟨2, ![32768, 6656]⟩
abbrev S32768x1152 : Shape := ⟨2, ![32768, 1152]⟩
abbrev S512x1024 : Shape := ⟨2, ![512, 1024]⟩
abbrev S512x128 : Shape := ⟨2, ![512, 128]⟩
abbrev S512x6656 : Shape := ⟨2, ![512, 6656]⟩
abbrev S512x1152 : Shape := ⟨2, ![512, 1152]⟩
abbrev S512x512 : Shape := ⟨2, ![512, 512]⟩
abbrev S1x128 : Shape := ⟨2, ![1, 128]⟩
abbrev S1x96 : Shape := ⟨2, ![1, 96]⟩
abbrev S8x4096x6656 : Shape := ⟨3, ![8, 4096, 6656]⟩
abbrev S1 : Shape := ⟨1, ![1]⟩
abbrev S8x4096x512 : Shape := ⟨3, ![8, 4096, 512]⟩
abbrev S1x512x128 : Shape := ⟨3, ![1, 512, 128]⟩
abbrev S1x4096x128 : Shape := ⟨3, ![1, 4096, 128]⟩
abbrev S1x48 : Shape := ⟨2, ![1, 48]⟩
abbrev S1x1 : Shape := ⟨2, ![1, 1]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩

abbrev nBuf : Space → Nat
  | .hbm => 142
  | .vmem => 26
  | .smem => 1
  | _ => 0

abbrev hbmTy0_0 (i : Nat) : BufTy := match i % 128 with
  | 0 => ⟨S8x4096x1024, .f32⟩
  | 1 => ⟨S1024x6144, .f32⟩
  | 2 => ⟨S3072, .f32⟩
  | 3 => ⟨S4x48, .f32⟩
  | 4 => ⟨S96, .f32⟩
  | 5 => ⟨S_, .f32⟩
  | 6 => ⟨S4, .i32⟩
  | 7 => ⟨S4, .i1⟩
  | 8 => ⟨S1024x256, .f32⟩
  | 9 => ⟨S1024x256, .f32⟩
  | 10 => ⟨S1024x256, .f32⟩
  | 11 => ⟨S1024x384, .f32⟩
  | 12 => ⟨S1024x384, .f32⟩
  | 13 => ⟨S1024x384, .f32⟩
  | 14 => ⟨S1024x384, .f32⟩
  | 15 => ⟨S1024x384, .f32⟩
  | 16 => ⟨S1024x384, .f32⟩
  | 17 => ⟨S1024x3072, .f32⟩
  | 18 => ⟨S1024x8x2x24, .f32⟩
  | 19 => ⟨S_, .i32⟩
  | 20 => ⟨S_, .f32⟩
  | 21 => ⟨S1024x8x2x32, .f32⟩
  | 22 => ⟨S1024x512, .f32⟩
  | 23 => ⟨S1024x8x2x24, .f32⟩
  | 24 => ⟨S_, .i32⟩
  | 25 => ⟨S_, .f32⟩
  | 26 => ⟨S1024x8x2x32, .f32⟩
  | 27 => ⟨S1024x512, .f32⟩
  | 28 => ⟨S1024x4x96, .f32⟩
  | 29 => ⟨S_, .i32⟩
  | 30 => ⟨S_, .f32⟩
  | 31 => ⟨S1024x4x128, .f32⟩
  | 32 => ⟨S1024x512, .f32⟩
  | 33 => ⟨S1024x6528, .f32⟩
  | 34 => ⟨S_, .i32⟩
  | 35 => ⟨S_, .f32⟩
  | 36 => ⟨S1024x6656, .f32⟩
  | 37 => ⟨S1x3072, .f32⟩
  | 38 => ⟨S_, .i32⟩
  | 39 => ⟨S_, .f32⟩
  | 40 => ⟨S1x6656, .f32⟩
  | 41 => ⟨S_, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S4x1, .i32⟩
  | 49 => ⟨S4x1, .i32⟩
  | 50 => ⟨S4x2, .i32⟩
  | 51 => ⟨S_, .f32⟩
  | 52 => ⟨S4, .f32⟩
  | 53 => ⟨S1x6656, .f32⟩
  | 54 => ⟨S1024x6656, .bf16⟩
  | 55 => ⟨S32768x1024, .f32⟩
  | 56 => ⟨S32768x1024, .bf16⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4096, .f32⟩
  | 74 => ⟨S4096x1, .f32⟩
  | 75 => ⟨S1x32, .f32⟩
  | 76 => ⟨S4096x32, .f32⟩
  | 77 => ⟨S4096x32, .f32⟩
  | 78 => ⟨S4096x32, .f32⟩
  | 79 => ⟨S4096x32, .f32⟩
  | 80 => ⟨S4096x32, .f32⟩
  | 81 => ⟨S4096x64, .f32⟩
  | 82 => ⟨S1x4096x1x64, .f32⟩
  | 83 => ⟨S1x4096x2x64, .f32⟩
  | 84 => ⟨S4096x128, .f32⟩
  | 85 => ⟨S4096x32, .f32⟩
  | 86 => ⟨S4096x64, .f32⟩
  | 87 => ⟨S1x4096x1x64, .f32⟩
  | 88 => ⟨S1x4096x2x64, .f32⟩
  | 89 => ⟨S4096x128, .f32⟩
  | 90 => ⟨S24, .f32⟩
  | 91 => ⟨S_, .f32⟩
  | 92 => ⟨S24, .f32⟩
  | 93 => ⟨S24, .f32⟩
  | 94 => ⟨S_, .f32⟩
  | 95 => ⟨S24, .f32⟩
  | 96 => ⟨S24, .f32⟩
  | 97 => ⟨S_, .f32⟩
  | 98 => ⟨S24, .f32⟩
  | 99 => ⟨S24, .f32⟩
  | 100 => ⟨S_, .f32⟩
  | 101 => ⟨S24, .f32⟩
  | 102 => ⟨S24, .f32⟩
  | 103 => ⟨S_, .f32⟩
  | 104 => ⟨S24, .f32⟩
  | 105 => ⟨S24, .f32⟩
  | 106 => ⟨S4096, .f32⟩
  | 107 => ⟨S4096x1, .f32⟩
  | 108 => ⟨S1x24, .f32⟩
  | 109 => ⟨S4096x24, .f32⟩
  | 110 => ⟨S4096x24, .f32⟩
  | 111 => ⟨S4096x24, .f32⟩
  | 112 => ⟨S4096x24, .f32⟩
  | 113 => ⟨S4096x24, .f32⟩
  | 114 => ⟨S_, .f32⟩
  | 115 => ⟨S_, .f32⟩
  | 116 => ⟨S4096x32, .f32⟩
  | 117 => ⟨S_, .i32⟩
  | 118 => ⟨S_, .f32⟩
  | 119 => ⟨S4096x32, .f32⟩
  | 120 => ⟨S4096x64, .f32⟩
  | 121 => ⟨S1x4096x1x64, .f32⟩
  | 122 => ⟨S1x4096x2x64, .f32⟩
  | 123 => ⟨S4096x128, .f32⟩
  | 124 => ⟨S4096x32, .f32⟩
  | 125 => ⟨S4096x64, .f32⟩
  | 126 => ⟨S1x4096x1x64, .f32⟩
  | 127 => ⟨S1x4096x2x64, .f32⟩
  | _ => ⟨S8x4096x1024, .f32⟩

abbrev hbmTy0_1 (i : Nat) : BufTy := match i % 128 with
  | 0 => ⟨S4096x128, .f32⟩
  | 1 => ⟨S32768x6656, .bf16⟩
  | 2 => ⟨S32768x1152, .f32⟩
  | 3 => ⟨S_, .f32⟩
  | 4 => ⟨S_, .f32⟩
  | 5 => ⟨S96, .f32⟩
  | 6 => ⟨S96, .f32⟩
  | 7 => ⟨S1x96, .f32⟩
  | 8 => ⟨S_, .i32⟩
  | 9 => ⟨S_, .f32⟩
  | 10 => ⟨S1x128, .f32⟩
  | 11 => ⟨S8x4096x6656, .bf16⟩
  | 12 => ⟨S1, .f32⟩
  | 13 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x6656, .bf16⟩
  | .local _ .vmem, ⟨3, _⟩ => ⟨S1x6656, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x6656, .bf16⟩
  | .local _ .vmem, ⟨13, _⟩ => ⟨S512x6656, .bf16⟩
  | .local _ .vmem, ⟨14, _⟩ => ⟨S512x1152, .f32⟩
  | .local _ .vmem, ⟨15, _⟩ => ⟨S512x1152, .f32⟩
  | .local _ .vmem, ⟨16, _⟩ => ⟨S1x512x128, .bf16⟩
  | .local _ .vmem, ⟨17, _⟩ => ⟨S1x512x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S4x48, .f32⟩
  | .local _ .vmem, ⟨23, _⟩ => ⟨S1x128, .f32⟩
  | .local _ .vmem, ⟨24, _⟩ => ⟨S1x512x128, .bf16⟩
  | .local _ .vmem, ⟨25, _⟩ => ⟨S1x512x128, .bf16⟩
  | .local _ .smem, ⟨0, _⟩ => ⟨S1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call3_v0 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_call4_v0 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_call5_v0 : Ref sig .tc := ⟨.hbm, 115, rfl⟩
abbrev main_v83 : Ref sig .tc := ⟨.hbm, 116, rfl⟩
abbrev main_c_19 : Ref sig .tc := ⟨.hbm, 117, rfl⟩
abbrev main_call6_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94_0 : Ref sig .tc := ⟨.hbm, 129, rfl⟩
abbrev main_v94_1 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_call7_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x6656 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![8, 4, 8], ![false, false, false]⟩

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c39_i32 : BitVec 32 := 39#32
  let v0 : BitVec 32 := Scalar.addi c39_i32 arg1
  let c0_i32 : BitVec 32 := 0#32
  ![arg0.toNat, arg2.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c47_i32 : BitVec 32 := 47#32
  let v0 : BitVec 32 := Scalar.addi c47_i32 arg1
  let c0_i32 : BitVec 32 := 0#32
  let c0_i32_0 : BitVec 32 := 0#32
  ![arg0.toNat, c0_i32.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S4x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "inv96" => some ((1 / 96 : ℝ) : EReal)
  | "qscale" => some (((Real.sqrt 48)⁻¹ * (Real.log 2)⁻¹ : ℝ) : EReal)
  | _ => none
-- ==== ReferenceIdeal.lean ====
abbrev S8x4096x1024 : Shape := ⟨3, ![8, 4096, 1024]⟩
abbrev S1024x6144 : Shape := ⟨2, ![1024, 6144]⟩
abbrev S3072 : Shape := ⟨1, ![3072]⟩
abbrev S4x48 : Shape := ⟨2, ![4, 48]⟩
abbrev S96 : Shape := ⟨1, ![96]⟩
abbrev S_ : Shape := ⟨0, ![]⟩
abbrev S8x4096x6144 : Shape := ⟨3, ![8, 4096, 6144]⟩
abbrev S8x4096x256 : Shape := ⟨3, ![8, 4096, 256]⟩
abbrev S8x4096x384 : Shape := ⟨3, ![8, 4096, 384]⟩
abbrev S8x4096x3072 : Shape := ⟨3, ![8, 4096, 3072]⟩
abbrev S24 : Shape := ⟨1, ![24]⟩
abbrev S4096 : Shape := ⟨1, ![4096]⟩
abbrev S4096x1 : Shape := ⟨2, ![4096, 1]⟩
abbrev S1x24 : Shape := ⟨2, ![1, 24]⟩
abbrev S4096x24 : Shape := ⟨2, ![4096, 24]⟩
abbrev S1x48 : Shape := ⟨2, ![1, 48]⟩
abbrev S48 : Shape := ⟨1, ![48]⟩
abbrev S8x4096x4x2x48 : Shape := ⟨5, ![8, 4096, 4, 2, 48]⟩
abbrev S8x4x2x4096x48 : Shape := ⟨5, ![8, 4, 2, 4096, 48]⟩
abbrev S8x4x2x4096x24 : Shape := ⟨5, ![8, 4, 2, 4096, 24]⟩
abbrev S1x1x1x4096x24 : Shape := ⟨5, ![1, 1, 1, 4096, 24]⟩
abbrev S8x4096x4x96 : Shape := ⟨4, ![8, 4096, 4, 96]⟩
abbrev S8x4x4096x96 : Shape := ⟨4, ![8, 4, 4096, 96]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S1x1x1x96 : Shape := ⟨4, ![1, 1, 1, 96]⟩
abbrev S8x4096x4x128 : Shape := ⟨4, ![8, 4096, 4, 128]⟩
abbrev S8x4096x512 : Shape := ⟨3, ![8, 4096, 512]⟩

abbrev nBuf : Space → Nat
  | .hbm => 152
  | .vmem => 0
  | .smem => 0
  | _ => 0

abbrev hbmTy0_0 (i : Nat) : BufTy := match i % 128 with
  | 0 => ⟨S8x4096x1024, .f32⟩
  | 1 => ⟨S1024x6144, .f32⟩
  | 2 => ⟨S3072, .f32⟩
  | 3 => ⟨S4x48, .f32⟩
  | 4 => ⟨S96, .f32⟩
  | 5 => ⟨S_, .f32⟩
  | 6 => ⟨S8x4096x6144, .f32⟩
  | 7 => ⟨S8x4096x256, .f32⟩
  | 8 => ⟨S8x4096x256, .f32⟩
  | 9 => ⟨S8x4096x256, .f32⟩
  | 10 => ⟨S8x4096x384, .f32⟩
  | 11 => ⟨S8x4096x384, .f32⟩
  | 12 => ⟨S8x4096x384, .f32⟩
  | 13 => ⟨S8x4096x384, .f32⟩
  | 14 => ⟨S8x4096x384, .f32⟩
  | 15 => ⟨S8x4096x384, .f32⟩
  | 16 => ⟨S8x4096x3072, .f32⟩
  | 17 => ⟨S24, .f32⟩
  | 18 => ⟨S_, .f32⟩
  | 19 => ⟨S24, .f32⟩
  | 20 => ⟨S24, .f32⟩
  | 21 => ⟨S_, .f32⟩
  | 22 => ⟨S24, .f32⟩
  | 23 => ⟨S24, .f32⟩
  | 24 => ⟨S_, .f32⟩
  | 25 => ⟨S24, .f32⟩
  | 26 => ⟨S24, .f32⟩
  | 27 => ⟨S_, .f32⟩
  | 28 => ⟨S24, .f32⟩
  | 29 => ⟨S24, .f32⟩
  | 30 => ⟨S_, .f32⟩
  | 31 => ⟨S24, .f32⟩
  | 32 => ⟨S24, .f32⟩
  | 33 => ⟨S4096, .f32⟩
  | 34 => ⟨S4096x1, .f32⟩
  | 35 => ⟨S1x24, .f32⟩
  | 36 => ⟨S4096x24, .f32⟩
  | 37 => ⟨S4096x24, .f32⟩
  | 38 => ⟨S4096x24, .f32⟩
  | 39 => ⟨S4096x24, .f32⟩
  | 40 => ⟨S4096x24, .f32⟩
  | 41 => ⟨S1x48, .f32⟩
  | 42 => ⟨S48, .f32⟩
  | 43 => ⟨S1x48, .f32⟩
  | 44 => ⟨S48, .f32⟩
  | 45 => ⟨S48, .f32⟩
  | 46 => ⟨S_, .f32⟩
  | 47 => ⟨S_, .f32⟩
  | 48 => ⟨S_, .f32⟩
  | 49 => ⟨S1x48, .f32⟩
  | 50 => ⟨S48, .f32⟩
  | 51 => ⟨S1x48, .f32⟩
  | 52 => ⟨S48, .f32⟩
  | 53 => ⟨S48, .f32⟩
  | 54 => ⟨S_, .f32⟩
  | 55 => ⟨S_, .f32⟩
  | 56 => ⟨S_, .f32⟩
  | 57 => ⟨S_, .f32⟩
  | 58 => ⟨S_, .f32⟩
  | 59 => ⟨S8x4096x4x2x48, .f32⟩
  | 60 => ⟨S8x4x2x4096x48, .f32⟩
  | 61 => ⟨S8x4x2x4096x24, .f32⟩
  | 62 => ⟨S8x4x2x4096x24, .f32⟩
  | 63 => ⟨S1x1x1x4096x24, .f32⟩
  | 64 => ⟨S8x4x2x4096x24, .f32⟩
  | 65 => ⟨S8x4x2x4096x24, .f32⟩
  | 66 => ⟨S1x1x1x4096x24, .f32⟩
  | 67 => ⟨S8x4x2x4096x24, .f32⟩
  | 68 => ⟨S8x4x2x4096x24, .f32⟩
  | 69 => ⟨S8x4x2x4096x24, .f32⟩
  | 70 => ⟨S1x1x1x4096x24, .f32⟩
  | 71 => ⟨S8x4x2x4096x24, .f32⟩
  | 72 => ⟨S8x4x2x4096x24, .f32⟩
  | 73 => ⟨S1x1x1x4096x24, .f32⟩
  | 74 => ⟨S8x4x2x4096x24, .f32⟩
  | 75 => ⟨S8x4x2x4096x24, .f32⟩
  | 76 => ⟨S8x4x2x4096x24, .f32⟩
  | 77 => ⟨S8x4x2x4096x48, .f32⟩
  | 78 => ⟨S8x4096x4x2x48, .f32⟩
  | 79 => ⟨S8x4x2x4096x48, .f32⟩
  | 80 => ⟨S8x4x2x4096x24, .f32⟩
  | 81 => ⟨S8x4x2x4096x24, .f32⟩
  | 82 => ⟨S1x1x1x4096x24, .f32⟩
  | 83 => ⟨S8x4x2x4096x24, .f32⟩
  | 84 => ⟨S8x4x2x4096x24, .f32⟩
  | 85 => ⟨S1x1x1x4096x24, .f32⟩
  | 86 => ⟨S8x4x2x4096x24, .f32⟩
  | 87 => ⟨S8x4x2x4096x24, .f32⟩
  | 88 => ⟨S8x4x2x4096x24, .f32⟩
  | 89 => ⟨S1x1x1x4096x24, .f32⟩
  | 90 => ⟨S8x4x2x4096x24, .f32⟩
  | 91 => ⟨S8x4x2x4096x24, .f32⟩
  | 92 => ⟨S1x1x1x4096x24, .f32⟩
  | 93 => ⟨S8x4x2x4096x24, .f32⟩
  | 94 => ⟨S8x4x2x4096x24, .f32⟩
  | 95 => ⟨S8x4x2x4096x24, .f32⟩
  | 96 => ⟨S8x4x2x4096x48, .f32⟩
  | 97 => ⟨S8x4096x4x96, .f32⟩
  | 98 => ⟨S8x4x4096x96, .f32⟩
  | 99 => ⟨S8x4x2x4096x4096, .f32⟩
  | 100 => ⟨S_, .f32⟩
  | 101 => ⟨S_, .f32⟩
  | 102 => ⟨S8x4x2x4096x4096, .f32⟩
  | 103 => ⟨S8x4x2x4096x4096, .f32⟩
  | 104 => ⟨S_, .f32⟩
  | 105 => ⟨S8x4x2x4096, .f32⟩
  | 106 => ⟨S_, .f32⟩
  | 107 => ⟨S8x4x2x4096, .f32⟩
  | 108 => ⟨S8x4x2x4096, .f32⟩
  | 109 => ⟨S8x4x2x4096x1, .f32⟩
  | 110 => ⟨S8x4x2x4096x4096, .f32⟩
  | 111 => ⟨S8x4x2x4096x4096, .f32⟩
  | 112 => ⟨S8x4x2x4096x4096, .f32⟩
  | 113 => ⟨S_, .f32⟩
  | 114 => ⟨S8x4x2x4096, .f32⟩
  | 115 => ⟨S8x4x2x4096x1, .f32⟩
  | 116 => ⟨S8x4x2x4096x4096, .f32⟩
  | 117 => ⟨S8x4x2x4096x4096, .f32⟩
  | 118 => ⟨S8x4x1x4096x4096, .f32⟩
  | 119 => ⟨S8x4x4096x4096, .f32⟩
  | 120 => ⟨S8x4x1x4096x4096, .f32⟩
  | 121 => ⟨S8x4x4096x4096, .f32⟩
  | 122 => ⟨S8x4x4096x4096, .f32⟩
  | 123 => ⟨S8x4x4096x4096, .f32⟩
  | 124 => ⟨S8x4x4096x4096, .f32⟩
  | 125 => ⟨S8x4x4096x96, .f32⟩
  | 126 => ⟨S8x4x4096x96, .f32⟩
  | 127 => ⟨S_, .f32⟩
  | _ => ⟨S8x4096x1024, .f32⟩

abbrev hbmTy0_1 (i : Nat) : BufTy := match i % 128 with
  | 0 => ⟨S8x4x4096, .f32⟩
  | 1 => ⟨S8x4x4096x1, .f32⟩
  | 2 => ⟨S_, .f32⟩
  | 3 => ⟨S8x4x4096x1, .f32⟩
  | 4 => ⟨S8x4x4096x1, .f32⟩
  | 5 => ⟨S_, .f32⟩
  | 6 => ⟨S8x4x4096x1, .f32⟩
  | 7 => ⟨S8x4x4096x1, .f32⟩
  | 8 => ⟨S8x4x4096x1, .f32⟩
  | 9 => ⟨S8x4x4096x96, .f32⟩
  | 10 => ⟨S8x4x4096x96, .f32⟩
  | 11 => ⟨S1x1x1x96, .f32⟩
  | 12 => ⟨S8x4x4096x96, .f32⟩
  | 13 => ⟨S8x4x4096x96, .f32⟩
  | 14 => ⟨S_, .f32⟩
  | 15 => ⟨S_, .f32⟩
  | 16 => ⟨S8x4x4096x96, .f32⟩
  | 17 => ⟨S8x4x4096x96, .f32⟩
  | 18 => ⟨S8x4096x4x96, .f32⟩
  | 19 => ⟨S_, .i32⟩
  | 20 => ⟨S_, .f32⟩
  | 21 => ⟨S8x4096x4x128, .f32⟩
  | 22 => ⟨S8x4096x512, .f32⟩
  | 23 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_6 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_cst_8 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_9 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_10 : Ref sig .tc := ⟨.hbm, 127, rfl⟩
abbrev main_v110 : Ref sig .tc := ⟨.hbm, 128, rfl⟩
abbrev main_v111 : Ref sig .tc := ⟨.hbm, 129, rfl⟩
abbrev main_cst_11 : Ref sig .tc := ⟨.hbm, 130, rfl⟩
abbrev main_v112 : Ref sig .tc := ⟨.hbm, 131, rfl⟩
abbrev main_v113 : Ref sig .tc := ⟨.hbm, 132, rfl⟩
abbrev main_cst_12 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_13 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_c : Ref sig .tc := ⟨.hbm, 147, rfl⟩
abbrev main_call0_v0 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S1179648x128 : Shape := ⟨2, ![1179648, 128]⟩
abbrev S4x32x1024x1024 : Shape := ⟨4, ![4, 32, 1024, 1024]⟩
abbrev S4x32x1x1024 : Shape := ⟨4, ![4, 32, 1, 1024]⟩
abbrev S4096x128 : Shape := ⟨2, ![4096, 128]⟩
abbrev S1x1x1024x1024 : Shape := ⟨4, ![1, 1, 1024, 1024]⟩
abbrev S1x1x1x1024 : Shape := ⟨4, ![1, 1, 1, 1024]⟩
abbrev S1024x1024 : Shape := ⟨2, ![1024, 1024]⟩
abbrev S512x1024 : Shape := ⟨2, ![512, 1024]⟩
abbrev S512x128 : Shape := ⟨2, ![512, 128]⟩
abbrev S1x1024 : Shape := ⟨2, ![1, 1024]⟩
abbrev S1024x512 : Shape := ⟨2, ![1024, 512]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 8
  | .vmem => 20
  | .smem => 3
  | _ => 0

abbrev bufTy : (tb : Table) → Fin (tcTables nBuf tb) → BufTy
  | .hbm, ⟨0, _⟩ => ⟨S1179648x128, .f32⟩
  | .hbm, ⟨1, _⟩ => ⟨S4x32x1024x1024, .f32⟩
  | .hbm, ⟨2, _⟩ => ⟨S4x32x1x1024, .f32⟩
  | .hbm, ⟨3, _⟩ => ⟨S4x32x1024x1024, .f32⟩
  | .hbm, ⟨4, _⟩ => ⟨S4x32x1x1024, .f32⟩
  | .hbm, ⟨5, _⟩ => ⟨S4x32x1024x1024, .f32⟩
  | .hbm, ⟨6, _⟩ => ⟨S4x32x1x1024, .f32⟩
  | .hbm, ⟨7, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S4096x128, .f32⟩
  | .local _ .vmem, ⟨15, _⟩ => ⟨S4096x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S288 : Shape := ⟨1, ![288]⟩
abbrev S1 : Shape := ⟨1, ![1]⟩
abbrev S1179648x128 : Shape := ⟨2, ![1179648, 128]⟩
abbrev S4x32x1024x1024 : Shape := ⟨4, ![4, 32, 1024, 1024]⟩
abbrev S4x32x1x1024 : Shape := ⟨4, ![4, 32, 1, 1024]⟩
abbrev S288x512x1024 : Shape := ⟨3, ![288, 512, 1024]⟩
abbrev S_ : Shape := ⟨0, ![]⟩
abbrev S288x1 : Shape := ⟨2, ![288, 1]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x1x1 : Shape := ⟨3, ![288, 1, 1]⟩

abbrev nBuf : Space → Nat
  | .hbm => 133
  | .vmem => 0
  | .smem => 0
  | _ => 0

abbrev hbmTy0_0 (i : Nat) : BufTy := match i % 128 with
  | 0 => ⟨S288, .i32⟩
  | 1 => ⟨S288, .i32⟩
  | 2 => ⟨S1, .i32⟩
  | 3 => ⟨S1179648x128, .f32⟩
  | 4 => ⟨S4x32x1024x1024, .f32⟩
  | 5 => ⟨S4x32x1x1024, .f32⟩
  | 6 => ⟨S4x32x1024x1024, .f32⟩
  | 7 => ⟨S4x32x1x1024, .f32⟩
  | 8 => ⟨S4x32x1024x1024, .f32⟩
  | 9 => ⟨S4x32x1x1024, .f32⟩
  | 10 => ⟨S288x512x1024, .f32⟩
  | 11 => ⟨S_, .i32⟩
  | 12 => ⟨S288, .i32⟩
  | 13 => ⟨S288, .i1⟩
  | 14 => ⟨S_, .i32⟩
  | 15 => ⟨S288, .i32⟩
  | 16 => ⟨S288, .i32⟩
  | 17 => ⟨S288, .i32⟩
  | 18 => ⟨S288x1, .i32⟩
  | 19 => ⟨S288x512x1024, .f32⟩
  | 20 => ⟨S1x32x1024x1024, .f32⟩
  | 21 => ⟨S32x1024x1024, .f32⟩
  | 22 => ⟨S_, .i32⟩
  | 23 => ⟨S288, .i32⟩
  | 24 => ⟨S288, .i1⟩
  | 25 => ⟨S_, .i32⟩
  | 26 => ⟨S288, .i32⟩
  | 27 => ⟨S288, .i32⟩
  | 28 => ⟨S288, .i32⟩
  | 29 => ⟨S288x1, .i32⟩
  | 30 => ⟨S288x1024x1024, .f32⟩
  | 31 => ⟨S1x32x1x1024, .f32⟩
  | 32 => ⟨S32x1x1024, .f32⟩
  | 33 => ⟨S_, .i32⟩
  | 34 => ⟨S288, .i32⟩
  | 35 => ⟨S288, .i1⟩
  | 36 => ⟨S_, .i32⟩
  | 37 => ⟨S288, .i32⟩
  | 38 => ⟨S288, .i32⟩
  | 39 => ⟨S288, .i32⟩
  | 40 => ⟨S288x1, .i32⟩
  | 41 => ⟨S288x1x1024, .f32⟩
  | 42 => ⟨S1x32x1024x1024, .f32⟩
  | 43 => ⟨S32x1024x1024, .f32⟩
  | 44 => ⟨S_, .i32⟩
  | 45 => ⟨S288, .i32⟩
  | 46 => ⟨S288, .i1⟩
  | 47 => ⟨S_, .i32⟩
  | 48 => ⟨S288, .i32⟩
  | 49 => ⟨S288, .i32⟩
  | 50 => ⟨S288, .i32⟩
  | 51 => ⟨S288x1, .i32⟩
  | 52 => ⟨S288x1024x1024, .f32⟩
  | 53 => ⟨S1x32x1x1024, .f32⟩
  | 54 => ⟨S32x1x1024, .f32⟩
  | 55 => ⟨S_, .i32⟩
  | 56 => ⟨S288, .i32⟩
  | 57 => ⟨S288, .i1⟩
  | 58 => ⟨S_, .i32⟩
  | 59 => ⟨S288, .i32⟩
  | 60 => ⟨S288, .i32⟩
  | 61 => ⟨S288, .i32⟩
  | 62 => ⟨S288x1, .i32⟩
  | 63 => ⟨S288x1x1024, .f32⟩
  | 64 => ⟨S1x32x1024x1024, .f32⟩
  | 65 => ⟨S32x1024x1024, .f32⟩
  | 66 => ⟨S_, .i32⟩
  | 67 => ⟨S288, .i32⟩
  | 68 => ⟨S288, .i1⟩
  | 69 => ⟨S_, .i32⟩
  | 70 => ⟨S288, .i32⟩
  | 71 => ⟨S288, .i32⟩
  | 72 => ⟨S288, .i32⟩
  | 73 => ⟨S288x1, .i32⟩
  | 74 => ⟨S288x1024x1024, .f32⟩
  | 75 => ⟨S1x32x1x1024, .f32⟩
  | 76 => ⟨S32x1x1024, .f32⟩
  | 77 => ⟨S_, .i32⟩
  | 78 => ⟨S288, .i32⟩
  | 79 => ⟨S288, .i1⟩
  | 80 => ⟨S_, .i32⟩
  | 81 => ⟨S288, .i32⟩
  | 82 => ⟨S288, .i32⟩
  | 83 => ⟨S288, .i32⟩
  | 84 => ⟨S288x1, .i32⟩
  | 85 => ⟨S288x1x1024, .f32⟩
  | 86 => ⟨S288x512x1024, .f32⟩
  | 87 => ⟨S288x512x1024, .f32⟩
  | 88 => ⟨S288x512x1024, .f32⟩
  | 89 => ⟨S_, .f32⟩
  | 90 => ⟨S288x512x1024, .f32⟩
  | 91 => ⟨S288x512x1024, .f32⟩
  | 92 => ⟨S288x512x1024, .f32⟩
  | 93 => ⟨S288x512x1024, .f32⟩
  | 94 => ⟨S288x512x1024, .f32⟩
  | 95 => ⟨S_, .f32⟩
  | 96 => ⟨S_, .f32⟩
  | 97 => ⟨S_, .f32⟩
  | 98 => ⟨S288x512x1024, .f32⟩
  | 99 => ⟨S288x512x1024, .f32⟩
  | 100 => ⟨S_, .f32⟩
  | 101 => ⟨S288x512x1024, .f32⟩
  | 102 => ⟨S288x512x1024, .f32⟩
  | 103 => ⟨S_, .f32⟩
  | 104 => ⟨S288x512x1024, .f32⟩
  | 105 => ⟨S288x512x1024, .f32⟩
  | 106 => ⟨S288x512x1024, .f32⟩
  | 107 => ⟨S288x512x1024, .f32⟩
  | 108 => ⟨S_, .f32⟩
  | 109 => ⟨S288x512x1024, .f32⟩
  | 110 => ⟨S288x512x1024, .f32⟩
  | 111 => ⟨S_, .f32⟩
  | 112 => ⟨S288x512x1024, .f32⟩
  | 113 => ⟨S288x512x1024, .f32⟩
  | 114 => ⟨S288x512x1024, .f32⟩
  | 115 => ⟨S_, .f32⟩
  | 116 => ⟨S288x512x1024, .f32⟩
  | 117 => ⟨S288x512x1024, .f32⟩
  | 118 => ⟨S288x512x1024, .f32⟩
  | 119 => ⟨S288x512x1024, .f32⟩
  | 120 => ⟨S288x512x1024, .f32⟩
  | 121 => ⟨S288x512x1024, .f32⟩
  | 122 => ⟨S288, .i32⟩
  | 123 => ⟨S_, .i32⟩
  | 124 => ⟨S288, .i32⟩
  | 125 => ⟨S288, .i1⟩
  | 126 => ⟨S288x1x1, .i1⟩
  | 127 => ⟨S_, .f32⟩
  | _ => ⟨S288, .i32⟩

abbrev hbmTy0_1 (i : Nat) : BufTy := match i % 128 with
  | 0 => ⟨S_, .f32⟩
  | 1 => ⟨S288x512x1024, .i1⟩
  | 2 => ⟨S288x512x1024, .f32⟩
  | 3 => ⟨S288x512x1024, .f32⟩
  | 4 => ⟨S1179648x128, .f32⟩
  | _ => ⟨S288, .i32⟩

abbrev hbmTy (i : Nat) : BufTy := match i / 128 with
  | 0 => hbmTy0_0 i
  | 1 => hbmTy0_1 i
  | _ => ⟨S288, .i32⟩

abbrev bufTy : (tb : Table) → Fin (tcTables nBuf tb) → BufTy
  | .hbm, ⟨i, _⟩ => hbmTy i
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_cst_14 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Proof.Payload.lean ====
/- The attention kernel's stored block, read at an index: scores, weights, the two maps' outputs and the head norm as
   sums over lanes and keys. -/
module

public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

/-- The reciprocal of the head width, by which the norm's sum of squares is multiplied. -/
def inv96 : EReal := ((1 / 96 : ℝ) : EReal)

theorem inv96_named : Named.named (F := Ideal) (φ := .f32) κ "inv96" 0x3C2AAAAB#32 = inv96 :=
  IdealRules.named_const.ideal_named_scalar _ _ _ _ rfl

/-- The score of a row of queries against a key: the product over the 64 lanes from `o`. -/
def scoreVal (q : Vec Ideal S1x512x128 .bf16) (k : Vec Ideal S1x4096x128 .bf16) (o : ℕ) (ho : o ≤ 64) (r : Fin 512) (t : Fin 4096) : EReal :=
  ∑ x : Fin 64, @HMul.hMul EReal EReal EReal _ (q (ix3 0 r ⟨o + x.val, by omega⟩)) (k (ix3 0 t ⟨o + x.val, by omega⟩))

/-- A map's output: the exponentials in base 2 of the scores less their maximum, against the values, over their sum. -/
def mapVal (s : Fin 4096 → EReal) (v w : Fin 4096 → EReal) : EReal :=
  Ideal.div (∑ t : Fin 4096, FloatOps.exp2 (F := Ideal) (φ := .f32) (s t - Finset.fold max (Ideal.ofBits .f32 4286578688#32) s Finset.univ) * v t)
    (∑ t : Fin 4096, FloatOps.exp2 (F := Ideal) (φ := .f32) (s t - Finset.fold max (Ideal.ofBits .f32 4286578688#32) s Finset.univ) * w t)

/-- λ from its four vectors and the layer's constant. -/
def lamVal (L : Vec Ideal S4x48 .f32) (li : EReal) : EReal :=
  Ideal.exp (∑ x : Fin 48, @HMul.hMul EReal EReal EReal _ (L (ix2 0 x)) (L (ix2 1 x)))
    - Ideal.exp (∑ x : Fin 48, @HMul.hMul EReal EReal EReal _ (L (ix2 2 x)) (L (ix2 3 x))) + li

/-- Lambda at its only index: the exponentials of the two lane products, and the layer's constant. -/
theorem lam_apply (L : Vec Ideal S4x48 .f32) (li : Elt Ideal .f32) (a b : Fin 1) :
    k1_pay2 (F := Ideal) L li (ix2 a b) = lamVal L li := by
  pointwise [k1_pay2]
  rfl

theorem score1_apply (q : Vec Ideal S1x512x128 .bf16) (k : Vec Ideal S1x4096x128 .bf16) (r : Fin 512) (t : Fin 4096) :
    k1_pay6 (F := Ideal) q k (ix2 r t) = scoreVal q k 64 le_rfl r t := by
  pointwise [k1_pay6, k1_pay3, k1_pay4]
  rfl

theorem v_apply (v : Vec Ideal S1x4096x128 .bf16) (t : Fin 4096) (l : Fin 128) :
    k1_pay5 (F := Ideal) v (ix2 t l) = v (ix3 0 t l) := by
  pointwise [k1_pay5]

theorem map0_apply (q : Vec Ideal S1x512x128 .bf16) (k v : Vec Ideal S1x4096x128 .bf16) (r : Fin 512) (l : Fin 128) :
    k1_pay7 (F := Ideal) q k v (ix2 r l) = mapVal (fun t => scoreVal q k 0 (by omega) r t) (fun t => v (ix3 0 t l)) (fun t => v (ix3 0 t ⟨96, by omega⟩)) := by
  have e : ∀ x : Fin 64, (⟨x.val, by omega⟩ : Fin 128) = ⟨0 + x.val, by omega⟩ := fun x => Fin.ext (by simp)
  pointwise [k1_pay7, k1_pay3, k1_pay4, k1_pay5]
  simp only [e]
  rfl

/-- Whether a lane is one of the head's 96. -/
theorem sel96 (l : Fin 128) (a b : EReal) : Scalar.select (IntOp.cmpi .slt (BitVec.ofNat 32 l.val) 96#32) a b = if l.val < 96 then a else b := by
  have h : ∀ l : Fin 128, IntOp.cmpi .slt (BitVec.ofNat 32 l.val) 96#32 = BitVec.ofBool (decide (l.val < 96)) := by decide +kernel
  rw [h l]
  by_cases hl : l.val < 96
  · rw [if_pos hl, decide_eq_true hl]; rfl
  · rw [if_neg hl, decide_eq_false hl]; rfl

/-- The head norm of a row of differences. -/
def normVal (D : Fin 128 → EReal) (g : EReal) (l : Fin 128) : EReal :=
  if l.val < 96 then D l * Ideal.rsqrt ((∑ x : Fin 128, if x.val < 96 then D x * D x else 0) * inv96 + Ideal.ofBits .f32 925353388#32) * g else 0

theorem out_apply (lam : FVec Ideal S1x1 .f32) (v : FVec Ideal S4096x128 .bf16) (s : FVec Ideal S512x4096 .f32)
    (o : FVec Ideal S512x128 .f32) (g : Vec Ideal S1x128 .f32) (a : Fin 1) (r : Fin 512) (l : Fin 128) :
    k1_pay1 (F := Ideal) lam v s o g (ix3 a r l)
      = normVal (fun x => @HSub.hSub EReal EReal EReal _ (o (ix2 r x)) (@HMul.hMul EReal EReal EReal _ (lam (ix2 0 0))
          (mapVal (fun t => s (ix2 r t)) (fun t => v (ix2 t x)) (fun t => v (ix2 t ⟨96, by omega⟩))))) (g (ix2 0 l)) l := by
  have nest : ∀ (p : Prop) [Decidable p] (a b : EReal), (if p then (if p then a else b) else b) = if p then a else b := by
    intro p _ a b
    split <;> rfl
  pointwise [k1_pay1]
  simp only [sel96, inv96_named, nest]
  rfl

end Cert.Attn

end
-- ==== Proof.Block0.lean ====
/- What the in-projection's grid point leaves in the columns of the differential attention's heads: rotated queries
   (scaled), rotated keys, and values with their bias lane. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attn

open Idealize.ShloMosaic Cert.KernelIdeal Cert.KernelIdeal.Gen

/-- The factor on the scaled queries: one over the root of a head's size, times one over the logarithm of 2. -/
def qscale : EReal := (((Real.sqrt 48)⁻¹ * (Real.log 2)⁻¹ : ℝ) : EReal)

theorem qscale_named : Named.named (F := Ideal) (φ := .f32) κ "qscale" 0x3E553B95#32 = qscale :=
  IdealRules.named_const.ideal_named_scalar _ _ _ _ rfl

/-- The lane from which a rotation takes its partner: the other half of a head of 64 lanes. -/
def part (l : Fin 128) : Fin 128 := if l.val % 64 < 32 then ⟨(l.val + 32) % 128, by omega⟩ else ⟨(l.val + 96) % 128, by omega⟩

theorem part_pos (l : Fin 128) (h : l.val % 64 < 32) : (part l).val = (l.val + 32) % 128 := by unfold part; rw [if_pos h]

theorem part_neg (l : Fin 128) (h : ¬ l.val % 64 < 32) : (part l).val = (l.val + 96) % 128 := by unfold part; rw [if_neg h]

/-- One element of the product of the block's rows with the weights. -/
def proj (x0 : Vec Ideal S512x1024 .bf16) (x1 : Vec Ideal S1024x6656 .bf16) (r : Fin 512) (n : Fin 6656) : EReal :=
  ∑ k : Fin 1024, x0 (ix2 r k) * x1 (ix2 k n)

/-- One element of the rotated product: the lane times its cosine and the partner lane times its signed sine. -/
def ropeVal (x0 : Vec Ideal S512x1024 .bf16) (x1 : Vec Ideal S1024x6656 .bf16) (x5 x6 : Vec Ideal S512x128 .f32)
    (r : Fin 512) (n n' : Fin 6656) (l : Fin 128) : EReal :=
  proj x0 x1 r n * x5 (ix2 r l) + proj x0 x1 r n' * x6 (ix2 r l)

/-- A choice by a bit that says in which half of its head the lane lies. -/
theorem select_half (c : BitVec 1) (l : Fin 128) (a b v : EReal) (hc : c = BitVec.ofBool (decide (l.val % 64 < 32)))
    (h1 : l.val % 64 < 32 → a = v) (h2 : ¬ l.val % 64 < 32 → b = v) : Scalar.select c a b = v := by
  by_cases h : l.val % 64 < 32
  · rw [hc]; simp only [h, decide_true]; exact h1 h
  · rw [hc]; simp only [h, decide_false]; exact h2 h

theorem proj_congr (x0 : Vec Ideal S512x1024 .bf16) (x1 : Vec Ideal S1024x6656 .bf16) (r : Fin 512) (f : Fin 1024 → Fin 6656) (n : Fin 6656)
    (h : ∀ k, (f k).val = n.val) : ∑ k : Fin 1024, x0 (ix2 r k) * x1 (ix2 k (f k)) = proj x0 x1 r n := by
  unfold proj
  exact Finset.sum_congr rfl fun k _ => by rw [Fin.ext (h k)]

/-- The columns from 4992: head 0's rotated queries, scaled. -/
theorem block_q0 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 4992 + l.val) :
    out0_7 (F := Ideal) x0 x1 x2 x3 x4 x5 x6 y
      = ropeVal x0 x1 x5 x6 r ⟨4992 + l.val, by omega⟩ ⟨4992 + (part l).val, by omega⟩ l * qscale := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal
  rw [qscale_named]
  refine congrArg (· * _) ?_
  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5120: head 1's rotated queries, scaled. -/
theorem block_q1 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5120 + l.val) :
    out0_7 (F := Ideal) x0 x1 x2 x3 x4 x5 x6 y
      = ropeVal x0 x1 x5 x6 r ⟨5120 + l.val, by omega⟩ ⟨5120 + (part l).val, by omega⟩ l * qscale := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal
  rw [qscale_named]
  refine congrArg (· * _) ?_
  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5248: head 2's rotated queries, scaled. -/
theorem block_q2 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5248 + l.val) :
    out0_7 (F := Ideal) x0 x1 x2 x3 x4 x5 x6 y
      = ropeVal x0 x1 x5 x6 r ⟨5248 + l.val, by omega⟩ ⟨5248 + (part l).val, by omega⟩ l * qscale := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal
  rw [qscale_named]
  refine congrArg (· * _) ?_
  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5376: head 3's rotated queries, scaled. -/
theorem block_q3 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5376 + l.val) :
    out0_7 (F := Ideal) x0 x1 x2 x3 x4 x5 x6 y
      = ropeVal x0 x1 x5 x6 r ⟨5376 + l.val, by omega⟩ ⟨5376 + (part l).val, by omega⟩ l * qscale := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal
  rw [qscale_named]
  refine congrArg (· * _) ?_
  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5504: head 0's rotated keys. -/
theorem block_k0 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5504 + l.val) :
    out0_7 (F := Ideal) x0 x1 x2 x3 x4 x5 x6 y
      = ropeVal x0 x1 x5 x6 r ⟨5504 + l.val, by omega⟩ ⟨5504 + (part l).val, by omega⟩ l := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal

  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5632: head 1's rotated keys. -/
theorem block_k1 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5632 + l.val) :
    out0_7 (F := Ideal) x0 x1 x2 x3 x4 x5 x6 y
      = ropeVal x0 x1 x5 x6 r ⟨5632 + l.val, by omega⟩ ⟨5632 + (part l).val, by omega⟩ l := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal

  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5760: head 2's rotated keys. -/
theorem block_k2 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5760 + l.val) :
    out0_7 (F := Ideal) x0 x1 x2 x3 x4 x5 x6 y
      = ropeVal x0 x1 x5 x6 r ⟨5760 + l.val, by omega⟩ ⟨5760 + (part l).val, by omega⟩ l := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal

  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 5888: head 3's rotated keys. -/
theorem block_k3 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 5888 + l.val) :
    out0_7 (F := Ideal) x0 x1 x2 x3 x4 x5 x6 y
      = ropeVal x0 x1 x5 x6 r ⟨5888 + l.val, by omega⟩ ⟨5888 + (part l).val, by omega⟩ l := by
  have hl := l.isLt
  unfold out0_7
  canon_tiles x h
  all_goals try (exfalso; omega)
  obtain rfl : x = ix2 r l := by
    rw [eq_ix2 x]; congr 1 <;> apply Fin.ext <;> omega
  unfold_payloads
  pointwise []
  unfold ropeVal

  refine congr (congrArg (fun a b : EReal => a + b) ?_) ?_
  · exact congrArg (· * _) (proj_congr _ _ _ _ _ fun k => by first | rfl | (simp only []; omega))
  · refine congrArg (· * _) (select_half _ l _ _ _ ?_ ?_ ?_)
    · clear * -; revert l; decide +kernel
    · intro h; exact proj_congr _ _ _ _ _ fun k => by have e := part_pos l h; simp only []; omega
    · intro h; exact proj_congr _ _ _ _ _ fun k => by have e := part_neg l h; simp only []; omega

/-- The columns from 6016: head 0's values and its bias lane. -/
theorem block_v0 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 6016 + l.val) :
    out0_7 (F := Ideal) x0 x1 x2 x3 x4 x5 x6 y
      = proj x0 x1 r ⟨6016 + l.val, by omega⟩ + x2 (ix2 0 ⟨6016 + l.val, by omega⟩) := by
  have hl := l.isLt
  unfold out0_7
  canon_tiles x h
  all_goals try (exfalso; omega)
  obtain rfl : x = ix2 r l := by
    rw [eq_ix2 x]; congr 1 <;> apply Fin.ext <;> omega
  unfold_payloads
  pointwise []
  refine congrArg (· + _) (proj_congr _ _ _ _ _ fun k => by first | rfl | (simp only []; omega))

/-- The columns from 6144: head 1's values and its bias lane. -/
theorem block_v1 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 6144 + l.val) :
    out0_7 (F := Ideal) x0 x1 x2 x3 x4 x5 x6 y
      = proj x0 x1 r ⟨6144 + l.val, by omega⟩ + x2 (ix2 0 ⟨6144 + l.val, by omega⟩) := by
  have hl := l.isLt
  unfold out0_7
  canon_tiles x h
  all_goals try (exfalso; omega)
  obtain rfl : x = ix2 r l := by
    rw [eq_ix2 x]; congr 1 <;> apply Fin.ext <;> omega
  unfold_payloads
  pointwise []
  refine congrArg (· + _) (proj_congr _ _ _ _ _ fun k => by first | rfl | (simp only []; omega))

/-- The columns from 6272: head 2's values and its bias lane. -/
theorem block_v2 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 6272 + l.val) :
    out0_7 (F := Ideal) x0 x1 x2 x3 x4 x5 x6 y
      = proj x0 x1 r ⟨6272 + l.val, by omega⟩ + x2 (ix2 0 ⟨6272 + l.val, by omega⟩) := by
  have hl := l.isLt
  unfold out0_7
  canon_tiles x h
  all_goals try (exfalso; omega)
  obtain rfl : x = ix2 r l := by
    rw [eq_ix2 x]; congr 1 <;> apply Fin.ext <;> omega
  unfold_payloads
  pointwise []
  refine congrArg (· + _) (proj_congr _ _ _ _ _ fun k => by first | rfl | (simp only []; omega))

/-- The columns from 6400: head 3's values and its bias lane. -/
theorem block_v3 (x0 : Vec Ideal S512x1024 .bf16) (x1 : Vec Ideal S1024x6656 .bf16) (x2 : Vec Ideal S1x6656 .f32) (x3 x4 x5 x6 : Vec Ideal S512x128 .f32)
    (y : S512x6656.Idx) (r : Fin 512) (l : Fin 128) (hy0 : (y 0).val = r.val) (hy1 : (y 1).val = 6400 + l.val) :
    out0_7 (F := Ideal) x0 x1 x2 x3 x4 x5 x6 y
      = proj x0 x1 r ⟨6400 + l.val, by omega⟩ + x2 (ix2 0 ⟨6400 + l.val, by omega⟩) := by
  have hl := l.isLt
  unfold out0_7
  canon_tiles x h
  all_goals try (exfalso; omega)
  obtain rfl : x = ix2 r l := by
    rw [eq_ix2 x]; congr 1 <;> apply Fin.ext <;> omega
  unfold_payloads
  pointwise []
  refine congrArg (· + _) (proj_congr _ _ _ _ _ fun k => by first | rfl | (simp only []; omega))

end Cert.Attn

end
-- ==== Proof.HostW.lean ====
/- The weights, the rows and the tables that the in-projection is launched with, read at an index as elements of the
   arguments. -/
module

public import proofs.«01_k».proof.Proof.Gen.KernelIdeal.Frame
public import Idealize.ShloMosaic.Lib.Pointwise
public import Idealize.ShloMosaic.Lib.StableHlo.ReadAt
public import Idealize.ShloMosaic.Lib.KernelVsHost

@[expose] public section

set_option maxRecDepth 16384

noncomputable section

namespace Cert.Attn

open Idealize.ShloMosaic Idealize.ShloMosaic.TcCoe Idealize.SL.Sem Cert.KernelIdeal Cert.KernelIdeal.Gen

/-- The real value the integer 0 converts to is 0. -/
theorem zero_conv : FloatOps.sitofp (F := Ideal) FTy.f32 (0#32) = (0 : EReal) := by
  show (((0#32 : BitVec 32).toInt : ℝ) : EReal) = 0
  simp

section Stage
variable (W : Valuation τ sig (Elt Ideal))

theorem s6 (k : Fin 1024) (h : Fin 8) (c : Fin 2) (j : Fin 24) :
    @Eq EReal ((StableHlo.after hostOps0 W (Proc.devRef .tc main_v10) : Vec Ideal S1024x8x2x24 .f32) (ix4 k h c j))
      ((W (Proc.devRef .tc main_arg1) : Vec Ideal S1024x6144 .f32) (ix2 k ⟨1920 + (h.val * 48 + c.val * 24 + j.val), by omega⟩)) := by
  after_reads_at

theorem s7 (k : Fin 1024) (n : Fin 384) :
    @Eq EReal ((StableHlo.after hostOps0 W (Proc.devRef .tc main_v7) : Vec Ideal S1024x384 .f32) (ix2 k n))
      ((W (Proc.devRef .tc main_arg1) : Vec Ideal S1024x6144 .f32) (ix2 k ⟨2304 + n.val, by omega⟩)) := by
  after_reads_at

theorem s8 (k : Fin 1024) (n : Fin 384) :
    @Eq EReal ((StableHlo.after hostOps0 W (Proc.devRef .tc main_v8) : Vec Ideal S1024x384 .f32) (ix2 k n))
      ((W (Proc.devRef .tc main_arg1) : Vec Ideal S1024x6144 .f32) (ix2 k ⟨2688 + n.val, by omega⟩)) := by
  after_reads_at

theorem sc1 : (StableHlo.after hostOps0 W (Proc.devRef .tc main_c_1) : IVec S_ 32) = fun _ => 0#32 := by
  funext i
  after_reads_at

theorem s11 (k : Fin 1024) (h : Fin 8) (c : Fin 2) (j : Fin 32) (h0 : (W (Proc.devRef .tc main_c_1) : IVec S_ 32) = fun _ => 0#32) :
    @Eq EReal ((StableHlo.after hostOps0_1 W (Proc.devRef .tc main_v11) : Vec Ideal S1024x8x2x32 .f32) (ix4 k h c j))
      (if h' : j.val < 24 then (W (Proc.devRef .tc main_v10) : Vec Ideal S1024x8x2x24 .f32) (ix4 k h c ⟨j.val, h'⟩) else 0) := by
  after_reads_at
  rw [h0]
  simp only [zero_conv]

theorem s12 (k : Fin 1024) (n : Fin 512) :
    @Eq EReal ((StableHlo.after hostOps0_2 W (Proc.devRef .tc main_v12) : Vec Ideal S1024x512 .f32) (ix2 k n))
      ((W (Proc.devRef .tc main_v11) : Vec Ideal S1024x8x2x32 .f32) (ix4 k ⟨n.val / 64, by omega⟩ ⟨n.val % 64 / 32, by omega⟩ ⟨n.val % 32, by omega⟩)) := by
  after_reads_at
  refine congrArg _ (congrArg (fun c => ix4 _ _ c _) (Fin.ext ?_))
  simp only []
  omega

theorem s13 (k : Fin 1024) (h : Fin 8) (c : Fin 2) (j : Fin 24) :
    @Eq EReal ((StableHlo.after hostOps0_2 W (Proc.devRef .tc main_v13) : Vec Ideal S1024x8x2x24 .f32) (ix4 k h c j))
      ((W (Proc.devRef .tc main_v7) : Vec Ideal S1024x384 .f32) (ix2 k ⟨h.val * 48 + c.val * 24 + j.val, by omega⟩)) := by
  after_reads_at

theorem sc2 : (StableHlo.after hostOps0_2 W (Proc.devRef .tc main_c_2) : IVec S_ 32) = fun _ => 0#32 := by
  funext i
  after_reads_at

theorem s14 (k : Fin 1024) (h : Fin 8) (c : Fin 2) (j : Fin 32) (h0 : (W (Proc.devRef .tc main_c_2) : IVec S_ 32) = fun _ => 0#32) :
    @Eq EReal ((StableHlo.after hostOps0_3 W (Proc.devRef .tc main_v14) : Vec Ideal S1024x8x2x32 .f32) (ix4 k h c j))
      (if h' : j.val < 24 then (W (Proc.devRef .tc main_v13) : Vec Ideal S1024x8x2x24 .f32) (ix4 k h c ⟨j.val, h'⟩) else 0) := by
  after_reads_at
  rw [h0]
  simp only [zero_conv]

theorem s15 (k : Fin 1024) (n : Fin 512) :
    @Eq EReal ((StableHlo.after hostOps0_4 W (Proc.devRef .tc main_v15) : Vec Ideal S1024x512 .f32) (ix2 k n))
      ((W (Proc.devRef .tc main_v14) : Vec Ideal S1024x8x2x32 .f32) (ix4 k ⟨n.val / 64, by omega⟩ ⟨n.val % 64 / 32, by omega⟩ ⟨n.val % 32, by omega⟩)) := by
  after_reads_at
  refine congrArg _ (congrArg (fun c => ix4 _ _ c _) (Fin.ext ?_))
  simp only []
  omega

theorem s16 (k : Fin 1024) (h : Fin 4) (e : Fin 96) :
    @Eq EReal ((StableHlo.after hostOps0_4 W (Proc.devRef .tc main_v16) : Vec Ideal S1024x4x96 .f32) (ix3 k h e))
      ((W (Proc.devRef .tc main_v8) : Vec Ideal S1024x384 .f32) (ix2 k ⟨h.val * 96 + e.val, by omega⟩)) := by
  after_reads_at

theorem sc3 : (StableHlo.after hostOps0_4 W (Proc.devRef .tc main_c_3) : IVec S_ 32) = fun _ => 0#32 := by
  funext i
  after_reads_at

theorem s17 (k : Fin 1024) (h : Fin 4) (e : Fin 128) (h0 : (W (Proc.devRef .tc main_c_3) : IVec S_ 32) = fun _ => 0#32) :
    @Eq EReal ((StableHlo.after hostOps0_5 W (Proc.devRef .tc main_v17) : Vec Ideal S1024x4x128 .f32) (ix3 k h e))
      (if h' : e.val < 96 then (W (Proc.devRef .tc main_v16) : Vec Ideal S1024x4x96 .f32) (ix3 k h ⟨e.val, h'⟩) else 0) := by
  after_reads_at
  rw [h0]
  simp only [zero_conv]

theorem s19q (k : Fin 1024) (n : Fin 512) :
    @Eq EReal ((StableHlo.after hostOps0_6 W (Proc.devRef .tc main_v19) : Vec Ideal S1024x6528 .f32) (ix2 k ⟨4992 + n.val, by omega⟩))
      ((W (Proc.devRef .tc main_v12) : Vec Ideal S1024x512 .f32) (ix2 k n)) := by
  after_reads_at
  rw [dif_neg (show ¬ (4992 + n.val < 3072) by omega),
    dif_neg (show ¬ (4992 + n.val - 3072 < 256) by omega),
    dif_neg (show ¬ (4992 + n.val - 3072 - 256 < 256) by omega),
    dif_neg (show ¬ (4992 + n.val - 3072 - 256 - 256 < 256) by omega),
    dif_neg (show ¬ (4992 + n.val - 3072 - 256 - 256 - 256 < 384) by omega),
    dif_neg (show ¬ (4992 + n.val - 3072 - 256 - 256 - 256 - 384 < 384) by omega),
    dif_neg (show ¬ (4992 + n.val - 3072 - 256 - 256 - 256 - 384 - 384 < 384) by omega)]
  rw [dif_pos (show 4992 + n.val - 3072 - 256 - 256 - 256 - 384 - 384 - 384 < 512 by omega)]
  refine congrArg _ (congrArg (ix2 k) (Fin.ext ?_))
  simp only []
  omega

theorem s19k (k : Fin 1024) (n : Fin 512) :
    @Eq EReal ((StableHlo.after hostOps0_6 W (Proc.devRef .tc main_v19) : Vec Ideal S1024x6528 .f32) (ix2 k ⟨5504 + n.val, by omega⟩))
      ((W (Proc.devRef .tc main_v15) : Vec Ideal S1024x512 .f32) (ix2 k n)) := by
  after_reads_at
  rw [dif_neg (show ¬ (5504 + n.val < 3072) by omega),
    dif_neg (show ¬ (5504 + n.val - 3072 < 256) by omega),
    dif_neg (show ¬ (5504 + n.val - 3072 - 256 < 256) by omega),
    dif_neg (show ¬ (5504 + n.val - 3072 - 256 - 256 < 256) by omega),
    dif_neg (show ¬ (5504 + n.val - 3072 - 256 - 256 - 256 < 384) by omega),
    dif_neg (show ¬ (5504 + n.val - 3072 - 256 - 256 - 256 - 384 < 384) by omega),
    dif_neg (show ¬ (5504 + n.val - 3072 - 256 - 256 - 256 - 384 - 384 < 384) by omega),
    dif_neg (show ¬ (5504 + n.val - 3072 - 256 - 256 - 256 - 384 - 384 - 384 < 512) by omega)]
  rw [dif_pos (show 5504 + n.val - 3072 - 256 - 256 - 256 - 384 - 384 - 384 - 512 < 512 by omega)]
  refine congrArg _ (congrArg (ix2 k) (Fin.ext ?_))
  simp only []
  omega

theorem s19v (k : Fin 1024) (n : Fin 512) :
    @Eq EReal ((StableHlo.after hostOps0_6 W (Proc.devRef .tc main_v19) : Vec Ideal S1024x6528 .f32) (ix2 k ⟨6016 + n.val, by omega⟩))
      ((W (Proc.devRef .tc main_v17) : Vec Ideal S1024x4x128 .f32) (ix3 k ⟨n.val / 128, by omega⟩ ⟨n.val % 128, by omega⟩)) := by
  after_reads_at
  rw [dif_neg (show ¬ (6016 + n.val < 3072) by omega),
    dif_neg (show ¬ (6016 + n.val - 3072 < 256) by omega),
    dif_neg (show ¬ (6016 + n.val - 3072 - 256 < 256) by omega),
    dif_neg (show ¬ (6016 + n.val - 3072 - 256 - 256 < 256) by omega),
    dif_neg (show ¬ (6016 + n.val - 3072 - 256 - 256 - 256 < 384) by omega),
    dif_neg (show ¬ (6016 + n.val - 3072 - 256 - 256 - 256 - 384 < 384) by omega),
    dif_neg (show ¬ (6016 + n.val - 3072 - 256 - 256 - 256 - 384 - 384 < 384) by omega),
    dif_neg (show ¬ (6016 + n.val - 3072 - 256 - 256 - 256 - 384 - 384 - 384 < 512) by omega),
    dif_neg (show ¬ (6016 + n.val - 3072 - 256 - 256 - 256 - 384 - 384 - 384 - 512 < 512) by omega)]
  refine (congrFun (StableHlo.reshape_result _ _ _ _ _ _ _) _).trans ?_
  pointwise
  refine congrArg (W (Proc.devRef .tc main_v17)) (congrArg₂ (ix3 k) (Fin.ext ?_) (Fin.ext ?_))
  · simp only []
    omega
  · simp only []
    omega

theorem s20 (k : Fin 1024) (n : Fin 6528) :
    @Eq EReal ((StableHlo.after hostOps0_7 W (Proc.devRef .tc main_v20) : Vec Ideal S1024x6656 .f32) (ix2 k ⟨n.val, by omega⟩))
      ((W (Proc.devRef .tc main_v19) : Vec Ideal S1024x6528 .f32) (ix2 k n)) := by
  after_reads_at

theorem s22 (n : Fin 6656) (hn : 3072 ≤ n.val) (h0 : (W (Proc.devRef .tc main_c_5) : IVec S_ 32) = fun _ => 0#32) :
    @Eq EReal ((StableHlo.after hostOps0_9 W (Proc.devRef .tc main_v22) : Vec Ideal S1x6656 .f32) (ix2 0 n)) 0 := by
  after_reads_at
  rw [h0]
  simp only [zero_conv]
  rw [dif_neg (by omega)]

theorem sc5 : (StableHlo.after hostOps0_8 W (Proc.devRef .tc main_c_5) : IVec S_ 32) = fun _ => 0#32 := by
  funext i
  after_reads_at

theorem s33 (k : Fin 1024) (n : Fin 6656) :
    @Eq EReal ((StableHlo.after hostOps0_10 W (Proc.devRef .tc main_v33) : Vec Ideal S1024x6656 .bf16) (ix2 k n))
      ((W (Proc.devRef .tc main_v20) : Vec Ideal S1024x6656 .f32) (ix2 k n)) := by
  after_reads_at

theorem s35 (r : Fin 32768) (k : Fin 1024) :
    @Eq EReal ((StableHlo.after hostOps0_10 W (Proc.devRef .tc main_v35) : Vec Ideal S32768x1024 .bf16) (ix2 r k))
      ((W (Proc.devRef .tc main_arg0) : Vec Ideal S8x4096x1024 .f32) (ix3 ⟨r.val / 4096, by omega⟩ ⟨r.val % 4096, by omega⟩ k)) := by
  after_reads_at

end Stage

variable (m : (ℓ : Loc nD τ sig) → Buf (Elt Ideal) ℓ) (ρ : Dev nD → PrngReg) (c : Dev nD)

/-- The rows of tokens at the launch of the in-projection: token `(r / 4096, r % 4096)`. -/
theorem entry_x (r : Fin 32768) (k : Fin 1024) :
    @Eq EReal ((W15 m ρ c (Proc.devRef .tc main_v35) : Vec Ideal S32768x1024 .bf16) (ix2 r k))
      ((m ((c : Thread nD τ).loc main_arg0) : Vec Ideal S8x4096x1024 .f32) (ix3 ⟨r.val / 4096, by omega⟩ ⟨r.val % 4096, by omega⟩ k)) := by
  rw [W15_of m ρ c main_v35 (by decide), W14_of m ρ c main_v35 (by decide), W13_of m ρ c main_v35 (by decide), W12_of m ρ c main_v35 (by decide)]
  refine (s35 (W10 m ρ c) r k).trans ?_
  rw [W10_args m ρ c main_arg0 (by decide)]

/-- The padded weights at the launch, before the padding of all columns. -/
theorem entry_w (k : Fin 1024) (n : Fin 6528) :
    @Eq EReal ((W15 m ρ c (Proc.devRef .tc main_v33) : Vec Ideal S1024x6656 .bf16) (ix2 k ⟨n.val, by omega⟩))
      ((W7 m ρ c (Proc.devRef .tc main_v19) : Vec Ideal S1024x6528 .f32) (ix2 k n)) := by
  rw [W15_of m ρ c main_v33 (by decide), W14_of m ρ c main_v33 (by decide), W13_of m ρ c main_v33 (by decide), W12_of m ρ c main_v33 (by decide)]
  refine (s33 (W10 m ρ c) k _).trans ?_
  rw [W10_of m ρ c main_v20 (by decide), W9_of m ρ c main_v20 (by decide)]
  exact s20 (W7 m ρ c) k n

/-- The weights of a query column: lane `j` of half `f` of map `c` of head `i`; lanes from 24 on hold 0. -/
theorem entry_wq (k : Fin 1024) (i : Fin 4) (d f : Fin 2) (j : Fin 32) :
    @Eq EReal ((W15 m ρ c (Proc.devRef .tc main_v33) : Vec Ideal S1024x6656 .bf16) (ix2 k ⟨4992 + (128 * i.val + 64 * d.val + 32 * f.val + j.val), by omega⟩))
      (if h : j.val < 24 then (m ((c : Thread nD τ).loc main_arg1) : Vec Ideal S1024x6144 .f32) (ix2 k ⟨1920 + (96 * i.val + 48 * d.val + 24 * f.val + j.val), by omega⟩) else 0) := by
  refine (entry_w m ρ c k ⟨4992 + (128 * i.val + 64 * d.val + 32 * f.val + j.val), by omega⟩).trans ?_
  refine (s19q (W6 m ρ c) k ⟨128 * i.val + 64 * d.val + 32 * f.val + j.val, by omega⟩).trans ?_
  rw [W6_of m ρ c main_v12 (by decide), W5_of m ρ c main_v12 (by decide), W4_of m ρ c main_v12 (by decide)]
  refine (s12 (W2 m ρ c) k _).trans ?_
  refine (s11 (W1 m ρ c) k _ _ _ (sc1 (W0 m ρ c))).trans ?_
  have e : (128 * i.val + 64 * d.val + 32 * f.val + j.val) % 32 = j.val := by omega
  by_cases h : j.val < 24
  · rw [dif_pos (show (128 * i.val + 64 * d.val + 32 * f.val + j.val) % 32 < 24 by omega), dif_pos h]
    refine (s6 (W0 m ρ c) k _ _ _).trans ?_
    rw [W0_args m ρ c main_arg1 (by decide)]
    refine congrArg (m ((c : Thread nD τ).loc main_arg1)) (congrArg (ix2 k) (Fin.ext ?_))
    simp only []
    omega
  · rw [dif_neg (show ¬ (128 * i.val + 64 * d.val + 32 * f.val + j.val) % 32 < 24 by omega), dif_neg h]

/-- The weights of a key column, in the lanes that the query columns have too. -/
theorem entry_wk (k : Fin 1024) (i : Fin 4) (d f : Fin 2) (j : Fin 32) :
    @Eq EReal ((W15 m ρ c (Proc.devRef .tc main_v33) : Vec Ideal S1024x6656 .bf16) (ix2 k ⟨5504 + (128 * i.val + 64 * d.val + 32 * f.val + j.val), by omega⟩))
      (if h : j.val < 24 then (m ((c : Thread nD τ).loc main_arg1) : Vec Ideal S1024x6144 .f32) (ix2 k ⟨2304 + (96 * i.val + 48 * d.val + 24 * f.val + j.val), by omega⟩) else 0) := by
  refine (entry_w m ρ c k ⟨5504 + (128 * i.val + 64 * d.val + 32 * f.val + j.val), by omega⟩).trans ?_
  refine (s19k (W6 m ρ c) k ⟨128 * i.val + 64 * d.val + 32 * f.val + j.val, by omega⟩).trans ?_
  rw [W6_of m ρ c main_v15 (by decide)]
  refine (s15 (W4 m ρ c) k _).trans ?_
  refine (s14 (W3 m ρ c) k _ _ _ (sc2 (W2 m ρ c))).trans ?_
  have e : (128 * i.val + 64 * d.val + 32 * f.val + j.val) % 32 = j.val := by omega
  by_cases h : j.val < 24
  · rw [dif_pos (show (128 * i.val + 64 * d.val + 32 * f.val + j.val) % 32 < 24 by omega), dif_pos h]
    refine (s13 (W2 m ρ c) k _ _ _).trans ?_
    rw [W2_of m ρ c main_v7 (by decide)]
    refine (s7 (W0 m ρ c) k _).trans ?_
    rw [W0_args m ρ c main_arg1 (by decide)]
    refine congrArg (m ((c : Thread nD τ).loc main_arg1)) (congrArg (ix2 k) (Fin.ext ?_))
    simp only []
    omega
  · rw [dif_neg (show ¬ (128 * i.val + 64 * d.val + 32 * f.val + j.val) % 32 < 24 by omega), dif_neg h]

/-- The weights of a value column: lane `e` of head `i`; lanes from 96 on hold 0. -/
theorem entry_wv (k : Fin 1024) (i : Fin 4) (e : Fin 128) :
    @Eq EReal ((W15 m ρ c (Proc.devRef .tc main_v33) : Vec Ideal S1024x6656 .bf16) (ix2 k ⟨6016 + (128 * i.val + e.val), by omega⟩))
      (if h : e.val < 96 then (m ((c : Thread nD τ).loc main_arg1) : Vec Ideal S1024x6144 .f32) (ix2 k ⟨2688 + (96 * i.val + e.val), by omega⟩) else 0) := by
  refine (entry_w m ρ c k ⟨6016 + (128 * i.val + e.val), by omega⟩).trans ?_
  refine (s19v (W6 m ρ c) k ⟨128 * i.val + e.val, by omega⟩).trans ?_
  refine (s17 (W5 m ρ c) k _ _ (sc3 (W4 m ρ c))).trans ?_
  have e' : (128 * i.val + e.val) % 128 = e.val := by omega
  by_cases h : e.val < 96
  · rw [dif_pos (show (128 * i.val + e.val) % 128 < 96 by omega), dif_pos h]
    refine (s16 (W4 m ρ c) k _ _).trans ?_
    rw [W4_of m ρ c main_v8 (by decide), W3_of m ρ c main_v8 (by decide), W2_of m ρ c main_v8 (by decide)]
    refine (s8 (W0 m ρ c) k _).trans ?_
    rw [W0_args m ρ c main_arg1 (by decide)]
    refine congrArg (m ((c : Thread nD τ).loc main_arg1)) (congrArg (ix2 k) (Fin.ext ?_))
    simp only []
    omega
  · rw [dif_neg (show ¬ (128 * i.val + e.val) % 128 < 96 by omega), dif_neg h]

end Cert.Attn

end
-- ==== Proof.HostT.lean ====
/- The rotation tables, the bias lane and the second launch's small arrays, read at an index. -/
module

public import proofs.«01_k».proof.Proof.HostW
public import Idealize.ShloMosaic.Lib.Routing.OpsSet
public import Idealize.ShloMosaic.Lib.Routing.OpsPair

@[expose] public section

set_option maxRecDepth 16384

noncomputable section

namespace Cert.Attn

open Idealize.ShloMosaic Idealize.ShloMosaic.TcCoe Idealize.SL.Sem Cert.KernelIdeal Cert.KernelIdeal.Gen

/-- The angle by which lane `j` of a half is rotated at position `s`. -/
def ang (s : Fin 4096) (j : Fin 24) : EReal :=
  FloatOps.sitofp (F := Ideal) .f32 (BitVec.ofNat 32 s.val) * Ideal.div 1 (Ideal.pow (Ideal.ofBits .f32 0x461C4000#32)
    (Ideal.div (Ideal.ofBits .f32 0x40000000#32 * FloatOps.sitofp (F := Ideal) .f32 (BitVec.ofNat 32 j.val)) (Ideal.ofBits .f32 0x42400000#32)))

section Stage
variable (W : Valuation τ sig (Elt Ideal))

theorem s81 (s : Fin 4096) (j : Fin 24) :
    @Eq EReal ((StableHlo.after hostOps0_10 W (Proc.devRef .tc main_v81) : Vec Ideal S4096x24 .f32) (ix2 s j)) (Ideal.cos (ang s j)) := by
  after_reads_at
  rfl

theorem s82 (s : Fin 4096) (j : Fin 24) :
    @Eq EReal ((StableHlo.after hostOps0_10 W (Proc.devRef .tc main_v82) : Vec Ideal S4096x24 .f32) (ix2 s j)) (Ideal.sin (ang s j)) := by
  after_reads_at
  rfl

theorem s18c : (StableHlo.after hostOps0_10 W (Proc.devRef .tc main_cst_18) : Vec Ideal S_ .f32) = fun _ => (1 : EReal) := by
  funext i
  after_reads_at

theorem s83 (s : Fin 4096) (j : Fin 32) (h1 : (W (Proc.devRef .tc main_cst_18) : Vec Ideal S_ .f32) = fun _ => (1 : EReal)) :
    @Eq EReal ((StableHlo.after hostOps0_11 W (Proc.devRef .tc main_v83) : Vec Ideal S4096x32 .f32) (ix2 s j))
      (if h : j.val < 24 then (W (Proc.devRef .tc main_v81) : Vec Ideal S4096x24 .f32) (ix2 s ⟨j.val, h⟩) else 1) := by
  after_reads_at
  rw [h1]
  rfl

theorem s84 (s : Fin 4096) (j : Fin 32) (h1 : (W (Proc.devRef .tc main_c_19) : IVec S_ 32) = fun _ => 0#32) :
    @Eq EReal ((StableHlo.after hostOps0_13 W (Proc.devRef .tc main_v84) : Vec Ideal S4096x32 .f32) (ix2 s j))
      (if h : j.val < 24 then (W (Proc.devRef .tc main_v82) : Vec Ideal S4096x24 .f32) (ix2 s ⟨j.val, h⟩) else 0) := by
  after_reads_at
  rw [h1]
  simp only [zero_conv]

theorem sc19 : (StableHlo.after hostOps0_12 W (Proc.devRef .tc main_c_19) : IVec S_ 32) = fun _ => 0#32 := by
  funext i
  after_reads_at

theorem s88 (s : Fin 4096) (n : Fin 128) :
    @Eq EReal ((StableHlo.after hostOps0_14 W (Proc.devRef .tc main_v88) : Vec Ideal S4096x128 .f32) (ix2 s n))
      ((W (Proc.devRef .tc main_v83) : Vec Ideal S4096x32 .f32) (ix2 s ⟨n.val % 32, by omega⟩)) := by
  after_reads_at
  split
  · refine congrArg (W (Proc.devRef .tc main_v83)) (congrArg (ix2 s) (Fin.ext ?_))
    simp only []
    omega
  · refine congrArg (W (Proc.devRef .tc main_v83)) (congrArg (ix2 s) (Fin.ext ?_))
    simp only []
    omega

/-- The negated sines, before they are laid side by side with the sines. -/
theorem s89 : @Eq (Vec Ideal S4096x32 .f32) (StableHlo.upto hostOps0_14 W 5 (Proc.devRef .tc main_v89))
    (fun i => @Neg.neg EReal _ ((W (Proc.devRef .tc main_v84) : Vec Ideal S4096x32 .f32) i)) := by
  funext i
  show StableHlo.after (hostOps0_14.take 5) W _ _ = _
  simp only [List.take_succ_cons, List.take_zero]
  after_reads_at

theorem s84' : @Eq (Vec Ideal S4096x32 .f32) (StableHlo.upto hostOps0_14 W 5 (Proc.devRef .tc main_v84)) (W (Proc.devRef .tc main_v84)) := by
  funext i
  show StableHlo.after (hostOps0_14.take 5) W _ _ = _
  simp only [List.take_succ_cons, List.take_zero]
  after_reads_at

theorem s93 (s : Fin 4096) (n : Fin 128) :
    @Eq EReal ((StableHlo.after hostOps0_14 W (Proc.devRef .tc main_v93) : Vec Ideal S4096x128 .f32) (ix2 s n))
      (if n.val % 64 < 32 then @Neg.neg EReal _ ((W (Proc.devRef .tc main_v84) : Vec Ideal S4096x32 .f32) (ix2 s ⟨n.val % 32, by omega⟩))
        else (W (Proc.devRef .tc main_v84) : Vec Ideal S4096x32 .f32) (ix2 s ⟨n.val % 32, by omega⟩)) := by
  after_reads_at
  rw [s89, s84']
  split
  · refine congrArg (fun i => @Neg.neg EReal _ (W (Proc.devRef .tc main_v84) i)) (congrArg (ix2 s) (Fin.ext ?_))
    simp only []
    omega
  · refine congrArg (W (Proc.devRef .tc main_v84)) (congrArg (ix2 s) (Fin.ext ?_))
    simp only []
    omega

theorem sc : (StableHlo.after hostOps0 W (Proc.devRef .tc main_c) : IVec S4 32) = fun i => lit0 (S4.rowMajor i) := by
  funext i
  after_reads_at

theorem sc0 : (StableHlo.after hostOps0 W (Proc.devRef .tc main_c_0) : IVec S4 1) = fun _ => 0#1 := by
  funext i
  after_reads_at

/-- Where update `i` of the scatter of ones lands. -/
theorem lands (idx : IVec S4x2 32) (h0 : ∀ i : Fin 4, idx (ix2 i 0) = 0#32) (h1 : ∀ i : Fin 4, idx (ix2 i 1) = BitVec.ofNat 32 (6112 + 128 * i.val)) (i : Fin 4) (n : Fin 6656) :
    scatter_S1x6656_S4x2_S4_n_01_01_1.resultIdx? (ix1 i) idx = some (ix2 (0 : Fin 1) n) ↔ n.val = 6112 + 128 * i.val := by
  have hwin : ∀ q : Fin 2, scatter_S1x6656_S4x2_S4_n_01_01_1.window (ix1 i) q = 0 := fun q => by fin_cases q <;> fin_cases i <;> rfl
  have hs0 : scatter_S1x6656_S4x2_S4_n_01_01_1.start (ix1 i) idx 0 = (idx (ix2 i 0)).toInt := by
    refine congrArg (fun k => (idx k).toInt) ?_
    funext b
    fin_cases b <;> fin_cases i <;> rfl
  have hs1 : scatter_S1x6656_S4x2_S4_n_01_01_1.start (ix1 i) idx 1 = (idx (ix2 i 1)).toInt := by
    refine congrArg (fun k => (idx k).toInt) ?_
    funext b
    fin_cases b <;> fin_cases i <;> rfl
  have hv : (BitVec.ofNat 32 (6112 + 128 * i.val)).toInt = ((6112 + 128 * i.val : ℕ) : Int) := by fin_cases i <;> rfl
  refine (Routing.resultIdx?_ix2 (R := 1) (C := 6656) _ _ _ _ _).trans ?_
  rw [hs0, hs1, hwin, hwin, h0, h1, hv]
  simp only [Fin.val_zero]
  constructor
  · intro h
    have := h.2
    omega
  · intro h
    exact ⟨rfl, by omega⟩

/-- The scattered index words: row 0. -/
theorem s28 : @Eq (IVec S4x1 32) (StableHlo.upto hostOps0_10 W 9 (Proc.devRef .tc main_v28)) (fun _ => 0#32) := by
  funext i
  show StableHlo.after (hostOps0_10.take 9) W _ _ = _
  simp only [List.take_succ_cons, List.take_zero]
  after_reads_at
  rfl

/-- The scattered index words: the columns. -/
theorem s29 (i : Fin 4) (h0 : (W (Proc.devRef .tc main_c_0) : IVec S4 1) = fun _ => 0#1) :
    @Eq (BitVec 32) ((StableHlo.upto hostOps0_10 W 9 (Proc.devRef .tc main_v29) : IVec S4x1 32) (ix2 i 0)) ((W (Proc.devRef .tc main_c) : IVec S4 32) (ix1 i)) := by
  show StableHlo.after (hostOps0_10.take 9) W _ _ = _
  simp only [List.take_succ_cons, List.take_zero]
  after_reads_at
  rw [h0]
  rfl

theorem s32 (n : Fin 6656) (h0 : (W (Proc.devRef .tc main_c_0) : IVec S4 1) = fun _ => 0#1)
    (hc : (W (Proc.devRef .tc main_c) : IVec S4 32) = fun i => lit0 (S4.rowMajor i)) :
    @Eq EReal ((StableHlo.after hostOps0_10 W (Proc.devRef .tc main_v32) : Vec Ideal S1x6656 .f32) (ix2 0 n))
      (if ∃ i : Fin 4, n.val = 6112 + 128 * i.val then 1 else (W (Proc.devRef .tc main_v22) : Vec Ideal S1x6656 .f32) (ix2 0 n)) := by
  after_reads_at
  generalize hx : concatenate S4x2 1 _ _ = idx
  have l0 : ∀ i : Fin 4, idx (ix2 i 0) = 0#32 := fun i => by
    rw [← hx, s28]
    pointwise
  have l1 : ∀ i : Fin 4, idx (ix2 i 1) = BitVec.ofNat 32 (6112 + 128 * i.val) := fun i => by
    rw [← hx]
    pointwise
    rw [s29 W i h0, hc]
    fin_cases i <;> rfl
  have hone : ∀ k : S4.Idx, (broadcastInDim S4 ![] bcast_S_S4 (constant (F := Ideal) S_ FTy.f32 1065353216#32)) k = (1 : EReal) := fun k => by
    pointwise
  by_cases h : ∃ i : Fin 4, n.val = 6112 + 128 * i.val
  · obtain ⟨i, hi⟩ := h
    rw [if_pos ⟨i, hi⟩]
    exact Routing.scatter_set_hit _ _ _ _ _ _ (fun k _ => hone k) (ix1 i) ((lands idx l0 l1 i n).2 hi)
  · rw [if_neg h]
    refine Routing.scatter_set_miss _ _ _ _ _ fun k hk => h ?_
    idx_vars k
    exact ⟨_, (lands idx l0 l1 _ n).1 hk⟩

theorem s99 (e : Fin 128) (h1 : (W (Proc.devRef .tc main_c_21) : IVec S_ 32) = fun _ => 0#32) :
    @Eq EReal ((StableHlo.after hostOps1_1 W (Proc.devRef .tc main_v99) : Vec Ideal S1x128 .f32) (ix2 0 e))
      (if h : e.val < 96 then (W (Proc.devRef .tc main_v98) : Vec Ideal S1x96 .f32) (ix2 0 ⟨e.val, h⟩) else 0) := by
  after_reads_at
  rw [h1]
  simp only [zero_conv]

theorem sc21 : (StableHlo.after hostOps1 W (Proc.devRef .tc main_c_21) : IVec S_ 32) = fun _ => 0#32 := by
  funext i
  after_reads_at

theorem s98 (e : Fin 96) :
    @Eq EReal ((StableHlo.after hostOps1 W (Proc.devRef .tc main_v98) : Vec Ideal S1x96 .f32) (ix2 0 e))
      (@HMul.hMul EReal EReal EReal _ ((W (Proc.devRef .tc main_arg4) : Vec Ideal S96 .f32) (ix1 e)) (1 - (show EReal from (W (Proc.devRef .tc main_arg5) : Vec Ideal S_ .f32) ix0))) := by
  after_reads_at

theorem s100 (b : Fin 8) (s : Fin 4096) (n : Fin 6656) :
    @Eq EReal ((StableHlo.after hostOps1_2 W (Proc.devRef .tc main_v100) : Vec Ideal S8x4096x6656 .bf16) (ix3 b s n))
      ((W (Proc.devRef .tc main_v94_0) : Vec Ideal S32768x6656 .bf16) (ix2 ⟨b.val * 4096 + s.val, by omega⟩ n)) := by
  after_reads_at

theorem s101 :
    @Eq EReal ((StableHlo.after hostOps1_2 W (Proc.devRef .tc main_v101) : Vec Ideal S1 .f32) (ix1 0))
      ((W (Proc.devRef .tc main_arg5) : Vec Ideal S_ .f32) ix0) := by
  after_reads_at

end Stage

variable (m : (ℓ : Loc nD τ sig) → Buf (Elt Ideal) ℓ) (ρ : Dev nD → PrngReg) (c : Dev nD)

/-- The cosine table at the launch: lane `j` of each half of 32 holds the cosine, lanes from 24 on hold 1. -/
theorem entry_cos (s : Fin 4096) (n : Fin 128) :
    @Eq EReal ((W15 m ρ c (Proc.devRef .tc main_v88) : Vec Ideal S4096x128 .f32) (ix2 s n))
      (if h : n.val % 32 < 24 then Ideal.cos (ang s ⟨n.val % 32, h⟩) else 1) := by
  refine (s88 (W14 m ρ c) s n).trans ?_
  rw [W14_of m ρ c main_v83 (by decide), W13_of m ρ c main_v83 (by decide)]
  refine (s83 (W11 m ρ c) s _ (s18c (W10 m ρ c))).trans ?_
  refine dite_congr rfl (fun h => ?_) fun _ => rfl
  exact s81 (W10 m ρ c) s _

/-- The sine table at the launch, before its sign: lanes from 24 on hold 0. -/
def sinTab (s : Fin 4096) (n : Fin 128) : EReal := if h : n.val % 32 < 24 then Ideal.sin (ang s ⟨n.val % 32, h⟩) else 0

/-- The sine table at the launch: negated in the first half. -/
theorem entry_sin (s : Fin 4096) (n : Fin 128) :
    @Eq EReal ((W15 m ρ c (Proc.devRef .tc main_v93) : Vec Ideal S4096x128 .f32) (ix2 s n))
      (if n.val % 64 < 32 then - sinTab s n else sinTab s n) := by
  have e : @Eq EReal ((W14 m ρ c (Proc.devRef .tc main_v84) : Vec Ideal S4096x32 .f32) (ix2 s ⟨n.val % 32, by omega⟩)) (sinTab s n) := by
    refine (s84 (W13 m ρ c) s _ (sc19 (W12 m ρ c))).trans ?_
    refine dite_congr rfl (fun h => ?_) fun _ => rfl
    rw [W13_of m ρ c main_v82 (by decide), W12_of m ρ c main_v82 (by decide)]
    exact s82 (W10 m ρ c) s _
  refine (s93 (W14 m ρ c) s n).trans ?_
  rw [e]

/-- The bias at the launch, in the value columns: 1 in lane 96 of each head, else 0. -/
theorem entry_bias (i : Fin 4) (e : Fin 128) :
    @Eq EReal ((W15 m ρ c (Proc.devRef .tc main_v32) : Vec Ideal S1x6656 .f32) (ix2 0 ⟨6016 + (128 * i.val + e.val), by omega⟩))
      (if e.val = 96 then 1 else 0) := by
  rw [W15_of m ρ c main_v32 (by decide), W14_of m ρ c main_v32 (by decide), W13_of m ρ c main_v32 (by decide), W12_of m ρ c main_v32 (by decide)]
  have k0 : (W10 m ρ c (Proc.devRef .tc main_c_0) : IVec S4 1) = fun _ => 0#1 := by
    rw [W10_of m ρ c main_c_0 (by decide), W9_of m ρ c main_c_0 (by decide), W8_of m ρ c main_c_0 (by decide), W7_of m ρ c main_c_0 (by decide), W6_of m ρ c main_c_0 (by decide),
      W5_of m ρ c main_c_0 (by decide), W4_of m ρ c main_c_0 (by decide), W3_of m ρ c main_c_0 (by decide), W2_of m ρ c main_c_0 (by decide)]
    exact sc0 _
  have kc : (W10 m ρ c (Proc.devRef .tc main_c) : IVec S4 32) = fun i => lit0 (S4.rowMajor i) := by
    rw [W10_of m ρ c main_c (by decide), W9_of m ρ c main_c (by decide), W8_of m ρ c main_c (by decide), W7_of m ρ c main_c (by decide), W6_of m ρ c main_c (by decide),
      W5_of m ρ c main_c (by decide), W4_of m ρ c main_c (by decide), W3_of m ρ c main_c (by decide), W2_of m ρ c main_c (by decide)]
    exact sc _
  refine (s32 (W10 m ρ c) _ k0 kc).trans ?_
  by_cases h : e.val = 96
  · rw [if_pos h, if_pos ⟨i, by simp only []; omega⟩]
  · rw [if_neg h, if_neg (by rintro ⟨i', h'⟩; simp only [] at h'; omega)]
    exact s22 (W9 m ρ c) _ (by simp only []; omega) (sc5 (W8 m ρ c))

/-- The projected columns as the attention's launch takes them. -/
theorem entry_h (b : Fin 8) (s : Fin 4096) (n : Fin 6656) :
    @Eq EReal ((W19 m ρ c (Proc.devRef .tc main_v100) : Vec Ideal S8x4096x6656 .bf16) (ix3 b s n))
      ((W16 m ρ c (Proc.devRef .tc main_v94_0) : Vec Ideal S32768x6656 .bf16) (ix2 ⟨b.val * 4096 + s.val, by omega⟩ n)) := by
  refine (s100 (W18 m ρ c) b s n).trans ?_
  rw [W18_of m ρ c main_v94_0 (by decide), W17_of m ρ c main_v94_0 (by decide)]

/-- The scale of the norm as the attention's launch takes it. -/
theorem entry_g (e : Fin 128) :
    @Eq EReal ((W19 m ρ c (Proc.devRef .tc main_v99) : Vec Ideal S1x128 .f32) (ix2 0 e))
      (if h : e.val < 96 then @HMul.hMul EReal EReal EReal _ ((m ((c : Thread nD τ).loc main_arg4) : Vec Ideal S96 .f32) (ix1 ⟨e.val, h⟩))
        (1 - (show EReal from (m ((c : Thread nD τ).loc main_arg5) : Vec Ideal S_ .f32) ix0)) else 0) := by
  rw [W19_of m ρ c main_v99 (by decide)]
  refine (s99 (W17 m ρ c) e (sc21 (W16 m ρ c))).trans ?_
  refine dite_congr rfl (fun h => ?_) fun _ => rfl
  refine (s98 (W16 m ρ c) _).trans ?_
  rw [W16_args m ρ c main_arg4 (by decide), W16_args m ρ c main_arg5 (by decide)]

/-- The initial λ as the attention's launch takes it. -/
theorem entry_li :
    @Eq EReal ((W19 m ρ c (Proc.devRef .tc main_v101) : Vec Ideal S1 .f32) (ix1 0)) ((m ((c : Thread nD τ).loc main_arg5) : Vec Ideal S_ .f32) ix0) := by
  refine (s101 (W18 m ρ c)).trans ?_
  rw [W18_args m ρ c main_arg5 (by decide)]

/-- The λ vectors as the attention's launch takes them. -/
theorem entry_lam : W19 m ρ c (Proc.devRef .tc main_arg3) = m ((c : Thread nD τ).loc main_arg3) :=
  W19_args m ρ c main_arg3 (by decide)

end Cert.Attn

end
-- ==== Proof.Region0.lean ====
/- The columns that the in-projection leaves for the attention, as functions of the tokens and the weights: rotated
   scaled queries, rotated keys, and values with a lane of ones. -/
module

public import proofs.«01_k».proof.Proof.Block0
public import proofs.«01_k».proof.Proof.HostT
public import Idealize.ShloMosaic.Lib.Pipeline.ValueKit
public import Idealize.ShloMosaic.Lib.Pipeline.Covers

@[expose] public section

set_option maxRecDepth 16384

noncomputable section

namespace Cert.Attn

open Idealize.ShloMosaic Idealize.ShloMosaic.TcCoe Idealize.SL.Sem Cert.KernelIdeal Cert.KernelIdeal.Gen

/-- A head's query columns, whichever head. -/
theorem block_q (x0 : Vec Ideal S512x1024 .bf16) (x1 : Vec Ideal S1024x6656 .bf16) (x2 : Vec Ideal S1x6656 .f32) (x3 x4 x5 x6 : Vec Ideal S512x128 .f32)
    (i : Fin 4) (y : S512x6656.Idx) (r : Fin 512) (l : Fin 128) (hy0 : (y 0).val = r.val) (hy1 : (y 1).val = 4992 + 128 * i.val + l.val) :
    out0_7 (F := Ideal) x0 x1 x2 x3 x4 x5 x6 y
      = ropeVal x0 x1 x5 x6 r ⟨4992 + 128 * i.val + l.val, by omega⟩ ⟨4992 + 128 * i.val + (part l).val, by omega⟩ l * qscale := by
  fin_cases i
  · exact block_q0 x0 x1 x2 x3 x4 x5 x6 y r l hy0 hy1
  · exact block_q1 x0 x1 x2 x3 x4 x5 x6 y r l hy0 hy1
  · exact block_q2 x0 x1 x2 x3 x4 x5 x6 y r l hy0 hy1
  · exact block_q3 x0 x1 x2 x3 x4 x5 x6 y r l hy0 hy1

/-- A head's key columns, whichever head. -/
theorem block_k (x0 : Vec Ideal S512x1024 .bf16) (x1 : Vec Ideal S1024x6656 .bf16) (x2 : Vec Ideal S1x6656 .f32) (x3 x4 x5 x6 : Vec Ideal S512x128 .f32)
    (i : Fin 4) (y : S512x6656.Idx) (r : Fin 512) (l : Fin 128) (hy0 : (y 0).val = r.val) (hy1 : (y 1).val = 5504 + 128 * i.val + l.val) :
    out0_7 (F := Ideal) x0 x1 x2 x3 x4 x5 x6 y
      = ropeVal x0 x1 x5 x6 r ⟨5504 + 128 * i.val + l.val, by omega⟩ ⟨5504 + 128 * i.val + (part l).val, by omega⟩ l := by
  fin_cases i
  · exact block_k0 x0 x1 x2 x3 x4 x5 x6 y r l hy0 hy1
  · exact block_k1 x0 x1 x2 x3 x4 x5 x6 y r l hy0 hy1
  · exact block_k2 x0 x1 x2 x3 x4 x5 x6 y r l hy0 hy1
  · exact block_k3 x0 x1 x2 x3 x4 x5 x6 y r l hy0 hy1

/-- A head's value columns, whichever head. -/
theorem block_v (x0 : Vec Ideal S512x1024 .bf16) (x1 : Vec Ideal S1024x6656 .bf16) (x2 : Vec Ideal S1x6656 .f32) (x3 x4 x5 x6 : Vec Ideal S512x128 .f32)
    (i : Fin 4) (y : S512x6656.Idx) (r : Fin 512) (l : Fin 128) (hy0 : (y 0).val = r.val) (hy1 : (y 1).val = 6016 + 128 * i.val + l.val) :
    out0_7 (F := Ideal) x0 x1 x2 x3 x4 x5 x6 y
      = proj x0 x1 r ⟨6016 + 128 * i.val + l.val, by omega⟩ + x2 (ix2 0 ⟨6016 + 128 * i.val + l.val, by omega⟩) := by
  fin_cases i
  · exact block_v0 x0 x1 x2 x3 x4 x5 x6 y r l hy0 hy1
  · exact block_v1 x0 x1 x2 x3 x4 x5 x6 y r l hy0 hy1
  · exact block_v2 x0 x1 x2 x3 x4 x5 x6 y r l hy0 hy1
  · exact block_v3 x0 x1 x2 x3 x4 x5 x6 y r l hy0 hy1

variable (m : (ℓ : Loc nD τ sig) → Buf (Elt Ideal) ℓ) (ρ : Dev nD → PrngReg) (c : Dev nD)

theorem idx0 : ∀ t : Fin grid0.N, win0_0.index t = ![t.val, 0] ∧ win0_1.index t = ![0, 0] ∧ win0_2.index t = ![0, 0]
    ∧ win0_5.index t = ![t.val % 8, 0] ∧ win0_6.index t = ![t.val % 8, 0] ∧ win0_7.index t = ![t.val, 0] := by decide +kernel

/-- The projected array after the first launch: at each element what the body stores at its row's grid point. -/
def projArr : Vec Ideal S32768x6656 .bf16 := fun i =>
  let t : Fin cfg0.N := ⟨(i 0).val / 512, by have := (i 0).isLt; show _ < 64; change (i 0).val < 32768 at this; omega⟩
  out0_7 (F := Ideal) (iblk0 (V15 m ρ) c 0 t) (iblk0 (V15 m ρ) c 1 t) (iblk0 (V15 m ρ) c 2 t) (iblk0 (V15 m ρ) c 3 t) (iblk0 (V15 m ρ) c 4 t)
    (iblk0 (V15 m ρ) c 5 t) (iblk0 (V15 m ρ) c 6 t) (ix2 ⟨(i 0).val % 512, by omega⟩ (i 1))

theorem W16_proj : W16 m ρ c (Proc.devRef .tc main_v94_0) = projArr m ρ c := by
  refine (W16_arr m ρ c 7).trans ?_
  refine (dat0 (V15 m ρ) c).arrAt_eq_of_covers 7 _ (by decide +kernel) fun t hf y => ?_
  blk_simp
  rw [after0_7]
  obtain ⟨-, -, -, -, -, h7⟩ := idx0 t
  have e0 : (((win0_7.blk t).view.emb y) 0 : ℕ) = t.val * 512 + (y 0).val := by
    blk_simp [h7]
  have e1 : (((win0_7.blk t).view.emb y) 1 : ℕ) = (y 1).val := by
    blk_simp [h7]
  have y0 : (y 0).val < 512 := (y 0).isLt
  have et : (⟨(((win0_7.blk t).view.emb y) 0 : ℕ) / 512, by rw [e0]; have := t.isLt; change t.val < 64 at this; show _ < 64; omega⟩ : Fin cfg0.N) = t :=
    Fin.ext (by show (((win0_7.blk t).view.emb y) 0 : ℕ) / 512 = t.val; rw [e0]; omega)
  have ey : (ix2 (⟨(((win0_7.blk t).view.emb y) 0 : ℕ) % 512, by omega⟩ : Fin 512) ((win0_7.blk t).view.emb y 1) : S512x6656.Idx) = y := by
    funext a
    fin_cases a
    · exact Fin.ext (by show (((win0_7.blk t).view.emb y) 0 : ℕ) % 512 = (y 0).val; rw [e0]; omega)
    · exact Fin.ext e1
  unfold projArr
  simp only []
  erw [et, ey]

/-- A block of rows, at a row and a lane of the tokens. -/
theorem blk_x (b : Fin 8) (s : Fin 4096) (k : Fin 1024) :
    @Eq EReal ((iblk0 (V15 m ρ) c 0 (⟨b.val * 8 + s.val / 512, by show _ < 64; omega⟩ : Fin cfg0.N) : Vec Ideal S512x1024 .bf16) (ix2 ⟨s.val % 512, by omega⟩ k))
      ((m ((c : Thread nD τ).loc main_arg0) : Vec Ideal S8x4096x1024 .f32) (ix3 b s k)) := by
  have e := entry_x m ρ c ⟨b.val * 4096 + s.val, by omega⟩ k
  refine (Eq.trans ?_ e).trans ?_
  · obtain ⟨h, -⟩ := idx0 (⟨b.val * 8 + s.val / 512, by show _ < 64; omega⟩ : Fin cfg0.N)
    blk_ext [iblk0, h]
  · refine congrArg (m ((c : Thread nD τ).loc main_arg0)) (congrArg₂ (fun a d => ix3 a d k) (Fin.ext ?_) (Fin.ext ?_))
    · simp only []; omega
    · simp only []; omega

/-- The block of the weights is the weights. -/
theorem blk_w (t : Fin cfg0.N) (k : Fin 1024) (n : Fin 6656) :
    @Eq EReal ((iblk0 (V15 m ρ) c 1 t : Vec Ideal S1024x6656 .bf16) (ix2 k n)) ((W15 m ρ c (Proc.devRef .tc main_v33) : Vec Ideal S1024x6656 .bf16) (ix2 k n)) := by
  obtain ⟨-, h, -⟩ := idx0 t
  blk_ext [iblk0, h]

/-- The block of the bias is the bias. -/
theorem blk_bias (t : Fin cfg0.N) (a : Fin 1) (n : Fin 6656) :
    @Eq EReal ((iblk0 (V15 m ρ) c 2 t : Vec Ideal S1x6656 .f32) (ix2 a n)) ((W15 m ρ c (Proc.devRef .tc main_v32) : Vec Ideal S1x6656 .f32) (ix2 a n)) := by
  obtain ⟨-, -, h, -⟩ := idx0 t
  have e : ((win0_2.blk t).view.emb (ix2 a n) : S1x6656.Idx) = ix2 a n := by
    funext d
    apply Fin.ext
    fin_cases d
    · show (((win0_2.blk t).view.emb (ix2 a n)) 0 : ℕ) = a.val
      blk_simp [h]
    · show (((win0_2.blk t).view.emb (ix2 a n)) 1 : ℕ) = n.val
      blk_simp [h]
  exact congrArg (W15 m ρ c (Proc.devRef .tc main_v32) : Vec Ideal S1x6656 .f32) e

/-- A block of the cosine table, at the position of the token. -/
theorem blk_cos (b : Fin 8) (s : Fin 4096) (l : Fin 128) :
    @Eq EReal ((iblk0 (V15 m ρ) c 5 (⟨b.val * 8 + s.val / 512, by show _ < 64; omega⟩ : Fin cfg0.N) : Vec Ideal S512x128 .f32) (ix2 ⟨s.val % 512, by omega⟩ l))
      ((W15 m ρ c (Proc.devRef .tc main_v88) : Vec Ideal S4096x128 .f32) (ix2 s l)) := by
  obtain ⟨-, -, -, h, -⟩ := idx0 (⟨b.val * 8 + s.val / 512, by show _ < 64; omega⟩ : Fin cfg0.N)
  blk_ext [iblk0, h]

/-- A block of the sine table, at the position of the token. -/
theorem blk_sin (b : Fin 8) (s : Fin 4096) (l : Fin 128) :
    @Eq EReal ((iblk0 (V15 m ρ) c 6 (⟨b.val * 8 + s.val / 512, by show _ < 64; omega⟩ : Fin cfg0.N) : Vec Ideal S512x128 .f32) (ix2 ⟨s.val % 512, by omega⟩ l))
      ((W15 m ρ c (Proc.devRef .tc main_v93) : Vec Ideal S4096x128 .f32) (ix2 s l)) := by
  obtain ⟨-, -, -, -, h, -⟩ := idx0 (⟨b.val * 8 + s.val / 512, by show _ < 64; omega⟩ : Fin cfg0.N)
  blk_ext [iblk0, h]

/-- One element of the layer's projection: token `(b, s)` against column `n` of the unpadded weights. -/
def P (b : Fin 8) (s : Fin 4096) (n : Fin 6144) : EReal :=
  ∑ k : Fin 1024, @HMul.hMul EReal EReal EReal _ ((m ((c : Thread nD τ).loc main_arg0) : Vec Ideal S8x4096x1024 .f32) (ix3 b s k))
    ((m ((c : Thread nD τ).loc main_arg1) : Vec Ideal S1024x6144 .f32) (ix2 k n))

/-- The body's product at a column whose weights are a column of the layer's, or 0. -/
theorem proj_at (b : Fin 8) (s : Fin 4096) (n : Fin 6656) (p : Prop) [Decidable p] (n' : p → Fin 6144)
    (hw : ∀ k : Fin 1024, @Eq EReal ((W15 m ρ c (Proc.devRef .tc main_v33) : Vec Ideal S1024x6656 .bf16) (ix2 k n))
      (if h : p then (m ((c : Thread nD τ).loc main_arg1) : Vec Ideal S1024x6144 .f32) (ix2 k (n' h)) else 0)) :
    proj (iblk0 (V15 m ρ) c 0 (⟨b.val * 8 + s.val / 512, by show _ < 64; omega⟩ : Fin cfg0.N))
      (iblk0 (V15 m ρ) c 1 (⟨b.val * 8 + s.val / 512, by show _ < 64; omega⟩ : Fin cfg0.N)) ⟨s.val % 512, by omega⟩ n
      = if h : p then P m c b s (n' h) else 0 := by
  unfold proj
  by_cases h : p
  · rw [dif_pos h]
    unfold P
    refine Finset.sum_congr rfl fun k _ => ?_
    rw [blk_x m ρ c b s k, blk_w m ρ c _ k n, hw k, dif_pos h]
  · rw [dif_neg h]
    refine Finset.sum_eq_zero fun k _ => ?_
    rw [blk_w m ρ c _ k n, hw k, dif_neg h]
    exact mul_zero _

end Cert.Attn

end
-- ==== Proof.Cols.lean ====
/- The projected array at the attention's columns, in terms of the layer's own projection. -/
module

public import proofs.«01_k».proof.Proof.Region0

@[expose] public section

set_option maxRecDepth 16384

noncomputable section

namespace Cert.Attn

open Idealize.ShloMosaic Idealize.ShloMosaic.TcCoe Idealize.SL.Sem Cert.KernelIdeal Cert.KernelIdeal.Gen

/-- One lane of a rotated pair: half 0 is `p₀ cos − p₁ sin`, half 1 is `p₁ cos + p₀ sin`. -/
def rotOf (p0 p1 cs sn : EReal) (f : Fin 2) : EReal := if f = 0 then p0 * cs + p1 * (- sn) else p1 * cs + p0 * sn

variable (m : (ℓ : Loc nD τ sig) → Buf (Elt Ideal) ℓ) (ρ : Dev nD → PrngReg) (c : Dev nD)

/-- The projection of the layer at a column of queries (`o = 1920`) or keys (`o = 2304`), rotated by the token's position. -/
def rotP (o : ℕ) (ho : o ≤ 2304) (b : Fin 8) (s : Fin 4096) (i : Fin 4) (d f : Fin 2) (j : Fin 24) : EReal :=
  rotOf (P m c b s ⟨o + (96 * i.val + 48 * d.val + 24 * 0 + j.val), by omega⟩) (P m c b s ⟨o + (96 * i.val + 48 * d.val + 24 * 1 + j.val), by omega⟩)
    (Ideal.cos (ang s j)) (Ideal.sin (ang s j)) f

/-- A lane of a padded head: the rotated projection in the first 24 lanes of each half of 32, else 0. -/
def lane (o : ℕ) (ho : o ≤ 2304) (b : Fin 8) (s : Fin 4096) (i : Fin 4) (d f : Fin 2) (j : Fin 32) : EReal :=
  if h : j.val < 24 then rotP m c o ho b s i d f ⟨j.val, h⟩ else 0

theorem row_eq (b : Fin 8) (s : Fin 4096) (n : Fin 6656) :
    projArr m ρ c (ix2 ⟨b.val * 4096 + s.val, by omega⟩ n)
      = out0_7 (F := Ideal) (iblk0 (V15 m ρ) c 0 ⟨b.val * 8 + s.val / 512, by show _ < 64; omega⟩) (iblk0 (V15 m ρ) c 1 ⟨b.val * 8 + s.val / 512, by show _ < 64; omega⟩)
        (iblk0 (V15 m ρ) c 2 ⟨b.val * 8 + s.val / 512, by show _ < 64; omega⟩) (iblk0 (V15 m ρ) c 3 ⟨b.val * 8 + s.val / 512, by show _ < 64; omega⟩)
        (iblk0 (V15 m ρ) c 4 ⟨b.val * 8 + s.val / 512, by show _ < 64; omega⟩) (iblk0 (V15 m ρ) c 5 ⟨b.val * 8 + s.val / 512, by show _ < 64; omega⟩)
        (iblk0 (V15 m ρ) c 6 ⟨b.val * 8 + s.val / 512, by show _ < 64; omega⟩) (ix2 ⟨s.val % 512, by omega⟩ n) := by
  have et : (⟨(b.val * 4096 + s.val) / 512, by show _ < 64; omega⟩ : Fin cfg0.N) = ⟨b.val * 8 + s.val / 512, by show _ < 64; omega⟩ := Fin.ext (by simp only []; omega)
  have er : (⟨(b.val * 4096 + s.val) % 512, by omega⟩ : Fin 512) = ⟨s.val % 512, by omega⟩ := Fin.ext (by simp only []; omega)
  rw [← et, ← er]
  rfl

/-- A rotated column of the body, in the layer's terms. -/
theorem rope_at (o o' : ℕ) (ho : o ≤ 2304) (ho' : o' ≤ 5504) (b : Fin 8) (s : Fin 4096) (i : Fin 4) (d f : Fin 2) (j : Fin 32)
    (hw : ∀ (k : Fin 1024) (f' : Fin 2), @Eq EReal ((W15 m ρ c (Proc.devRef .tc main_v33) : Vec Ideal S1024x6656 .bf16) (ix2 k ⟨o' + (128 * i.val + 64 * d.val + 32 * f'.val + j.val), by omega⟩))
      (if h : j.val < 24 then (m ((c : Thread nD τ).loc main_arg1) : Vec Ideal S1024x6144 .f32) (ix2 k ⟨o + (96 * i.val + 48 * d.val + 24 * f'.val + j.val), by omega⟩) else 0)) :
    ropeVal (iblk0 (V15 m ρ) c 0 (⟨b.val * 8 + s.val / 512, by show _ < 64; omega⟩ : Fin cfg0.N)) (iblk0 (V15 m ρ) c 1 (⟨b.val * 8 + s.val / 512, by show _ < 64; omega⟩ : Fin cfg0.N))
      (iblk0 (V15 m ρ) c 5 (⟨b.val * 8 + s.val / 512, by show _ < 64; omega⟩ : Fin cfg0.N)) (iblk0 (V15 m ρ) c 6 (⟨b.val * 8 + s.val / 512, by show _ < 64; omega⟩ : Fin cfg0.N))
      ⟨s.val % 512, by omega⟩ ⟨o' + 128 * i.val + (64 * d.val + 32 * f.val + j.val), by omega⟩
      ⟨o' + 128 * i.val + (part ⟨64 * d.val + 32 * f.val + j.val, by omega⟩).val, by omega⟩ ⟨64 * d.val + 32 * f.val + j.val, by omega⟩
      = lane m c o ho b s i d f j := by
  have hp : ∀ f' : Fin 2, proj (iblk0 (V15 m ρ) c 0 (⟨b.val * 8 + s.val / 512, by show _ < 64; omega⟩ : Fin cfg0.N)) (iblk0 (V15 m ρ) c 1 (⟨b.val * 8 + s.val / 512, by show _ < 64; omega⟩ : Fin cfg0.N))
      ⟨s.val % 512, by omega⟩ ⟨o' + (128 * i.val + 64 * d.val + 32 * f'.val + j.val), by omega⟩
      = if h : j.val < 24 then P m c b s ⟨o + (96 * i.val + 48 * d.val + 24 * f'.val + j.val), by omega⟩ else 0 :=
    fun f' => proj_at m ρ c b s _ (j.val < 24) (fun _ => ⟨o + (96 * i.val + 48 * d.val + 24 * f'.val + j.val), by omega⟩) fun k => hw k f'
  have em : (64 * d.val + 32 * f.val + j.val) % 32 = j.val := by omega
  have e1 : (⟨o' + 128 * i.val + (64 * d.val + 32 * f.val + j.val), by omega⟩ : Fin 6656) = ⟨o' + (128 * i.val + 64 * d.val + 32 * f.val + j.val), by omega⟩ :=
    Fin.ext (by simp only []; omega)
  unfold ropeVal
  rw [blk_cos, blk_sin, entry_cos, entry_sin, e1, hp f]
  have hf : f = 0 ∨ f = 1 := by omega
  rcases hf with rfl | rfl
  · have e2 : (⟨o' + 128 * i.val + (part ⟨64 * d.val + 32 * (0 : Fin 2).val + j.val, by omega⟩).val, by omega⟩ : Fin 6656) = ⟨o' + (128 * i.val + 64 * d.val + 32 * (1 : Fin 2).val + j.val), by omega⟩ := by
      apply Fin.ext
      simp only []
      rw [part_pos _ (by simp only [Fin.val_zero]; omega)]
      simp only [Fin.val_zero, Fin.val_one]
      omega
    rw [e2, hp 1, if_pos (show (64 * d.val + 32 * (0 : Fin 2).val + j.val) % 64 < 32 by simp only [Fin.val_zero]; omega)]
    unfold lane sinTab
    by_cases h : j.val < 24
    · rw [dif_pos h, dif_pos h, dif_pos (show (64 * d.val + 32 * (0 : Fin 2).val + j.val) % 32 < 24 by omega), dif_pos (show (64 * d.val + 32 * (0 : Fin 2).val + j.val) % 32 < 24 by omega), dif_pos h]
      have ej : (⟨(64 * d.val + 32 * (0 : Fin 2).val + j.val) % 32, by omega⟩ : Fin 24) = ⟨j.val, h⟩ := Fin.ext em
      rw [ej]
      unfold rotP rotOf
      rw [if_pos rfl]
      rfl
    · rw [dif_neg h, dif_neg h, dif_neg h]
      simp
  · have e2 : (⟨o' + 128 * i.val + (part ⟨64 * d.val + 32 * (1 : Fin 2).val + j.val, by omega⟩).val, by omega⟩ : Fin 6656) = ⟨o' + (128 * i.val + 64 * d.val + 32 * (0 : Fin 2).val + j.val), by omega⟩ := by
      apply Fin.ext
      simp only []
      rw [part_neg _ (by simp only [Fin.val_one]; omega)]
      simp only [Fin.val_zero, Fin.val_one]
      omega
    rw [e2, hp 0, if_neg (show ¬ (64 * d.val + 32 * (1 : Fin 2).val + j.val) % 64 < 32 by simp only [Fin.val_one]; omega)]
    unfold lane sinTab
    by_cases h : j.val < 24
    · rw [dif_pos h, dif_pos h, dif_pos (show (64 * d.val + 32 * (1 : Fin 2).val + j.val) % 32 < 24 by omega), dif_pos (show (64 * d.val + 32 * (1 : Fin 2).val + j.val) % 32 < 24 by omega), dif_pos h]
      have ej : (⟨(64 * d.val + 32 * (1 : Fin 2).val + j.val) % 32, by omega⟩ : Fin 24) = ⟨j.val, h⟩ := Fin.ext em
      rw [ej]
      unfold rotP rotOf
      rw [if_neg (by decide)]
      rfl
    · rw [dif_neg h, dif_neg h, dif_neg h]
      simp

/-- The scaled rotated queries in the projected array. -/
theorem col_q (b : Fin 8) (s : Fin 4096) (i : Fin 4) (d f : Fin 2) (j : Fin 32) :
    projArr m ρ c (ix2 ⟨b.val * 4096 + s.val, by omega⟩ ⟨4992 + 128 * i.val + (64 * d.val + 32 * f.val + j.val), by omega⟩)
      = lane m c 1920 (by omega) b s i d f j * qscale := by
  rw [row_eq]
  refine (block_q _ _ _ _ _ _ _ i _ ⟨s.val % 512, by omega⟩ ⟨64 * d.val + 32 * f.val + j.val, by omega⟩ rfl rfl).trans ?_
  rw [rope_at m ρ c 1920 4992 (by omega) (by omega) b s i d f j fun k f' => entry_wq m ρ c k i d f' j]

/-- The rotated keys in the projected array. -/
theorem col_k (b : Fin 8) (s : Fin 4096) (i : Fin 4) (d f : Fin 2) (j : Fin 32) :
    projArr m ρ c (ix2 ⟨b.val * 4096 + s.val, by omega⟩ ⟨5504 + 128 * i.val + (64 * d.val + 32 * f.val + j.val), by omega⟩)
      = lane m c 2304 (by omega) b s i d f j := by
  rw [row_eq]
  refine (block_k _ _ _ _ _ _ _ i _ ⟨s.val % 512, by omega⟩ ⟨64 * d.val + 32 * f.val + j.val, by omega⟩ rfl rfl).trans ?_
  rw [rope_at m ρ c 2304 5504 (by omega) (by omega) b s i d f j fun k f' => entry_wk m ρ c k i d f' j]

/-- The values in the projected array: lanes below 96 the projection, lane 96 one. -/
theorem col_v (b : Fin 8) (s : Fin 4096) (i : Fin 4) (e : Fin 128) :
    projArr m ρ c (ix2 ⟨b.val * 4096 + s.val, by omega⟩ ⟨6016 + 128 * i.val + e.val, by omega⟩)
      = if h : e.val < 96 then P m c b s ⟨2688 + (96 * i.val + e.val), by omega⟩ else if e.val = 96 then 1 else 0 := by
  have e1 : (⟨6016 + 128 * i.val + e.val, by omega⟩ : Fin 6656) = ⟨6016 + (128 * i.val + e.val), by omega⟩ := Fin.ext (by simp only []; omega)
  rw [row_eq]
  refine (block_v _ _ _ _ _ _ _ i _ ⟨s.val % 512, by omega⟩ e rfl rfl).trans ?_
  rw [e1, blk_bias, entry_bias,
    proj_at m ρ c b s _ (e.val < 96) (fun h => ⟨2688 + (96 * i.val + e.val), by omega⟩) fun k => entry_wv m ρ c k i e]
  by_cases h : e.val < 96
  · rw [dif_pos h, dif_pos h, if_neg (by omega)]
    exact add_zero _
  · rw [dif_neg h, dif_neg h]
    exact zero_add _

end Cert.Attn

end
-- ==== Proof.Region1.lean ====
/- The array that the attention launch writes, at an index, in terms of its blocks. -/
module

public import proofs.«01_k».proof.Proof.Payload
public import proofs.«01_k».proof.Proof.Cols

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

theorem idx1 : ∀ t : Fin grid1.N, win1_1.index t = ![t.val / 32, t.val % 8, 39 + t.val / 8 % 4] ∧ win1_2.index t = ![t.val / 32, 0, 43 + t.val / 8 % 4]
    ∧ win1_3.index t = ![t.val / 32, 0, 47 + t.val / 8 % 4] ∧ win1_4.index t = ![0, 0] ∧ win1_5.index t = ![0, 0] ∧ win1_0.index t = ![0]
    ∧ win1_6.index t = ![t.val / 32, t.val % 8, t.val / 8 % 4] := by decide +kernel

/-- The block that the body stores at a grid point. -/
def blkOut (t : Fin cfg1.N) : Vec Ideal S1x512x128 .bf16 :=
  k1_pay1 (F := Ideal) (k1_pay2 (iblk1 (V19 m ρ) c 4 t) ((iblk1 (V19 m ρ) c 0 t : Vec Ideal S1 .f32) (ix1 0))) (k1_pay5 (iblk1 (V19 m ρ) c 3 t))
    (k1_pay6 (iblk1 (V19 m ρ) c 1 t) (iblk1 (V19 m ρ) c 2 t)) (k1_pay7 (iblk1 (V19 m ρ) c 1 t) (iblk1 (V19 m ρ) c 2 t) (iblk1 (V19 m ρ) c 3 t)) (iblk1 (V19 m ρ) c 5 t)

theorem stored (t : Fin cfg1.N) : outsAt1 (V19 m ρ) c t = blkOut m ρ c t := by
  unfold outsAt1
  frame_out
  unfold blkOut
  have e : ∀ (x : Vec Ideal S1 .f32) h, View.ld x (Rect.unit ![0] ![1] inb_S1_S1_0) (Shape.Idx.first h) = x (ix1 0) := fun x h => by
    refine congrArg x (funext fun a => ?_)
    fin_cases a
    rfl
  erw [e]

/-- The attention's array after its launch: at each element the block stored at its grid point. -/
def attnArr : Vec Ideal S8x4096x512 .bf16 := fun i =>
  let t : Fin cfg1.N := ⟨(i 0).val * 32 + (i 2).val / 128 * 8 + (i 1).val / 512, by
    have h0 : (i 0).val < 8 := (i 0).isLt
    have h1 : (i 1).val < 4096 := (i 1).isLt
    have h2 : (i 2).val < 512 := (i 2).isLt
    show _ < 256
    omega⟩
  blkOut m ρ c t (ix3 0 ⟨(i 1).val % 512, by omega⟩ ⟨(i 2).val % 128, by omega⟩)

theorem W20_attn : W20 m ρ c (Proc.devRef .tc main_v102) = attnArr m ρ c := by
  refine (W20_arr m ρ c 6).trans ?_
  refine (dat1 (V19 m ρ) c).arrAt_eq_of_covers 6 _ (by decide +kernel) fun t hf y => ?_
  blk_simp
  rw [after1_6, stored]
  obtain ⟨-, -, -, -, -, -, h6⟩ := idx1 t
  have e0 : (((win1_6.blk t).view.emb y) 0 : ℕ) = t.val / 32 + (y 0).val := by
    blk_simp [h6]
  have e1 : (((win1_6.blk t).view.emb y) 1 : ℕ) = t.val % 8 * 512 + (y 1).val := by
    blk_simp [h6]
  have e2 : (((win1_6.blk t).view.emb y) 2 : ℕ) = t.val / 8 % 4 * 128 + (y 2).val := by
    blk_simp [h6]
  have y0 : (y 0).val < 1 := (y 0).isLt
  have y1 : (y 1).val < 512 := (y 1).isLt
  have y2 : (y 2).val < 128 := (y 2).isLt
  have ht : t.val < 256 := t.isLt
  have et : (⟨(((win1_6.blk t).view.emb y) 0 : ℕ) * 32 + (((win1_6.blk t).view.emb y) 2 : ℕ) / 128 * 8 + (((win1_6.blk t).view.emb y) 1 : ℕ) / 512, by rw [e0, e1, e2]; show _ < 256; omega⟩ : Fin cfg1.N) = t :=
    Fin.ext (by simp only []; rw [e0, e1, e2]; omega)
  have ey : (ix3 (0 : Fin 1) (⟨(((win1_6.blk t).view.emb y) 1 : ℕ) % 512, by omega⟩ : Fin 512) (⟨(((win1_6.blk t).view.emb y) 2 : ℕ) % 128, by omega⟩ : Fin 128) : S1x512x128.Idx) = y := by
    funext a
    fin_cases a
    · exact Fin.ext (by show 0 = (y 0).val; omega)
    · exact Fin.ext (by show (((win1_6.blk t).view.emb y) 1 : ℕ) % 512 = (y 1).val; rw [e1]; omega)
    · exact Fin.ext (by show (((win1_6.blk t).view.emb y) 2 : ℕ) % 128 = (y 2).val; rw [e2]; omega)
  unfold attnArr
  simp only []
  erw [et, ey]

/-- The grid point of a token's queries and a head. -/
abbrev pt (b : Fin 8) (s : Fin 4096) (i : Fin 4) : Fin cfg1.N := ⟨b.val * 32 + i.val * 8 + s.val / 512, by show _ < 256; omega⟩

theorem pt_b (b : Fin 8) (s : Fin 4096) (i : Fin 4) : (b.val * 32 + i.val * 8 + s.val / 512) / 32 = b.val := by omega
theorem pt_i (b : Fin 8) (s : Fin 4096) (i : Fin 4) : (b.val * 32 + i.val * 8 + s.val / 512) / 8 % 4 = i.val := by omega
theorem pt_s (b : Fin 8) (s : Fin 4096) (i : Fin 4) : (b.val * 32 + i.val * 8 + s.val / 512) % 8 = s.val / 512 := by omega

/-- The block of queries at the token's row. -/
theorem blk_q (b : Fin 8) (s : Fin 4096) (i : Fin 4) (a : Fin 1) (l : Fin 128) :
    @Eq EReal ((iblk1 (V19 m ρ) c 1 (pt b s i) : Vec Ideal S1x512x128 .bf16) (ix3 a ⟨s.val % 512, by omega⟩ l))
      (projArr m ρ c (ix2 ⟨b.val * 4096 + s.val, by omega⟩ ⟨4992 + 128 * i.val + l.val, by omega⟩)) := by
  have e := (entry_h m ρ c b s ⟨4992 + 128 * i.val + l.val, by omega⟩).trans (congrFun (W16_proj m ρ c) _)
  refine Eq.trans ?_ e
  obtain ⟨h, -⟩ := idx1 (pt b s i)
  simp only [pt_b, pt_i, pt_s] at h
  have e : ((win1_1.blk (pt b s i)).view.emb (ix3 a ⟨s.val % 512, by omega⟩ l) : S8x4096x6656.Idx) = ix3 b s ⟨4992 + 128 * i.val + l.val, by omega⟩ := by
    funext d
    apply Fin.ext
    fin_cases d
    · show (((win1_1.blk (pt b s i)).view.emb (ix3 a ⟨s.val % 512, by omega⟩ l)) 0 : ℕ) = b.val
      blk_simp [h]
    · show (((win1_1.blk (pt b s i)).view.emb (ix3 a ⟨s.val % 512, by omega⟩ l)) 1 : ℕ) = s.val
      blk_simp [h]
      change s.val / 512 * 512 + s.val % 512 = s.val
      omega
    · show (((win1_1.blk (pt b s i)).view.emb (ix3 a ⟨s.val % 512, by omega⟩ l)) 2 : ℕ) = 4992 + 128 * i.val + l.val
      blk_simp [h]
      omega
  exact congrArg (W19 m ρ c (Proc.devRef .tc main_v100) : Vec Ideal S8x4096x6656 .bf16) e

/-- The block of keys. -/
theorem blk_k (b : Fin 8) (s : Fin 4096) (i : Fin 4) (a : Fin 1) (t : Fin 4096) (l : Fin 128) :
    @Eq EReal ((iblk1 (V19 m ρ) c 2 (pt b s i) : Vec Ideal S1x4096x128 .bf16) (ix3 a t l))
      (projArr m ρ c (ix2 ⟨b.val * 4096 + t.val, by omega⟩ ⟨5504 + 128 * i.val + l.val, by omega⟩)) := by
  have e := (entry_h m ρ c b t ⟨5504 + 128 * i.val + l.val, by omega⟩).trans (congrFun (W16_proj m ρ c) _)
  refine Eq.trans ?_ e
  obtain ⟨-, h, -⟩ := idx1 (pt b s i)
  simp only [pt_b, pt_i, pt_s] at h
  have e : ((win1_2.blk (pt b s i)).view.emb (ix3 a t l) : S8x4096x6656.Idx) = ix3 b t ⟨5504 + 128 * i.val + l.val, by omega⟩ := by
    funext d
    apply Fin.ext
    fin_cases d
    · show (((win1_2.blk (pt b s i)).view.emb (ix3 a t l)) 0 : ℕ) = b.val
      blk_simp [h]
    · show (((win1_2.blk (pt b s i)).view.emb (ix3 a t l)) 1 : ℕ) = t.val
      blk_simp [h]
    · show (((win1_2.blk (pt b s i)).view.emb (ix3 a t l)) 2 : ℕ) = 5504 + 128 * i.val + l.val
      blk_simp [h]
      omega
  exact congrArg (W19 m ρ c (Proc.devRef .tc main_v100) : Vec Ideal S8x4096x6656 .bf16) e

/-- The block of values. -/
theorem blk_v (b : Fin 8) (s : Fin 4096) (i : Fin 4) (a : Fin 1) (t : Fin 4096) (l : Fin 128) :
    @Eq EReal ((iblk1 (V19 m ρ) c 3 (pt b s i) : Vec Ideal S1x4096x128 .bf16) (ix3 a t l))
      (projArr m ρ c (ix2 ⟨b.val * 4096 + t.val, by omega⟩ ⟨6016 + 128 * i.val + l.val, by omega⟩)) := by
  have e := (entry_h m ρ c b t ⟨6016 + 128 * i.val + l.val, by omega⟩).trans (congrFun (W16_proj m ρ c) _)
  refine Eq.trans ?_ e
  obtain ⟨-, -, h, -⟩ := idx1 (pt b s i)
  simp only [pt_b, pt_i, pt_s] at h
  have e : ((win1_3.blk (pt b s i)).view.emb (ix3 a t l) : S8x4096x6656.Idx) = ix3 b t ⟨6016 + 128 * i.val + l.val, by omega⟩ := by
    funext d
    apply Fin.ext
    fin_cases d
    · show (((win1_3.blk (pt b s i)).view.emb (ix3 a t l)) 0 : ℕ) = b.val
      blk_simp [h]
    · show (((win1_3.blk (pt b s i)).view.emb (ix3 a t l)) 1 : ℕ) = t.val
      blk_simp [h]
    · show (((win1_3.blk (pt b s i)).view.emb (ix3 a t l)) 2 : ℕ) = 6016 + 128 * i.val + l.val
      blk_simp [h]
      omega
  exact congrArg (W19 m ρ c (Proc.devRef .tc main_v100) : Vec Ideal S8x4096x6656 .bf16) e

/-- The block of the λ vectors is the vectors. -/
theorem blk_lam (t : Fin cfg1.N) : (iblk1 (V19 m ρ) c 4 t : Vec Ideal S4x48 .f32) = m ((c : Thread nD τ).loc main_arg3) := by
  funext x
  rw [← entry_lam m ρ c]
  obtain ⟨-, -, -, h, -⟩ := idx1 t
  have e : ((win1_4.blk t).view.emb x : S4x48.Idx) = x := by
    funext d
    apply Fin.ext
    fin_cases d
    · show (((win1_4.blk t).view.emb x) 0 : ℕ) = (x 0).val
      blk_simp [h]
    · show (((win1_4.blk t).view.emb x) 1 : ℕ) = (x 1).val
      blk_simp [h]
  exact congrArg (W19 m ρ c (Proc.devRef .tc main_arg3) : Vec Ideal S4x48 .f32) e

/-- The block of the norm's scale is the scale. -/
theorem blk_g (t : Fin cfg1.N) (a : Fin 1) (l : Fin 128) :
    @Eq EReal ((iblk1 (V19 m ρ) c 5 t : Vec Ideal S1x128 .f32) (ix2 a l)) ((W19 m ρ c (Proc.devRef .tc main_v99) : Vec Ideal S1x128 .f32) (ix2 0 l)) := by
  obtain ⟨-, -, -, -, h, -⟩ := idx1 t
  have e : ((win1_5.blk t).view.emb (ix2 a l) : S1x128.Idx) = ix2 0 l := by
    funext d
    apply Fin.ext
    fin_cases d
    · show (((win1_5.blk t).view.emb (ix2 a l)) 0 : ℕ) = 0
      blk_simp [h]
    · show (((win1_5.blk t).view.emb (ix2 a l)) 1 : ℕ) = l.val
      blk_simp [h]
  exact congrArg (W19 m ρ c (Proc.devRef .tc main_v99) : Vec Ideal S1x128 .f32) e

/-- The block of the initial λ is the initial λ. -/
theorem blk_li (t : Fin cfg1.N) :
    @Eq EReal ((iblk1 (V19 m ρ) c 0 t : Vec Ideal S1 .f32) (ix1 0)) ((m ((c : Thread nD τ).loc main_arg5) : Vec Ideal S_ .f32) ix0) := by
  refine Eq.trans ?_ (entry_li m ρ c)
  obtain ⟨-, -, -, -, -, h, -⟩ := idx1 t
  have e : ((win1_0.blk t).view.emb (ix1 0) : S1.Idx) = ix1 0 := by
    funext d
    apply Fin.ext
    fin_cases d
    show (((win1_0.blk t).view.emb (ix1 0)) 0 : ℕ) = 0
    blk_simp [h]
    rfl
  exact congrArg (W19 m ρ c (Proc.devRef .tc main_v101) : Vec Ideal S1 .f32) e

end Cert.Attn

end
-- ==== Proof.Run.lean ====
/- The kernel's run with its result: the two pipelined calls and the host operations between them, read at the end. -/
module

public import proofs.«01_k».proof.Proof.Region1

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the run lemma's implicit arguments are found by unifying its conclusion with this one
set_option backward.isDefEq.respectTransparency.types false in
/-- The kernel runs and ends with the attention's array as its result and the arguments as launched. -/
theorem value_run : θ_run defs (onTc (τ := τ) (main (F := Ideal))) ⟨m, fun _ => 0, ρ⟩ (fun r => ∀ c : Dev nD,
      r.2.mem ((c.tc : Thread nD τ).loc main_v102) = attnArr m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => fun c =>
      ⟨(h c _ (mem_uc main_v102 (by decide))).trans (W20_attn m ρ c),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c)⟩)

end Cert.Attn

end
-- ==== Proof.KernelVal.lean ====
/- The attention kernel's result at an index, in terms of the layer's projection. -/
module

public import proofs.«01_k».proof.Proof.Region1
public import proofs.«01_k».proof.Proof.Cols
public import proofs.«01_k».proof.Proof.Payload

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- A score of the kernel: scaled rotated queries against rotated keys over the 64 lanes of a map. -/
def kscore (b : Fin 8) (s t : Fin 4096) (i : Fin 4) (d : Fin 2) : EReal :=
  ∑ x : Fin 64, (lane m c 1920 (by omega) b s i d ⟨x.val / 32, by omega⟩ ⟨x.val % 32, by omega⟩ * qscale)
    * lane m c 2304 (by omega) b t i d ⟨x.val / 32, by omega⟩ ⟨x.val % 32, by omega⟩

/-- A lane of the values. -/
def vlane (b : Fin 8) (t : Fin 4096) (i : Fin 4) (e : Fin 128) : EReal :=
  if h : e.val < 96 then P m c b t ⟨2688 + (96 * i.val + e.val), by omega⟩ else if e.val = 96 then 1 else 0

/-- The scores of the block at a token's grid point. -/
theorem score_at (b : Fin 8) (s t : Fin 4096) (i : Fin 4) (d : Fin 2) :
    scoreVal (iblk1 (V19 m ρ) c 1 (pt b s i)) (iblk1 (V19 m ρ) c 2 (pt b s i)) (64 * d.val) (by omega) ⟨s.val % 512, by omega⟩ t
      = kscore m c b s t i d := by
  unfold scoreVal kscore
  refine Finset.sum_congr rfl fun x _ => ?_
  have e : (64 * d.val + x.val) = (64 * d.val + 32 * (x.val / 32) + x.val % 32) := by omega
  have eq : (⟨4992 + 128 * i.val + (64 * d.val + x.val), by omega⟩ : Fin 6656) = ⟨4992 + 128 * i.val + (64 * d.val + 32 * (x.val / 32) + x.val % 32), by omega⟩ := Fin.ext (by simp only []; omega)
  have ek : (⟨5504 + 128 * i.val + (64 * d.val + x.val), by omega⟩ : Fin 6656) = ⟨5504 + 128 * i.val + (64 * d.val + 32 * (x.val / 32) + x.val % 32), by omega⟩ := Fin.ext (by simp only []; omega)
  refine congrArg₂ (· * ·) ?_ ?_
  · refine (blk_q m ρ c b s i 0 ⟨64 * d.val + x.val, by omega⟩).trans ?_
    simp only [eq]
    exact col_q m ρ c b s i d ⟨x.val / 32, by omega⟩ ⟨x.val % 32, by omega⟩
  · refine (blk_k m ρ c b s i 0 t ⟨64 * d.val + x.val, by omega⟩).trans ?_
    simp only [ek]
    exact col_k m ρ c b t i d ⟨x.val / 32, by omega⟩ ⟨x.val % 32, by omega⟩

/-- The values of the block at a token's grid point. -/
theorem value_at (b : Fin 8) (s t : Fin 4096) (i : Fin 4) (e : Fin 128) :
    @Eq EReal ((iblk1 (V19 m ρ) c 3 (pt b s i) : Vec Ideal S1x4096x128 .bf16) (ix3 0 t e)) (vlane m c b t i e) :=
  (blk_v m ρ c b s i 0 t e).trans (col_v m ρ c b t i e)

theorem vlane96 (b : Fin 8) (t : Fin 4096) (i : Fin 4) : vlane m c b t i ⟨96, by omega⟩ = 1 := by
  unfold vlane
  rw [dif_neg (by simp), if_pos rfl]

/-- The kernel's difference of the two maps at a lane. -/
def kdiff (b : Fin 8) (s : Fin 4096) (i : Fin 4) (x : Fin 128) : EReal :=
  mapVal (fun t => kscore m c b s t i 0) (fun t => vlane m c b t i x) (fun _ => 1)
    - lamVal (m ((c : Thread nD τ).loc main_arg3)) ((m ((c : Thread nD τ).loc main_arg5) : Vec Ideal S_ .f32) ix0)
      * mapVal (fun t => kscore m c b s t i 1) (fun t => vlane m c b t i x) (fun _ => 1)

/-- The kernel's result: the head norm of the difference of the two maps, in the first 96 lanes of each head. -/
theorem attn_at (b : Fin 8) (s : Fin 4096) (i : Fin 4) (l : Fin 128) :
    @Eq EReal (attnArr m ρ c (ix3 b s ⟨128 * i.val + l.val, by omega⟩))
      (normVal (kdiff m c b s i)
        (if h : l.val < 96 then @HMul.hMul EReal EReal EReal _ ((m ((c : Thread nD τ).loc main_arg4) : Vec Ideal S96 .f32) (ix1 ⟨l.val, h⟩)) (@HSub.hSub EReal EReal EReal _ 1 ((m ((c : Thread nD τ).loc main_arg5) : Vec Ideal S_ .f32) ix0)) else 0) l) := by
  have h1 : @Eq EReal (attnArr m ρ c (ix3 b s ⟨128 * i.val + l.val, by omega⟩)) (blkOut m ρ c (pt b s i) (ix3 0 ⟨s.val % 512, by omega⟩ l)) := by
    have et : (⟨b.val * 32 + (128 * i.val + l.val) / 128 * 8 + s.val / 512, by show _ < 256; omega⟩ : Fin cfg1.N) = pt b s i := by
      apply Fin.ext
      show b.val * 32 + (128 * i.val + l.val) / 128 * 8 + s.val / 512 = b.val * 32 + i.val * 8 + s.val / 512
      omega
    have el : (⟨(128 * i.val + l.val) % 128, by omega⟩ : Fin 128) = l := Fin.ext (by simp only []; omega)
    exact congrArg₂ (fun (t : Fin cfg1.N) (y : Fin 128) => blkOut m ρ c t (ix3 0 ⟨s.val % 512, by omega⟩ y)) et el
  refine h1.trans ?_
  unfold blkOut
  refine (out_apply _ _ _ _ _ 0 _ l).trans ?_
  have hg := (blk_g m ρ c (pt b s i) 0 l).trans (entry_g m ρ c l)
  refine congrArg₂ (fun D g => normVal D g l) (funext fun x => ?_) hg
  unfold kdiff
  refine congrArg₂ (· - ·) ?_ (congrArg₂ (· * ·) ?_ ?_)
  · refine (map0_apply _ _ _ _ _).trans ?_
    have hs : ∀ t, scoreVal (iblk1 (V19 m ρ) c 1 (pt b s i)) (iblk1 (V19 m ρ) c 2 (pt b s i)) 0 (by omega) ⟨s.val % 512, by omega⟩ t = kscore m c b s t i 0 :=
      fun t => score_at m ρ c b s t i 0
    simp only [hs]
    refine congrArg₂ (mapVal _) (funext fun t => value_at m ρ c b s t i x) (funext fun t => ?_)
    exact (value_at m ρ c b s t i _).trans (vlane96 m c b t i)
  · refine (lam_apply _ _ 0 0).trans ?_
    rw [blk_lam]
    exact congrArg (lamVal _) (blk_li m ρ c _)
  · have hs : ∀ t, k1_pay6 (F := Ideal) (iblk1 (V19 m ρ) c 1 (pt b s i)) (iblk1 (V19 m ρ) c 2 (pt b s i)) (ix2 ⟨s.val % 512, by omega⟩ t) = kscore m c b s t i 1 :=
      fun t => (score1_apply _ _ _ _).trans (score_at m ρ c b s t i 1)
    have hv : ∀ t e, @Eq EReal (k1_pay5 (F := Ideal) (iblk1 (V19 m ρ) c 3 (pt b s i)) (ix2 t e)) (vlane m c b t i e) :=
      fun t e => (v_apply _ t e).trans (value_at m ρ c b s t i e)
    have h96 : ∀ t, @Eq EReal (k1_pay5 (F := Ideal) (iblk1 (V19 m ρ) c 3 (pt b s i)) (ix2 t ⟨96, by omega⟩)) 1 :=
      fun t => (hv t _).trans (vlane96 m c b t i)
    rw [show (fun t => k1_pay6 (F := Ideal) (iblk1 (V19 m ρ) c 1 (pt b s i)) (iblk1 (V19 m ρ) c 2 (pt b s i)) (ix2 ⟨s.val % 512, by omega⟩ t)) = fun t => kscore m c b s t i 1 from funext hs]
    exact congrArg₂ (mapVal _) (funext fun t => hv t x) (funext h96)

end Cert.Attn

end
-- ==== Proof.Consts.lean ====
/- The numbers that the two programs' constants stand for. -/
module

public import Idealize.ShloMosaic.Lib.Pointwise

@[expose] public section

noncomputable section

namespace Cert.Attn

open Idealize.ShloMosaic

theorem c_ninf : Ideal.ofBits .f32 4286578688#32 = ⊥ := by
  simp [Ideal.ofBits, Ideal.ieee]

theorem c_inf : Ideal.ofBits .f32 0x7F800000#32 = ⊤ := by
  simp [Ideal.ofBits, Ideal.ieee]

theorem c_theta : Ideal.ofBits .f32 0x461C4000#32 = ((10000 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_48 : Ideal.ofBits .f32 0x42400000#32 = ((48 : ℝ) : EReal) := by
  simp [Ideal.ofBits, Ideal.ieee, -EReal.coe_mul]; norm_num

theorem c_96 : Ideal.ofBits .f32 1119879168#32 = ((96 : ℝ) : EReal) := by
  simp [Ideal.ofBits, Ideal.ieee, -EReal.coe_mul]; norm_num

end Cert.Attn

end
-- ==== Proof.MathLemmas.lean ====
/- Softmax over the reals: base 2 against base e, and sums over padded lanes. -/
module

public import proofs.«01_k».proof.Proof.Consts
public import proofs.«01_k».proof.Proof.Payload
public import proofs.«01_k».proof.Proof.Block0

@[expose] public section

noncomputable section

namespace Cert.Attn

open Idealize.ShloMosaic

/-- A sum of reals, taken in the extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- A maximum of finitely many reals from `⊥` is `⊥` or a real. -/
theorem fold_bot_or {ι : Type} (s : Finset ι) (f : ι → ℝ) :
    (s = ∅ ∧ Finset.fold max ⊥ (fun x => ((f x : ℝ) : EReal)) s = ⊥) ∨ ∃ M : ℝ, Finset.fold max ⊥ (fun x => ((f x : ℝ) : EReal)) s = (M : EReal) := by
  classical
  induction s using Finset.induction_on with
  | empty => left; simp
  | insert a s ha ih =>
    right
    rw [Finset.fold_insert ha]
    rcases ih with ⟨-, h⟩ | ⟨M, h⟩
    · exact ⟨f a, by rw [h]; simp⟩
    · exact ⟨max (f a) M, by rw [h]; exact (EReal.coe_strictMono.monotone.map_max).symm⟩

/-- The maximum of 4096 reals is a real. -/
theorem fold_real (f : Fin 4096 → ℝ) : ∃ M : ℝ, Finset.fold max (Ideal.ofBits .f32 4286578688#32) (fun x => ((f x : ℝ) : EReal)) Finset.univ = (M : EReal) := by
  rw [c_ninf]
  rcases fold_bot_or Finset.univ f with ⟨h, -⟩ | h
  · exact absurd h (Finset.univ_nonempty.ne_empty)
  · exact h

/-- The softmax weight of key `t` among the scores `a`. -/
def soft (a : Fin 4096 → ℝ) (t : Fin 4096) : ℝ := Real.exp (a t) / ∑ u : Fin 4096, Real.exp (a u)

theorem sum_exp_pos (a : Fin 4096 → ℝ) : 0 < ∑ u : Fin 4096, Real.exp (a u) :=
  Finset.sum_pos (fun _ _ => Real.exp_pos _) Finset.univ_nonempty

/-- The weights in base 2, with the scores divided by `log 2`, are the softmax weights. -/
theorem map_real (a v : Fin 4096 → ℝ) :
    mapVal (fun t => ((a t * (Real.log 2)⁻¹ : ℝ) : EReal)) (fun t => ((v t : ℝ) : EReal)) (fun _ => 1) = ((∑ t : Fin 4096, soft a t * v t : ℝ) : EReal) := by
  obtain ⟨M, hM⟩ := fold_real fun t => a t * (Real.log 2)⁻¹
  have hl : Real.log 2 ≠ 0 := (Real.log_pos (by norm_num)).ne'
  have he : ∀ t, FloatOps.exp2 (F := Ideal) (φ := .f32) (((a t * (Real.log 2)⁻¹ : ℝ) : EReal) - (M : EReal)) = ((Real.exp (a t) * Real.exp (-(Real.log 2 * M)) : ℝ) : EReal) := by
    intro t
    rw [← EReal.coe_sub]
    show Ideal.exp2 _ = _
    rw [Ideal.exp2_coe]
    refine congrArg _ ?_
    show (2 : ℝ) ^ (_ : ℝ) = _
    rw [Real.rpow_def_of_pos (by norm_num), ← Real.exp_add]
    refine congrArg _ ?_
    field_simp
    ring
  unfold mapVal
  rw [hM]
  simp only [he, mul_one]
  simp only [← EReal.coe_mul, coe_sum]
  have hE : (Real.exp (-(Real.log 2 * M))) ≠ 0 := (Real.exp_pos _).ne'
  have hS := (sum_exp_pos a).ne'
  have hd : (∑ t : Fin 4096, Real.exp (a t) * Real.exp (-(Real.log 2 * M))) ≠ 0 := by
    rw [← Finset.sum_mul]
    exact mul_ne_zero hS hE
  rw [Ideal.div_coe hd, ← EReal.coe_mul]
  refine congrArg _ ?_
  rw [← Finset.sum_mul, Finset.sum_mul]
  refine Finset.sum_congr rfl fun t _ => ?_
  unfold soft
  field_simp

/-- The reference's softmax, with the maximum taken out of the exponents, is the softmax weight. -/
theorem soft_real (a : Fin 4096 → ℝ) (t : Fin 4096) :
    Ideal.div (Ideal.exp (((a t : ℝ) : EReal) - max (Ideal.ofBits .f32 4286578688#32) (Finset.fold max (Ideal.ofBits .f32 4286578688#32) (fun x => ((a x : ℝ) : EReal)) Finset.univ)))
      (∑ x : Fin 4096, Ideal.exp (((a x : ℝ) : EReal) - max (Ideal.ofBits .f32 4286578688#32) (Finset.fold max (Ideal.ofBits .f32 4286578688#32) (fun x => ((a x : ℝ) : EReal)) Finset.univ)))
      = ((soft a t : ℝ) : EReal) := by
  obtain ⟨M, hM⟩ := fold_real a
  rw [hM, c_ninf, max_eq_right bot_le]
  simp only [← EReal.coe_sub, Ideal.exp_coe, coe_sum]
  have hd : (∑ x : Fin 4096, Real.exp (a x - M)) ≠ 0 := (Finset.sum_pos (fun _ _ => Real.exp_pos _) Finset.univ_nonempty).ne'
  rw [Ideal.div_coe hd, ← EReal.coe_mul]
  refine congrArg _ ?_
  unfold soft
  simp only [Real.exp_sub, ← Finset.sum_div]
  have hS := (sum_exp_pos a).ne'
  have hE := (Real.exp_pos M).ne'
  field_simp

/-- A sum over 64 lanes, two halves of 32 of which the first 24 count. -/
theorem sum64 {M : Type} [AddCommMonoid M] (F : Fin 64 → M) (G : Fin 2 → Fin 24 → M)
    (h1 : ∀ (f : Fin 2) (j : Fin 24), F ⟨32 * f.val + j.val, by omega⟩ = G f j)
    (h0 : ∀ (f : Fin 2) (j : Fin 8), F ⟨32 * f.val + (24 + j.val), by omega⟩ = 0) :
    ∑ x, F x = ∑ f, ∑ j, G f j := by
  have e : ∑ x, F x = ∑ p : Fin 2 × Fin 32, F ⟨32 * p.1.val + p.2.val, by have := p.1.isLt; have := p.2.isLt; omega⟩ := by
    refine (Fintype.sum_equiv (finProdFinEquiv (m := 2) (n := 32)) _ _ fun p => ?_).symm
    refine congrArg F (Fin.ext ?_)
    show 32 * p.1.val + p.2.val = p.2.val + 32 * p.1.val
    omega
  rw [e, Fintype.sum_prod_type]
  refine Finset.sum_congr rfl fun f _ => ?_
  rw [Fin.sum_univ_add (a := 24) (b := 8) fun y : Fin 32 => F ⟨32 * f.val + y.val, by omega⟩]
  have z : ∑ j : Fin 8, F ⟨32 * f.val + (Fin.natAdd 24 j : Fin 32).val, by have := (Fin.natAdd 24 j : Fin 32).isLt; omega⟩ = 0 :=
    Finset.sum_eq_zero fun j _ => h0 f j
  rw [z, add_zero]
  exact Finset.sum_congr rfl fun j _ => h1 f j

/-- A sum over 48 lanes as two halves of 24. -/
theorem sum48 {M : Type} [AddCommMonoid M] (F : Fin 48 → M) (G : Fin 2 → Fin 24 → M)
    (h1 : ∀ (f : Fin 2) (j : Fin 24), F ⟨24 * f.val + j.val, by omega⟩ = G f j) :
    ∑ x, F x = ∑ f, ∑ j, G f j := by
  have e : ∑ x, F x = ∑ p : Fin 2 × Fin 24, F ⟨24 * p.1.val + p.2.val, by have := p.1.isLt; have := p.2.isLt; omega⟩ := by
    refine (Fintype.sum_equiv (finProdFinEquiv (m := 2) (n := 24)) _ _ fun p => ?_).symm
    refine congrArg F (Fin.ext ?_)
    show 24 * p.1.val + p.2.val = p.2.val + 24 * p.1.val
    omega
  rw [e, Fintype.sum_prod_type]
  exact Finset.sum_congr rfl fun f _ => Finset.sum_congr rfl fun j _ => h1 f j

/-- A sum over 128 lanes of which the first 96 count. -/
theorem sum128 (F : Fin 128 → EReal) :
    (∑ x : Fin 128, if x.val < 96 then F x else 0) = ∑ x : Fin 96, F ⟨x.val, by omega⟩ := by
  rw [Fin.sum_univ_add (a := 96) (b := 32) fun x : Fin 128 => if x.val < 96 then F x else 0]
  have z : (∑ j : Fin 32, if (Fin.natAdd 96 j : Fin 128).val < 96 then F (Fin.natAdd 96 j) else 0) = 0 :=
    Finset.sum_eq_zero fun j _ => if_neg (by simp)
  rw [z, add_zero]
  exact Finset.sum_congr rfl fun j _ => if_pos (by simp)

end Cert.Attn

end
-- ==== Proof.Reals.lean ====
/- Over finite arguments the projection, the rotation and λ are reals. -/
module

public import proofs.«01_k».proof.Proof.MathLemmas
public import proofs.«01_k».proof.Proof.Cols

@[expose] public section

set_option maxRecDepth 16384

noncomputable section

namespace Cert.Attn

open Idealize.ShloMosaic Idealize.ShloMosaic.TcCoe Idealize.SL.Sem Cert.KernelIdeal Cert.KernelIdeal.Gen

/-- A token's angle is a real. -/
theorem ang_real (s : Fin 4096) (j : Fin 24) : ∃ r : ℝ, ang s j = (r : EReal) := by
  unfold ang
  rw [c_theta, c_two, c_48]
  show ∃ r : ℝ, (((BitVec.ofNat 32 s.val).toInt : ℝ) : EReal) * Ideal.div 1 (Ideal.pow _ (Ideal.div (_ * (((BitVec.ofNat 32 j.val).toInt : ℝ) : EReal)) _)) = _
  rw [← EReal.coe_mul, Ideal.div_coe (by norm_num : (48 : ℝ) ≠ 0), ← EReal.coe_mul, Ideal.pow_coe_coe,
    Ideal.div_coe (show Real.rpow 10000 _ ≠ 0 from (Real.rpow_pos_of_pos (by norm_num) _).ne'), one_mul, ← EReal.coe_mul]
  exact ⟨_, rfl⟩

theorem cos_real (s : Fin 4096) (j : Fin 24) : ∃ r : ℝ, Ideal.cos (ang s j) = (r : EReal) := by
  obtain ⟨r, h⟩ := ang_real s j
  exact ⟨Real.cos r, by rw [h, Ideal.cos_coe]⟩

theorem sin_real (s : Fin 4096) (j : Fin 24) : ∃ r : ℝ, Ideal.sin (ang s j) = (r : EReal) := by
  obtain ⟨r, h⟩ := ang_real s j
  exact ⟨Real.sin r, by rw [h, Ideal.sin_coe]⟩

/-- λ is a real where its vectors and the layer's constant are. -/
theorem lam_real (L : Vec Ideal S4x48 .f32) (li : EReal) (hL : ∀ i, ∃ r : ℝ, @Eq EReal (L i) r) (hl : ∃ r : ℝ, li = (r : EReal)) :
    ∃ r : ℝ, lamVal L li = (r : EReal) := by
  choose L' hL' using hL
  obtain ⟨l, rfl⟩ := hl
  unfold lamVal
  have e : ∀ a b : Fin 4, (∑ x : Fin 48, @HMul.hMul EReal EReal EReal _ (L (ix2 a x)) (L (ix2 b x))) = ((∑ x : Fin 48, L' (ix2 a x) * L' (ix2 b x) : ℝ) : EReal) := by
    intro a b
    rw [← coe_sum]
    exact Finset.sum_congr rfl fun x _ => (congrArg₂ (· * ·) (hL' _) (hL' _)).trans (EReal.coe_mul _ _).symm
  rw [e 0 1, e 2 3, Ideal.exp_coe, Ideal.exp_coe, ← EReal.coe_sub, ← EReal.coe_add]
  exact ⟨_, rfl⟩

variable (m : (ℓ : Loc nD τ sig) → Buf (Elt Ideal) ℓ) (ρ : Dev nD → PrngReg) (c : Dev nD)

/-- The projection is a real where the tokens and the weights are. -/
theorem P_real (h0 : ∀ i, ∃ r : ℝ, @Eq EReal ((m ((c : Thread nD τ).loc main_arg0) : Vec Ideal S8x4096x1024 .f32) i) r)
    (h1 : ∀ i, ∃ r : ℝ, @Eq EReal ((m ((c : Thread nD τ).loc main_arg1) : Vec Ideal S1024x6144 .f32) i) r) (b : Fin 8) (s : Fin 4096) (n : Fin 6144) :
    ∃ r : ℝ, P m c b s n = (r : EReal) := by
  choose X hX using h0
  choose W hW using h1
  refine ⟨∑ k : Fin 1024, X (ix3 b s k) * W (ix2 k n), ?_⟩
  rw [← coe_sum]
  exact Finset.sum_congr rfl fun k _ => (congrArg₂ (· * ·) (hX _) (hW _)).trans (EReal.coe_mul _ _).symm

theorem rotP_real (hP : ∀ b s n, ∃ r : ℝ, P m c b s n = (r : EReal)) (o : ℕ) (ho : o ≤ 2304) (b : Fin 8) (s : Fin 4096) (i : Fin 4) (d f : Fin 2) (j : Fin 24) :
    ∃ r : ℝ, rotP m c o ho b s i d f j = (r : EReal) := by
  unfold rotP rotOf
  obtain ⟨p0, h0⟩ := hP b s ⟨o + (96 * i.val + 48 * d.val + 24 * 0 + j.val), by omega⟩
  obtain ⟨p1, h1⟩ := hP b s ⟨o + (96 * i.val + 48 * d.val + 24 * 1 + j.val), by omega⟩
  obtain ⟨cs, hc⟩ := cos_real s j
  obtain ⟨sn, hs⟩ := sin_real s j
  rw [h0, h1, hc, hs]
  split
  · exact ⟨p0 * cs + p1 * (-sn), by push_cast; rfl⟩
  · exact ⟨p1 * cs + p0 * sn, by push_cast; rfl⟩

end Cert.Attn

end
-- ==== Proof.RefA.lean ====
/- The reference, read at an index: its projection, its rotation tables, its rotated queries and keys, its values and λ. -/
module

public import proofs.«01_k».proof.Proof.Gen.ReferenceIdeal.Read
public import proofs.«01_k».proof.Proof.HostT
public import proofs.«01_k».proof.Proof.Payload
public import proofs.«01_k».proof.Proof.Cols
public import Idealize.ShloMosaic.Lib.Pointwise

@[expose] public section

set_option maxRecDepth 16384

noncomputable section

namespace Cert.Attn.Ref

open Idealize.ShloMosaic Cert.ReferenceIdeal Cert.ReferenceIdeal.Read

variable (x0 : Vec Ideal S8x4096x1024 .f32) (x1 : Vec Ideal S1024x6144 .f32) (x3 : Vec Ideal S4x48 .f32) (x4 : Vec Ideal S96 .f32) (x5 : Vec Ideal S_ .f32)

/-- One element of the layer's projection. -/
def pr (b : Fin 8) (s : Fin 4096) (n : Fin 6144) : EReal :=
  ∑ k : Fin 1024, @HMul.hMul EReal EReal EReal _ (x0 (ix3 b s k)) (x1 (ix2 k n))

theorem at0 (b : Fin 8) (s : Fin 4096) (n : Fin 6144) : @Eq EReal (val_main_v0 (F := Ideal) x0 x1 (ix3 b s n)) (pr x0 x1 b s n) := by
  pointwise [val_main_v0]
  rfl

theorem at28 (s : Fin 4096) (j : Fin 24) : @Eq EReal (val_main_v28 (F := Ideal) (ix2 s j)) (Ideal.cos (ang s j)) := by
  pointwise [val_main_v28, val_main_v27, val_main_v25, val_main_v23, val_main_v22, val_main_v26, val_main_v24, val_main_v21, val_main_v20, val_main_cst_3, val_main_v19, val_main_v18, val_main_cst_2, val_main_v17,
    val_main_v15, val_main_v14, val_main_cst_0, val_main_v13, val_main_v12, val_main_cst, val_main_v11, val_main_v16, val_main_cst_1]
  rfl

theorem at29 (s : Fin 4096) (j : Fin 24) : @Eq EReal (val_main_v29 (F := Ideal) (ix2 s j)) (Ideal.sin (ang s j)) := by
  pointwise [val_main_v29, val_main_v27, val_main_v25, val_main_v23, val_main_v22, val_main_v26, val_main_v24, val_main_v21, val_main_v20, val_main_cst_3, val_main_v19, val_main_v18, val_main_cst_2, val_main_v17,
    val_main_v15, val_main_v14, val_main_cst_0, val_main_v13, val_main_v12, val_main_cst, val_main_v11, val_main_v16, val_main_cst_1]
  rfl

theorem at45 : @Eq EReal (val_main_v45 (F := Ideal) x3 x5 ix0) (lamVal x3 (x5 ix0)) := by
  pointwise [val_main_v45, val_main_v44, val_main_v36, val_main_v35, val_main_v34, val_main_v31, val_main_v30, val_main_v33, val_main_v32, val_main_v43, val_main_v42, val_main_v41, val_main_v38, val_main_v37, val_main_v40, val_main_v39, val_main_cst_4, val_main_cst_5]
  rfl

/-- A rotated element of the reference, lane `e` of 48, from the projection `A` and the tables `C` and `D`. -/
def rotE (A : S8x4096x6144.Idx → EReal) (C D : S4096x24.Idx → EReal) (o : ℕ) (ho : o ≤ 2304) (b : Fin 8) (s : Fin 4096) (i : Fin 4) (d : Fin 2) (e : Fin 48) : EReal :=
  if h : e.val < 24 then
    A (ix3 b s ⟨o + (i.val * 96 + d.val * 48 + e.val), by omega⟩) * C (ix2 s ⟨e.val, h⟩)
      - A (ix3 b s ⟨o + (i.val * 96 + d.val * 48 + (24 + e.val)), by omega⟩) * D (ix2 s ⟨e.val, h⟩)
  else
    A (ix3 b s ⟨o + (i.val * 96 + d.val * 48 + (24 + (e.val - 24))), by omega⟩) * C (ix2 s ⟨e.val - 24, by omega⟩)
      + A (ix3 b s ⟨o + (i.val * 96 + d.val * 48 + (e.val - 24)), by omega⟩) * D (ix2 s ⟨e.val - 24, by omega⟩)

theorem raw64 (b : Fin 8) (i : Fin 4) (d : Fin 2) (s : Fin 4096) (e : Fin 48) :
    @Eq EReal (val_main_v64 (F := Ideal) x0 x1 (ix5 b i d s e)) (rotE (val_main_v0 (F := Ideal) x0 x1) (val_main_v28 (F := Ideal)) (val_main_v29 (F := Ideal)) 1920 (by omega) b s i d e) := by
  unfold val_main_v64 val_main_v63 val_main_v59 val_main_v62 val_main_v56 val_main_v52 val_main_v55 val_main_v48 val_main_v49 val_main_v47 val_main_v46 val_main_v7
    val_main_v51 val_main_v54 val_main_v58 val_main_v61 val_main_v50 val_main_v53 val_main_v57 val_main_v60
  generalize val_main_v0 (F := Ideal) x0 x1 = A
  generalize val_main_v28 (F := Ideal) = C
  generalize val_main_v29 (F := Ideal) = D
  pointwise []
  rfl

theorem raw83 (b : Fin 8) (i : Fin 4) (d : Fin 2) (s : Fin 4096) (e : Fin 48) :
    @Eq EReal (val_main_v83 (F := Ideal) x0 x1 (ix5 b i d s e)) (rotE (val_main_v0 (F := Ideal) x0 x1) (val_main_v28 (F := Ideal)) (val_main_v29 (F := Ideal)) 2304 (by omega) b s i d e) := by
  unfold val_main_v83 val_main_v82 val_main_v78 val_main_v81 val_main_v75 val_main_v71 val_main_v74 val_main_v67 val_main_v68 val_main_v66 val_main_v65 val_main_v8
    val_main_v70 val_main_v73 val_main_v77 val_main_v80 val_main_v69 val_main_v72 val_main_v76 val_main_v79
  generalize val_main_v0 (F := Ideal) x0 x1 = A
  generalize val_main_v28 (F := Ideal) = C
  generalize val_main_v29 (F := Ideal) = D
  pointwise []
  rfl

theorem at85 (b : Fin 8) (i : Fin 4) (s : Fin 4096) (e : Fin 96) :
    @Eq EReal (val_main_v85 (F := Ideal) x0 x1 (ix4 b i s e)) (pr x0 x1 b s ⟨2688 + (96 * i.val + e.val), by omega⟩) := by
  have e1 : (⟨2688 + (i.val * 96 + e.val), by omega⟩ : Fin 6144) = ⟨2688 + (96 * i.val + e.val), by omega⟩ := Fin.ext (by simp only []; omega)
  refine Eq.trans ?_ (at0 x0 x1 b s _)
  rw [← e1]
  unfold val_main_v85 val_main_v84 val_main_v9
  generalize val_main_v0 (F := Ideal) x0 x1 = A
  pointwise []

/-- A rotated lane of the reference is the rotated pair of the layer's projection. -/
theorem rotE_eq (o : ℕ) (ho : o ≤ 2304) (b : Fin 8) (s : Fin 4096) (i : Fin 4) (d f : Fin 2) (j : Fin 24) :
    rotE (val_main_v0 (F := Ideal) x0 x1) (val_main_v28 (F := Ideal)) (val_main_v29 (F := Ideal)) o ho b s i d ⟨24 * f.val + j.val, by omega⟩
      = rotOf (pr x0 x1 b s ⟨o + (96 * i.val + 48 * d.val + 24 * 0 + j.val), by omega⟩) (pr x0 x1 b s ⟨o + (96 * i.val + 48 * d.val + 24 * 1 + j.val), by omega⟩)
        (Ideal.cos (ang s j)) (Ideal.sin (ang s j)) f := by
  have hA := at0 x0 x1
  have hC := at28
  have hD := at29
  revert hA hC hD
  generalize val_main_v0 (F := Ideal) x0 x1 = A
  generalize val_main_v28 (F := Ideal) = C
  generalize val_main_v29 (F := Ideal) = D
  intro hA hC hD
  have hf : f = 0 ∨ f = 1 := by omega
  unfold rotE rotOf
  rcases hf with rfl | rfl
  · rw [dif_pos (show 24 * (0 : Fin 2).val + j.val < 24 by simp only [Fin.val_zero]; omega), if_pos rfl, hA, hA, hC, hD, sub_eq_add_neg, ← mul_neg]
    have e1 : (⟨o + (i.val * 96 + d.val * 48 + (24 * (0 : Fin 2).val + j.val)), by simp only [Fin.val_zero]; omega⟩ : Fin 6144) = ⟨o + (96 * i.val + 48 * d.val + 24 * 0 + j.val), by omega⟩ := Fin.ext (by simp only [Fin.val_zero]; omega)
    have e2 : (⟨o + (i.val * 96 + d.val * 48 + (24 + (24 * (0 : Fin 2).val + j.val))), by simp only [Fin.val_zero]; omega⟩ : Fin 6144) = ⟨o + (96 * i.val + 48 * d.val + 24 * 1 + j.val), by omega⟩ := Fin.ext (by simp only [Fin.val_zero]; omega)
    have e3 : (⟨24 * (0 : Fin 2).val + j.val, by simp only [Fin.val_zero]; omega⟩ : Fin 24) = j := Fin.ext (by simp only [Fin.val_zero]; omega)
    simp only [e1, e2, e3]
  · rw [dif_neg (show ¬ 24 * (1 : Fin 2).val + j.val < 24 by simp only [Fin.val_one]; omega), if_neg (by decide), hA, hA, hC, hD]
    have e1 : (⟨o + (i.val * 96 + d.val * 48 + (24 + (24 * (1 : Fin 2).val + j.val - 24))), by simp only [Fin.val_one]; omega⟩ : Fin 6144) = ⟨o + (96 * i.val + 48 * d.val + 24 * 1 + j.val), by omega⟩ := Fin.ext (by simp only [Fin.val_one]; omega)
    have e2 : (⟨o + (i.val * 96 + d.val * 48 + (24 * (1 : Fin 2).val + j.val - 24)), by simp only [Fin.val_one]; omega⟩ : Fin 6144) = ⟨o + (96 * i.val + 48 * d.val + 24 * 0 + j.val), by omega⟩ := Fin.ext (by simp only [Fin.val_one]; omega)
    have e3 : (⟨24 * (1 : Fin 2).val + j.val - 24, by simp only [Fin.val_one]; omega⟩ : Fin 24) = j := Fin.ext (by simp only [Fin.val_one]; omega)
    simp only [e1, e2, e3]

end Cert.Attn.Ref

end
-- ==== Proof.RefB.lean ====
/- The reference's attention, read at an index from its scores. -/
module

public import proofs.«01_k».proof.Proof.Gen.ReferenceIdeal.Read
public import proofs.«01_k».proof.Proof.HostT
public import Idealize.ShloMosaic.Lib.Pointwise

@[expose] public section

set_option maxRecDepth 16384

noncomputable section

namespace Cert.Attn.Ref

open Idealize.ShloMosaic Cert.ReferenceIdeal Cert.ReferenceIdeal.Gen Cert.ReferenceIdeal.Read

variable (x0 : Vec Ideal S8x4096x1024 .f32) (x1 : Vec Ideal S1024x6144 .f32) (x3 : Vec Ideal S4x48 .f32) (x4 : Vec Ideal S96 .f32) (x5 : Vec Ideal S_ .f32)

/-- The reference's score: the product of the rotated rows over the root of 48. -/
theorem at89 (b : Fin 8) (i : Fin 4) (d : Fin 2) (s t : Fin 4096) : @Eq EReal (val_main_v89 (F := Ideal) x0 x1 (ix5 b i d s t))
    (Ideal.div (∑ x : Fin 48, @HMul.hMul EReal EReal EReal _ (val_main_v64 (F := Ideal) x0 x1 (ix5 b i d s x)) (val_main_v83 (F := Ideal) x0 x1 (ix5 b i d t x))) (Ideal.sqrt (Ideal.ofBits .f32 0x42400000#32))) := by
  unfold val_main_v89 val_main_v86
  generalize val_main_v64 (F := Ideal) x0 x1 = A
  generalize val_main_v83 (F := Ideal) x0 x1 = B
  pointwise [val_main_v88, val_main_v87, val_main_cst_6]

/-- A host maximum over the last of five axes, of any length. -/
theorem hostMax {n : ℕ} (S : FVec Ideal (⟨5, ![8, 4, 2, 4096, n]⟩ : Shape) .f32) (z : FVec Ideal S_ .f32)
    (h' : (⟨5, ![8, 4, 2, 4096, n]⟩ : Shape).ReducesTo [4] S8x4x2x4096) (h : (⟨5, ![8, 4, 2, 4096, n]⟩ : Shape).Reduces [4] S8x4x2x4096) (hu : 0 < S_.numel)
    (b : Fin 8) (i : Fin 4) (d : Fin 2) (s : Fin 4096) :
    @Eq EReal (Host.reduce (FloatOps.maximumf (F := Ideal) (φ := .f32)) S z h' hu (ix4 b i d s)) (Finset.fold max (z (Shape.Idx.first hu)) (fun t : Fin n => (S (ix5 b i d s t) : EReal)) Finset.univ) := by
  rw [Host.reduce_eq_fold_single FloatOps.maximumf S z h' h hu]
  have hf : (S ∘ h.lift (ix4 b i d s)) = fun t : Fin n => S (ix5 b i d s t) := funext fun t => congrArg S (funext fun a => Fin.ext (by fin_cases a <;> rfl))
  exact congrArg (fun f => Finset.fold max (z (Shape.Idx.first hu) : EReal) f (Finset.univ : Finset (Fin n))) hf

/-- The greatest score of a row. -/
theorem at90 (b : Fin 8) (i : Fin 4) (d : Fin 2) (s : Fin 4096) : @Eq EReal (val_main_v90 (F := Ideal) x0 x1 (ix4 b i d s))
    (Finset.fold max (Ideal.ofBits .f32 4286578688#32) (fun t : Fin 4096 => (val_main_v89 (F := Ideal) x0 x1 (ix5 b i d s t) : EReal)) Finset.univ) := by
  unfold val_main_v90
  generalize val_main_v89 (F := Ideal) x0 x1 = S
  exact hostMax S _ reducesTo_S8x4x2x4096x4096_S8x4x2x4096_d4 (by decide) h_S_ b i d s

/-- What a row's scores are lessened by. -/
def rowMax (b : Fin 8) (i : Fin 4) (d : Fin 2) (s : Fin 4096) : EReal :=
  max (Ideal.ofBits .f32 4286578688#32) (Finset.fold max (Ideal.ofBits .f32 4286578688#32) (fun t : Fin 4096 => (val_main_v89 (F := Ideal) x0 x1 (ix5 b i d s t) : EReal)) Finset.univ)

theorem at92 (b : Fin 8) (i : Fin 4) (d : Fin 2) (s : Fin 4096) : @Eq EReal (val_main_v92 (F := Ideal) x0 x1 (ix4 b i d s)) (rowMax x0 x1 b i d s) := by
  rw [val_main_v92_apply, val_main_v91_apply, val_main_cst_8_apply]
  exact congrArg (max (Ideal.ofBits .f32 4286578688#32)) (at90 x0 x1 b i d s)

theorem at96 (b : Fin 8) (i : Fin 4) (d : Fin 2) (s t : Fin 4096) : @Eq EReal (val_main_v96 (F := Ideal) x0 x1 (ix5 b i d s t))
    (Ideal.exp (@HSub.hSub EReal EReal EReal _ (val_main_v89 (F := Ideal) x0 x1 (ix5 b i d s t)) (rowMax x0 x1 b i d s))) := by
  have e94 : idx_main_v94 (ix5 b i d s t) = ix5 b i d s (0 : Fin 1) := by funext a; fin_cases a <;> rfl
  have e93 : idx_main_v93 (ix5 b i d s (0 : Fin 1)) = ix4 b i d s := by funext a; fin_cases a <;> rfl
  rw [val_main_v96_apply, val_main_v95_apply, val_main_v94_apply, e94, val_main_v93_apply, e93, ← at92]
  rfl

/-- The reference's softmax. -/
theorem at100 (b : Fin 8) (i : Fin 4) (d : Fin 2) (s t : Fin 4096) : @Eq EReal (val_main_v100 (F := Ideal) x0 x1 (ix5 b i d s t))
    (Ideal.div (Ideal.exp (@HSub.hSub EReal EReal EReal _ (val_main_v89 (F := Ideal) x0 x1 (ix5 b i d s t)) (rowMax x0 x1 b i d s)))
      (∑ u : Fin 4096, Ideal.exp (@HSub.hSub EReal EReal EReal _ (val_main_v89 (F := Ideal) x0 x1 (ix5 b i d s u)) (rowMax x0 x1 b i d s)))) := by
  have e99 : idx_main_v99 (ix5 b i d s t) = ix5 b i d s (0 : Fin 1) := by funext a; fin_cases a <;> rfl
  have e98 : idx_main_v98 (ix5 b i d s (0 : Fin 1)) = ix4 b i d s := by funext a; fin_cases a <;> rfl
  have e97 : ∀ u, idx_main_v97 (ix4 b i d s) u = ix5 b i d s u := fun u => by funext a; fin_cases a <;> rfl
  rw [val_main_v100_apply, val_main_v99_apply, e99, val_main_v98_apply, e98, val_main_v97_apply, val_main_cst_9_apply]
  simp only [e97]
  have h0 : @HAdd.hAdd EReal EReal EReal _ (FloatOps.ofBits (F := Ideal) .f32 0x00000000#32) (∑ u : Fin 4096, (val_main_v96 (F := Ideal) x0 x1 (ix5 b i d s u) : EReal))
      = ∑ u : Fin 4096, Ideal.exp (@HSub.hSub EReal EReal EReal _ (val_main_v89 (F := Ideal) x0 x1 (ix5 b i d s u)) (rowMax x0 x1 b i d s)) := by
    have hz : (FloatOps.ofBits (F := Ideal) .f32 0x00000000#32 : EReal) = 0 := Ideal.ofBits_zero_f32
    rw [hz, zero_add]
    exact Finset.sum_congr rfl fun u _ => at96 x0 x1 b i d s u
  exact congrArg₂ Ideal.div (at96 x0 x1 b i d s t) h0

end Cert.Attn.Ref

end
-- ==== Proof.RefC.lean ====
/- The reference's head outputs, norm and result, read at an index from its attention weights. -/
module

public import proofs.«01_k».proof.Proof.Gen.ReferenceIdeal.Read
public import proofs.«01_k».proof.Proof.HostT
public import Idealize.ShloMosaic.Lib.Pointwise

@[expose] public section

set_option maxRecDepth 16384

noncomputable section

namespace Cert.Attn.Ref

open Idealize.ShloMosaic Cert.ReferenceIdeal Cert.ReferenceIdeal.Gen Cert.ReferenceIdeal.Read

variable (x0 : Vec Ideal S8x4096x1024 .f32) (x1 : Vec Ideal S1024x6144 .f32) (x3 : Vec Ideal S4x48 .f32) (x4 : Vec Ideal S96 .f32) (x5 : Vec Ideal S_ .f32)

theorem flat0 (b i s t : ℕ) (hi : i < 4) (hs : s < 4096) (ht : t < 4096) : (((b * 4 + i) * 4096 + s) * 4096 + t) / 67108864 = b := by omega
theorem flat1 (b i s t : ℕ) (hi : i < 4) (hs : s < 4096) (ht : t < 4096) : (((b * 4 + i) * 4096 + s) * 4096 + t) / 16777216 % 4 = i := by omega
theorem flat3 (b i s t : ℕ) (hs : s < 4096) (ht : t < 4096) : (((b * 4 + i) * 4096 + s) * 4096 + t) / 4096 % 4096 = s := by omega
theorem flat4 (b i s t : ℕ) (ht : t < 4096) : (((b * 4 + i) * 4096 + s) * 4096 + t) % 4096 = t := by omega

theorem idx102 (b : Fin 8) (i : Fin 4) (s t : Fin 4096) : idx_main_v102 (ix4 b i s t) = ix5 b i (0 : Fin 1) s t := by
  funext a
  apply Fin.ext
  match a with
  | ⟨0, _⟩ => exact flat0 _ _ _ _ i.isLt s.isLt t.isLt
  | ⟨1, _⟩ => exact flat1 _ _ _ _ i.isLt s.isLt t.isLt
  | ⟨2, _⟩ => rfl
  | ⟨3, _⟩ => exact flat3 _ _ _ _ s.isLt t.isLt
  | ⟨4, _⟩ => exact flat4 _ _ _ _ t.isLt

theorem idx104 (b : Fin 8) (i : Fin 4) (s t : Fin 4096) : idx_main_v104 (ix4 b i s t) = ix5 b i (0 : Fin 1) s t := by
  funext a
  apply Fin.ext
  match a with
  | ⟨0, _⟩ => exact flat0 _ _ _ _ i.isLt s.isLt t.isLt
  | ⟨1, _⟩ => exact flat1 _ _ _ _ i.isLt s.isLt t.isLt
  | ⟨2, _⟩ => rfl
  | ⟨3, _⟩ => exact flat3 _ _ _ _ s.isLt t.isLt
  | ⟨4, _⟩ => exact flat4 _ _ _ _ t.isLt

/-- A head's difference of weights. -/
theorem at107 (b : Fin 8) (i : Fin 4) (s t : Fin 4096) : @Eq EReal (val_main_v107 (F := Ideal) x0 x1 x3 x5 (ix4 b i s t))
    (@HSub.hSub EReal EReal EReal _ (val_main_v100 (F := Ideal) x0 x1 (ix5 b i 0 s t))
      (@HMul.hMul EReal EReal EReal _ (val_main_v45 (F := Ideal) x3 x5 ix0) (val_main_v100 (F := Ideal) x0 x1 (ix5 b i 1 s t)))) := by
  have e101 : idx_main_v101 (ix5 b i (0 : Fin 1) s t) = ix5 b i 0 s t := by funext a; fin_cases a <;> rfl
  have e103 : idx_main_v103 (ix5 b i (0 : Fin 1) s t) = ix5 b i 1 s t := by funext a; fin_cases a <;> rfl
  have e105 : idx_main_v105 (ix4 b i s t) = ix0 := funext fun a => a.elim0
  rw [val_main_v107_apply, val_main_v102_apply, idx102, val_main_v101_apply, e101, val_main_v106_apply, val_main_v105_apply, e105, val_main_v104_apply, idx104, val_main_v103_apply, e103]
  rfl

/-- A head's output: the difference of the weights against the values. -/
theorem at108 (b : Fin 8) (i : Fin 4) (s : Fin 4096) (e : Fin 96) : @Eq EReal (val_main_v108 (F := Ideal) x0 x1 x3 x5 (ix4 b i s e))
    (∑ t : Fin 4096, @HMul.hMul EReal EReal EReal _ (@HSub.hSub EReal EReal EReal _ (val_main_v100 (F := Ideal) x0 x1 (ix5 b i 0 s t))
      (@HMul.hMul EReal EReal EReal _ (val_main_v45 (F := Ideal) x3 x5 ix0) (val_main_v100 (F := Ideal) x0 x1 (ix5 b i 1 s t)))) (val_main_v85 (F := Ideal) x0 x1 (ix4 b i t e))) := by
  have el : ∀ t, lidx_main_v108 (ix4 b i s e) t = ix4 b i s t := fun t => by funext a; fin_cases a <;> rfl
  have er : ∀ t, ridx_main_v108 (ix4 b i s e) t = ix4 b i t e := fun t => by funext a; fin_cases a <;> rfl
  rw [val_main_v108_apply]
  refine Finset.sum_congr rfl fun t _ => ?_
  rw [el, er]
  exact congrArg (fun z : EReal => z * (val_main_v85 (F := Ideal) x0 x1 (ix4 b i t e) : EReal)) (at107 x0 x1 x3 x5 b i s t)

/-- The head norm and its gain. -/
theorem at124 (b : Fin 8) (i : Fin 4) (s : Fin 4096) (e : Fin 96) (O : Fin 96 → EReal) (hO : ∀ e, @Eq EReal (val_main_v108 (F := Ideal) x0 x1 x3 x5 (ix4 b i s e)) (O e)) :
    @Eq EReal (val_main_v124 (F := Ideal) x0 x1 x3 x4 x5 (ix4 b i s e))
      (O e * Ideal.rsqrt (Ideal.div (∑ x : Fin 96, O x * O x) (Ideal.ofBits .f32 1119879168#32) + Ideal.ofBits .f32 925353388#32)
        * (show EReal from x4 (ix1 e)) * (1 - (show EReal from x5 ix0))) := by
  have e117 : idx_main_v117 (ix4 b i s e) = ix4 b i s (0 : Fin 1) := by funext a; fin_cases a <;> rfl
  have e111 : idx_main_v111 (ix4 b i s (0 : Fin 1)) = ix3 b i s := by funext a; fin_cases a <;> rfl
  have e110 : ∀ x, idx_main_v110 (ix3 b i s) x = ix4 b i s x := fun x => by funext a; fin_cases a <;> rfl
  have e120 : idx_main_v119 (idx_main_v120 (ix4 b i s e)) = ix1 e := by funext a; fin_cases a; rfl
  have e123 : idx_main_v123 (ix4 b i s e) = ix0 := funext fun a => a.elim0
  have h1 : (FloatOps.ofBits (F := Ideal) .f32 0x3F800000#32 : EReal) = 1 := Ideal.ofBits_one_f32
  have h110 : @Eq EReal (val_main_v110 (F := Ideal) x0 x1 x3 x5 (ix3 b i s)) (∑ x : Fin 96, O x * O x) := by
    rw [val_main_v110_apply, val_main_cst_10_apply]
    have hz : (FloatOps.ofBits (F := Ideal) .f32 0x00000000#32 : EReal) = 0 := Ideal.ofBits_zero_f32
    refine (congrArg (fun z : EReal => z + _) hz).trans ((zero_add _).trans ?_)
    refine Finset.sum_congr rfl fun x _ => ?_
    rw [e110, val_main_v109_apply]
    exact congrArg₂ (fun y z : EReal => y * z) (hO x) (hO x)
  rw [val_main_v124_apply, val_main_v121_apply, val_main_v118_apply, val_main_v117_apply, e117, val_main_v116_apply, val_main_v115_apply, val_main_v113_apply, val_main_v111_apply, e111,
    val_main_v112_apply, val_main_cst_11_apply, val_main_v114_apply, val_main_cst_12_apply, val_main_v120_apply, val_main_v119_apply, e120, val_main_v123_apply, e123, val_main_v122_apply, val_main_cst_13_apply]
  rw [← h1, ← h110, ← hO e]
  rfl

theorem idx127 (b : Fin 8) (s : Fin 4096) (i : Fin 4) (l : Fin 128) : idx_main_v127 (ix3 b s ⟨128 * i.val + l.val, by omega⟩) = ix4 b s i l := by
  have hb := b.isLt
  have hs := s.isLt
  have hi := i.isLt
  have hl := l.isLt
  funext a
  apply Fin.ext
  match a with
  | ⟨0, _⟩ => show ((b.val * 4096 + s.val) * 512 + (128 * i.val + l.val)) / 2097152 = b.val; omega
  | ⟨1, _⟩ => show ((b.val * 4096 + s.val) * 512 + (128 * i.val + l.val)) / 512 % 4096 = s.val; omega
  | ⟨2, _⟩ => show ((b.val * 4096 + s.val) * 512 + (128 * i.val + l.val)) / 128 % 4 = i.val; omega
  | ⟨3, _⟩ => show ((b.val * 4096 + s.val) * 512 + (128 * i.val + l.val)) % 128 = l.val; omega

/-- The result: a head's values in the first 96 of its 128 lanes, zero in the others. -/
theorem at128 (b : Fin 8) (s : Fin 4096) (i : Fin 4) (l : Fin 128) : @Eq EReal (val_main_v128 (F := Ideal) x0 x1 x3 x4 x5 (ix3 b s ⟨128 * i.val + l.val, by omega⟩))
    (if h : l.val < 96 then (show EReal from val_main_v124 (F := Ideal) x0 x1 x3 x4 x5 (ix4 b i s ⟨l.val, h⟩)) else 0) := by
  rw [val_main_v128_apply, val_main_v127_apply, idx127]
  have h126 : @Eq EReal (val_main_v126 (F := Ideal) x0 x1 x3 x4 x5 (ix4 b s i l)) (if h : l.val < 96 then (show EReal from val_main_v125 (F := Ideal) x0 x1 x3 x4 x5 (ix4 b s i ⟨l.val, h⟩)) else (val_main_call0_v0 (F := Ideal) (Shape.Idx.first h_S_))) := by
    unfold val_main_v126
    generalize val_main_v125 (F := Ideal) x0 x1 x3 x4 x5 = y
    generalize val_main_call0_v0 (F := Ideal) = z
    pointwise []
  refine h126.trans ?_
  by_cases h : l.val < 96
  · rw [dif_pos h, dif_pos h, val_main_v125_apply]
    exact congrArg (val_main_v124 (F := Ideal) x0 x1 x3 x4 x5) (by funext a; fin_cases a <;> rfl)
  · rw [dif_neg h, dif_neg h]
    show ((((0#32 : BitVec 32).toInt : ℝ)) : EReal) = 0
    simp

end Cert.Attn.Ref

end
-- ==== Proof.Equal.lean ====
/- The kernel's result is the reference's: over finite arguments both are the head norm of the same reals. -/
module

public import proofs.«01_k».proof.Proof.KernelVal
public import proofs.«01_k».proof.Proof.Reals
public import proofs.«01_k».proof.Proof.RefA
public import proofs.«01_k».proof.Proof.RefB
public import proofs.«01_k».proof.Proof.RefC

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The tokens, the weights, λ's vectors, the gain and the layer's constant, as launched. -/
abbrev a0 : Vec Ideal S8x4096x1024 .f32 := m ((c : Thread nD τ).loc main_arg0)
abbrev a1 : Vec Ideal S1024x6144 .f32 := m ((c : Thread nD τ).loc main_arg1)
abbrev a3 : Vec Ideal S4x48 .f32 := m ((c : Thread nD τ).loc main_arg3)
abbrev a4 : Vec Ideal S96 .f32 := m ((c : Thread nD τ).loc main_arg4)
abbrev a5 : Vec Ideal S_ .f32 := m ((c : Thread nD τ).loc main_arg5)

/-- The product of a query with a key, over the two halves of 24 lanes. -/
def dotR (q k : Fin 2 → Fin 24 → ℝ) : ℝ := ∑ f : Fin 2, ∑ j : Fin 24, q f j * k f j

/-- A kernel score is the scaled product over `log 2`. -/
theorem kscore_real (b : Fin 8) (s t : Fin 4096) (i : Fin 4) (d : Fin 2) (q k : Fin 2 → Fin 24 → ℝ)
    (hq : ∀ f j, rotP m c 1920 (by omega) b s i d f j = (q f j : EReal)) (hk : ∀ f j, rotP m c 2304 (by omega) b t i d f j = (k f j : EReal)) :
    kscore m c b s t i d = ((dotR q k * (Real.sqrt 48)⁻¹ * (Real.log 2)⁻¹ : ℝ) : EReal) := by
  have e : ∀ (f : Fin 2) (j : ℕ) (hj : j < 32), (⟨(32 * f.val + j) / 32, by omega⟩ : Fin 2) = f ∧ (⟨(32 * f.val + j) % 32, by omega⟩ : Fin 32) = ⟨j, hj⟩ :=
    fun f j hj => ⟨Fin.ext (by simp only []; omega), Fin.ext (by simp only []; omega)⟩
  unfold kscore
  refine (sum64 _ (fun f j => ((q f j * ((Real.sqrt 48)⁻¹ * (Real.log 2)⁻¹) * k f j : ℝ) : EReal)) (fun f j => ?_) (fun f j => ?_)).trans ?_
  · simp only [(e f j.val (by omega)).1, (e f j.val (by omega)).2]
    unfold lane
    rw [dif_pos (show (⟨j.val, by omega⟩ : Fin 32).val < 24 from j.isLt), dif_pos (show (⟨j.val, by omega⟩ : Fin 32).val < 24 from j.isLt), hq, hk]
    unfold qscale
    rw [← EReal.coe_mul, ← EReal.coe_mul]
  · simp only [(e f (24 + j.val) (by omega)).1, (e f (24 + j.val) (by omega)).2]
    unfold lane
    rw [dif_neg (show ¬ (⟨24 + j.val, by omega⟩ : Fin 32).val < 24 by simp), dif_neg (show ¬ (⟨24 + j.val, by omega⟩ : Fin 32).val < 24 by simp), mul_zero]
  · simp only [coe_sum]
    unfold dotR
    refine congrArg _ ?_
    rw [Finset.sum_mul, Finset.sum_mul]
    refine Finset.sum_congr rfl fun f _ => ?_
    rw [Finset.sum_mul, Finset.sum_mul]
    exact Finset.sum_congr rfl fun j _ => by ring

/-- A reference score is the scaled product. -/
theorem rscore_real (b : Fin 8) (s t : Fin 4096) (i : Fin 4) (d : Fin 2) (q k : Fin 2 → Fin 24 → ℝ)
    (hq : ∀ f j, rotP m c 1920 (by omega) b s i d f j = (q f j : EReal)) (hk : ∀ f j, rotP m c 2304 (by omega) b t i d f j = (k f j : EReal)) :
    @Eq EReal (Cert.ReferenceIdeal.Read.val_main_v89 (F := Ideal) (a0 m c) (a1 m c) (ix5 b i d s t)) ((dotR q k * (Real.sqrt 48)⁻¹ : ℝ) : EReal) := by
  refine (Ref.at89 (a0 m c) (a1 m c) b i d s t).trans ?_
  have hs : (∑ x : Fin 48, @HMul.hMul EReal EReal EReal _ (Cert.ReferenceIdeal.Read.val_main_v64 (F := Ideal) (a0 m c) (a1 m c) (ix5 b i d s x))
      (Cert.ReferenceIdeal.Read.val_main_v83 (F := Ideal) (a0 m c) (a1 m c) (ix5 b i d t x))) = ((dotR q k : ℝ) : EReal) := by
    refine (sum48 _ (fun f j => ((q f j * k f j : ℝ) : EReal)) (fun f j => ?_)).trans ?_
    · rw [EReal.coe_mul]
      refine congrArg₂ (· * ·) ?_ ?_
      · exact ((Ref.raw64 (a0 m c) (a1 m c) b i d s _).trans (Ref.rotE_eq (a0 m c) (a1 m c) 1920 (by omega) b s i d f j)).trans (hq f j)
      · exact ((Ref.raw83 (a0 m c) (a1 m c) b i d t _).trans (Ref.rotE_eq (a0 m c) (a1 m c) 2304 (by omega) b t i d f j)).trans (hk f j)
    · simp only [coe_sum]
      rfl
  rw [hs, c_48, Ideal.sqrt_coe, if_neg (by norm_num), Ideal.div_coe (show Real.sqrt 48 ≠ 0 from (Real.sqrt_pos.mpr (by norm_num)).ne'), one_div, ← EReal.coe_mul]

/-- A softmax weight of the reference. -/
theorem rsoft_real (b : Fin 8) (s t : Fin 4096) (i : Fin 4) (d : Fin 2) (a : Fin 4096 → ℝ)
    (h : ∀ u, @Eq EReal (Cert.ReferenceIdeal.Read.val_main_v89 (F := Ideal) (a0 m c) (a1 m c) (ix5 b i d s u)) (a u : EReal)) :
    @Eq EReal (Cert.ReferenceIdeal.Read.val_main_v100 (F := Ideal) (a0 m c) (a1 m c) (ix5 b i d s t)) ((soft a t : ℝ) : EReal) := by
  refine (Ref.at100 (a0 m c) (a1 m c) b i d s t).trans ?_
  unfold Ref.rowMax
  rw [h t, show (fun t : Fin 4096 => (Cert.ReferenceIdeal.Read.val_main_v89 (F := Ideal) (a0 m c) (a1 m c) (ix5 b i d s t) : EReal)) = fun t => (a t : EReal) from funext h]
  refine Eq.trans ?_ (soft_real a t)
  refine congrArg (Ideal.div _) (Finset.sum_congr rfl fun u _ => ?_)
  rw [h u]

/-- A head's output in reals: the difference of the two maps' weights against the values. -/
def outR (s0 s1 : Fin 4096 → ℝ) (lam : ℝ) (v : Fin 4096 → ℝ) : ℝ := ∑ t : Fin 4096, (soft s0 t - lam * soft s1 t) * v t

variable (h0 : ∀ i, ∃ r : ℝ, @Eq EReal (a0 m c i) r) (h1 : ∀ i, ∃ r : ℝ, @Eq EReal (a1 m c i) r)
  (h3 : ∀ i, ∃ r : ℝ, @Eq EReal (a3 m c i) r) (h5 : ∀ i, ∃ r : ℝ, @Eq EReal (a5 m c i) r)

include h0 h1 h3 h5 in
/-- At each token, head and lane the two programs have one real as the head's output. -/
theorem out_real (b : Fin 8) (s : Fin 4096) (i : Fin 4) (e : Fin 96) : ∃ r : ℝ,
    kdiff m c b s i ⟨e.val, by omega⟩ = (r : EReal)
      ∧ @Eq EReal (Cert.ReferenceIdeal.Read.val_main_v108 (F := Ideal) (a0 m c) (a1 m c) (a3 m c) (a5 m c) (ix4 b i s e)) (r : EReal) := by
  have hP := P_real m c h0 h1
  choose q hq using fun s d f j => rotP_real m c hP 1920 (by omega) b s i d f j
  choose k hk using fun s d f j => rotP_real m c hP 2304 (by omega) b s i d f j
  obtain ⟨lam, hlam⟩ := lam_real (a3 m c) (a5 m c ix0) h3 (h5 ix0)
  choose v hv using fun t => hP b t ⟨2688 + (96 * i.val + e.val), by omega⟩
  refine ⟨outR (fun t => dotR (q s 0) (k t 0) * (Real.sqrt 48)⁻¹) (fun t => dotR (q s 1) (k t 1) * (Real.sqrt 48)⁻¹) lam v, ?_, ?_⟩
  · have hks : ∀ d, (fun t => kscore m c b s t i d) = fun t => ((dotR (q s d) (k t d) * (Real.sqrt 48)⁻¹ * (Real.log 2)⁻¹ : ℝ) : EReal) :=
      fun d => funext fun t => kscore_real m c b s t i d (q s d) (k t d) (hq s d) (hk t d)
    have hvl : (fun t => vlane m c b t i ⟨e.val, by omega⟩) = fun t => ((v t : ℝ) : EReal) := funext fun t => by
      unfold vlane
      rw [dif_pos (show (⟨e.val, by omega⟩ : Fin 128).val < 96 from e.isLt)]
      exact hv t
    unfold kdiff
    rw [hks 0, hks 1, hvl, map_real (fun t => dotR (q s 0) (k t 0) * (Real.sqrt 48)⁻¹), map_real (fun t => dotR (q s 1) (k t 1) * (Real.sqrt 48)⁻¹), hlam, ← EReal.coe_mul, ← EReal.coe_sub]
    refine congrArg _ ?_
    unfold outR
    rw [Finset.mul_sum, ← Finset.sum_sub_distrib]
    exact Finset.sum_congr rfl fun t _ => by ring
  · have hw : ∀ d t, @Eq EReal (Cert.ReferenceIdeal.Read.val_main_v100 (F := Ideal) (a0 m c) (a1 m c) (ix5 b i d s t)) ((soft (fun t => dotR (q s d) (k t d) * (Real.sqrt 48)⁻¹) t : ℝ) : EReal) :=
      fun d t => rsoft_real m c b s t i d _ fun u => rscore_real m c b s u i d (q s d) (k u d) (hq s d) (hk u d)
    refine (Ref.at108 (a0 m c) (a1 m c) (a3 m c) (a5 m c) b i s e).trans ?_
    unfold outR
    rw [← coe_sum]
    refine Finset.sum_congr rfl fun t _ => ?_
    rw [EReal.coe_mul, EReal.coe_sub, EReal.coe_mul]
    refine congrArg₂ (· * ·) (congrArg₂ (· - ·) (hw 0 t) (congrArg₂ (· * ·) ?_ (hw 1 t))) ?_
    · exact (Ref.at45 (a3 m c) (a5 m c)).trans hlam
    · exact (Ref.at85 (a0 m c) (a1 m c) b i t e).trans (hv t)

include h0 h1 h3 h5 in
/-- The two results are equal at each token, head and lane. -/
theorem result_at (b : Fin 8) (s : Fin 4096) (i : Fin 4) (l : Fin 128) :
    @Eq EReal (attnArr m ρ c (ix3 b s ⟨128 * i.val + l.val, by omega⟩))
      (Cert.ReferenceIdeal.Read.val_main_v128 (F := Ideal) (a0 m c) (a1 m c) (a3 m c) (a4 m c) (a5 m c) (ix3 b s ⟨128 * i.val + l.val, by omega⟩)) := by
  refine (attn_at m ρ c b s i l).trans (Eq.trans ?_ (Ref.at128 (a0 m c) (a1 m c) (a3 m c) (a4 m c) (a5 m c) b s i l).symm)
  unfold normVal
  by_cases h : l.val < 96
  · choose O hk hr using out_real m c h0 h1 h3 h5 b s i
    rw [if_pos h, dif_pos h, dif_pos h]
    refine Eq.trans ?_ (Ref.at124 (a0 m c) (a1 m c) (a3 m c) (a4 m c) (a5 m c) b i s ⟨l.val, h⟩ (fun e => (O e : EReal)) hr).symm
    rw [sum128 fun x => kdiff m c b s i x * kdiff m c b s i x, show kdiff m c b s i l = (O ⟨l.val, h⟩ : EReal) from hk ⟨l.val, h⟩]
    simp only [hk]
    rw [c_96, Ideal.div_coe (by norm_num : (96 : ℝ) ≠ 0)]
    unfold inv96
    exact (mul_assoc _ _ _).symm
  · rw [if_neg h, dif_neg h]

include h0 h1 h3 h5 in
/-- The kernel's array is the reference's result. -/
theorem result_eq : @Eq (S8x4096x512.Idx → EReal) (attnArr m ρ c)
    (Cert.ReferenceIdeal.Read.val_main_v128 (F := Ideal) (a0 m c) (a1 m c) (a3 m c) (a4 m c) (a5 m c)) := by
  funext x
  have hx : x = ix3 (⟨(x 0).val, (x 0).isLt⟩ : Fin 8) (⟨(x 1).val, (x 1).isLt⟩ : Fin 4096)
      (⟨128 * (⟨(x 2).val / 128, by have h : (x 2).val < 512 := (x 2).isLt; omega⟩ : Fin 4).val + (⟨(x 2).val % 128, by omega⟩ : Fin 128).val, by have h : (x 2).val < 512 := (x 2).isLt; simp only []; omega⟩ : Fin 512) := by
    funext a
    apply Fin.ext
    match a with
    | ⟨0, _⟩ => rfl
    | ⟨1, _⟩ => rfl
    | ⟨2, _⟩ => show (x 2).val = 128 * ((x 2).val / 128) + (x 2).val % 128; omega
  rw [hx]
  exact result_at m ρ c h0 h1 h3 h5 _ _ _ _

end Cert.Attn

end
-- ==== Proof.Finite.lean ====
/- The precondition: the arguments that the attention multiplies are finite, so they are reals. -/
module

public import proofs.«01_k».proof.Defs
public import proofs.«01_k».proof.Proof.Gen.Pre_finite
public import proofs.«01_k».proof.Proof.Consts
public import Idealize.ShloMosaic.Lib.ReduceAll

@[expose] public section

set_option maxRecDepth 16384

noncomputable section

namespace Cert.Attn

open Idealize.ShloMosaic Cert.Pre_finite Cert.Pre_finite.Facts

theorem andi_one : ∀ c d : BitVec 1, IntOp.andi c d = 1#1 → c = 1#1 ∧ d = 1#1 := by decide

/-- An extended real whose absolute value is below the infinite constant is a real. -/
theorem real_of_lt (a : EReal) (h : Ideal.cmp .olt (max a (-a)) (Ideal.ofBits .f32 0x7F800000#32) = 1#1) : ∃ r : ℝ, a = (r : EReal) := by
  rw [c_inf] at h
  have hlt : max a (-a) < ⊤ := by
    by_contra hn
    revert h
    simp [Ideal.cmp, hn]
  induction a with
  | bot => simp at hlt
  | top => simp at hlt
  | coe r => exact ⟨r, rfl⟩

/-- What the precondition says: every element of the four arguments is a real. -/
theorem fn_real [Facts] (x0 : Vec Ideal S8x4096x1024 .f32) (x1 : Vec Ideal S1024x6144 .f32) (x2 : Vec Ideal S3072 .f32) (x3 : Vec Ideal S4x48 .f32)
    (x4 : Vec Ideal S96 .f32) (x5 : Vec Ideal S_ .f32) (h : Cert.Pre_finite.fn (F := Ideal) x0 x1 x2 x3 x4 x5 = fun _ => 1#1) :
    (∀ i, ∃ r : ℝ, @Eq EReal (x0 i) r) ∧ (∀ i, ∃ r : ℝ, @Eq EReal (x1 i) r) ∧ (∀ i, ∃ r : ℝ, @Eq EReal (x3 i) r) ∧ (∀ i, ∃ r : ℝ, @Eq EReal (x5 i) r) := by
  haveI : Subsingleton S_.Idx := ⟨fun a b => funext fun d => d.elim0⟩
  have h0 := congrFun h (Shape.Idx.first h_S_)
  obtain ⟨h123, h4⟩ := andi_one _ _ h0
  obtain ⟨h12, h3⟩ := andi_one _ _ h123
  obtain ⟨h1, h2⟩ := andi_one _ _ h12
  refine ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => ?_⟩
  rw [Subsingleton.elim i (Shape.Idx.first h_S_)]
  exact real_of_lt _ h4

end Cert.Attn

end
-- ==== Proof.Claims.lean ====
/- The claims one by one: the frames, the two named constants, and the kernel against the reference. -/
module

public import proofs.«01_k».proof.Defs
public import proofs.«01_k».proof.Proof.Gen.Kernel.Frame
public import proofs.«01_k».proof.Proof.Run
public import proofs.«01_k».proof.Proof.Equal
public import proofs.«01_k».proof.Proof.Finite
public import Idealize.ShloMosaic.Lib.Quiescent

@[expose] public section

set_option maxRecDepth 16384

noncomputable section

namespace Cert.Attn

open Idealize.ShloMosaic Idealize.ShloMosaic.TcCoe Idealize.SL.Sem

/-- The kernel as compiled runs, leaves its arguments, and ends with every counter at zero. -/
theorem frame_p : Cert.quiescent_Kernel := fun m ρ _ => Cert.Kernel.Gen.frame m ρ

/-- So does its idealisation. -/
theorem frame_pi : Cert.quiescent_KernelIdeal := fun m ρ _ => Cert.KernelIdeal.Gen.frame m ρ

/-- And under the precondition. -/
theorem frame_pi_finite : Cert.quiescent_KernelIdeal_pre_finite := fun m ρ _ => Cert.KernelIdeal.Gen.frame m ρ

/-- The reference runs, leaves its arguments, and has no counter to leave. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And under the precondition. -/
theorem frame_ri_finite : Cert.quiescent_ReferenceIdeal_pre_finite := fun m ρ _ => frame_ri m ρ trivial

/-- The kernel's two constants are the roundings of the numbers the idealisation has in their place. -/
theorem preserves : Cert.preserves_Kernel_KernelIdeal :=
  ⟨IdealRules.named_const.statement Cert.KernelIdeal.κ "qscale" .f32 0x3E553B95#32 (((Real.sqrt 48)⁻¹ * (Real.log 2)⁻¹ : ℝ) : EReal) rfl,
    IdealRules.named_const.statement Cert.KernelIdeal.κ "inv96" .f32 0x3C2AAAAB#32 ((1 / 96 : ℝ) : EReal) rfl⟩

/-- Over finite arguments the kernel and the reference end with equal results. -/
theorem algebraic : Cert.algebraic_KernelIdeal_ReferenceIdeal_pre_finite := by
  intro m ρ m' ρ' hpre hagree
  refine ⟨fun c => attnArr m ρ c, value_run m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v128_eq _).trans ?_
  obtain ⟨e0, e1, -, e3, e4, e5⟩ := hagree c
  obtain ⟨h0, h1, h3, h5⟩ := fn_real _ _ _ _ _ _ (hpre c)
  refine Eq.trans ?_ (result_eq m ρ c h0 h1 h3 h5).symm
  show Cert.ReferenceIdeal.Read.val_main_v128 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [e0, e1, e3, e4, e5]

end Cert.Attn

end
-- ==== Proof.ExRuns.lean ====
/- What the runs of the experts call share: the tables, the blocks, the branch conditions. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S288 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 4).trans (((dats 0 c).arrAt_in 4 rfl _).trans ((hA c 4).trans (V_main_arg5 m c))),
      ((h c).1 2).trans (((dats 0 c).arrAt_in 2 rfl _).trans ((hA c 2).trans (V_main_arg6 m c))),
      ((h c).1 5).trans (((dats 0 c).arrAt_in 5 rfl _).trans ((hA c 5).trans (V_main_arg7 m c))),
      ((h c).1 3).trans (((dats 0 c).arrAt_in 3 rfl _).trans ((hA c 3).trans (V_main_arg8 m c))),
      ((h c).1 6).trans (((dats 0 c).arrAt_in 6 rfl _).trans ((hA c 6).trans (V_main_arg9 m c)))⟩) h

/-! ## The body's branch conditions -/

/-- The condition of the body's first branch: the point's expert is not the previous point's (or the point is the first), and the
    tile is in use. -/
abbrev condN (i : grid0.Coords) (v3 v6 v9 : BitVec 32) : Prop :=
  (Scalar.cmpi .ne (Scalar.extui (Scalar.andi (Scalar.ori (Scalar.cmpi .eq (BitVec.ofNat 32 (i 0).val) 0#32) (Scalar.cmpi .ne v6 v3)) (Scalar.cmpi .slt (BitVec.ofNat 32 (i 0).val) v9))) 0#32) = 1#1
/-- The condition of the second branch: the tile is in use. -/
abbrev condV (i : grid0.Coords) (v9 : BitVec 32) : Prop := k0_cond2 i v9 = 1#1
/-- The condition of the third branch: the tile is not in use. -/
abbrev condZ (i : grid0.Coords) (v9 : BitVec 32) : Prop := k0_cond3 i v9 = 1#1

/-- Window 7 (result 0 (%0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-! ## The kernel body on any staging memrefs: a subtype the run finds -/

/-- One staging buffer of output window 7, through which its contents are stated (`View.read_writes_of_cover`: the
    choice does not matter). -/
abbrev VO0_7 : View sig .tc .vmem S4096x128 .f32 := (Memref.whole cc0_stg7_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4096x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S512x1024 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Experts

end
-- ==== Proof.ExRunB.lean ====
/- The experts call's body at a tile in use whose expert is the previous tile's: the weights in the scratch buffers are used. -/
module

public import proofs.«01_k».proof.Proof.ExRuns

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a tile in use with the weights already in the scratch buffers (`s0`, `s1`, `s2`): the pieces it leaves in the output and in the row buffer. -/
noncomputable def runB (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (s0 : Vec F S1024x1024 .bf16) (s1 : Vec F S1024x1024 .bf16) (s2 : Vec F S1024x1024 .bf16) (xt0 : TbBuf0 (F := F) c tbM0_0) (xt1 : TbBuf0 (F := F) c tbM0_1) (xt2 : TbBuf0 (F := F) c tbM0_2) (hcN : ¬condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos)))) :
    Σ' (L7 : List (View.Piece (Elt F) S4096x128 .f32)), { LT3 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare s0 ∗ owns (c : Thread nD τ) arg13 fullShare s1 ∗ owns (c : Thread nD τ) arg14 fullShare s2 ∗ (∃ f, arg15.view.loc (c : Thread nD τ) ↦[arg15.view.set]{fullShare} arg15.view.writes (Elt F) f LT3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%ds3, %fs3, -, HS3⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hfs0; obtain rfl := harg13.eq_unread hfs1; obtain rfl := harg14.eq_unread hfs2
    sl_exec (disch := first | sl_exact hcN | sl_exact hcV | sl_exact hcZ)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [HT0]; · iexact HT0
    isplitl [HT1]; · iexact HT1
    iexact HT2

end Cert.Experts

end
-- ==== Proof.ExRunA.lean ====
/- The experts call's body at a tile in use whose expert is new: the weights are put into the scratch buffers. -/
module

public import proofs.«01_k».proof.Proof.ExRunB

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a tile in use whose expert is new: the pieces it leaves in the output and in the scratch buffers. -/
noncomputable def runA (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos)))) :
    Σ' (L7 : List (View.Piece (Elt F) S4096x128 .f32)), Σ' (LT0 : List (View.Piece (Elt F) S1024x1024 .bf16)), Σ' (LT1 : List (View.Piece (Elt F) S1024x1024 .bf16)), Σ' (LT2 : List (View.Piece (Elt F) S1024x1024 .bf16)), { LT3 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hcN | sl_exact hcV | sl_exact hcZ)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HT0]; · iexact HT0
    isplitl [HT1]; · iexact HT1
    iexact HT2

end Cert.Experts

end
-- ==== Proof.ExRunC.lean ====
/- The experts call's body at a tile that is not in use: zeros. -/
module

public import proofs.«01_k».proof.Proof.ExRunA

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a tile that is not in use: the piece it leaves in the output. -/
noncomputable def runC (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : ¬condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : ¬condV i (tbM0_2.view.readAt (Elt F) (Rect.unit (s := S1) ![0] S1.size inb_S1_S1_0).toLoadRect xt2 (Shape.Idx.first (numel1_S1.symm ▸ Nat.one_pos)))) (hcZ : condZ i (tbM0_2.view.readAt (Elt F) (Rect.unit (s := S1) ![0] S1.size inb_S1_S1_0).toLoadRect xt2 (Shape.Idx.first (numel1_S1.symm ▸ Nat.one_pos)))) :
    { L7 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HS0, HS1, HS2, HS3, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hcN | sl_exact hcV | sl_exact hcZ)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HS0]; · iexact HS0
    isplitl [HS1]; · iexact HS1
    isplitl [HS2]; · iexact HS2
    isplitl [HS3]; · iexact HS3
    isplitl [HT0]; · iexact HT0
    isplitl [HT1]; · iexact HT1
    iexact HT2

end Cert.Experts

end
-- ==== Proof.ExVal.lean ====
/- What the experts call's body leaves in the output at a tile in use, as a function of the blocks it reads and of the weights it holds. -/
module

public import proofs.«01_k».proof.Proof.ExRunC
public import Idealize.ShloMosaic.Lib.VecWindow

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The part of an array a load rectangle names. -/
def look {s : Shape} {e : EltTy} (x : s.Idx → Elt F e) (r : LoadRect s) : r.shape.Idx → Elt F e := fun j => x (r.idx j)

/-- The piece list of the row buffer: every eighth row of the tile, cast, side by side. -/
def rowPieces (x0 : Vec F S4096x128 .f32) : List (View.Piece (Elt F) S512x1024 .bf16) :=
  [⟨Rect.unit ![0, 896] S512x128.size inb_S512x1024_S512x128_0_896, k0_pay21 (look (F := F) x0 ({ off := ![7, 0], size := S512x128.size, stride := ![8, 1], inb := inb_S4096x128_S512x128_7_0_s_8_1 } : LoadRect S4096x128))⟩,
   ⟨Rect.unit ![0, 768] S512x128.size inb_S512x1024_S512x128_0_768, k0_pay20 (look (F := F) x0 ({ off := ![6, 0], size := S512x128.size, stride := ![8, 1], inb := inb_S4096x128_S512x128_6_0_s_8_1 } : LoadRect S4096x128))⟩,
   ⟨Rect.unit ![0, 640] S512x128.size inb_S512x1024_S512x128_0_640, k0_pay19 (look (F := F) x0 ({ off := ![5, 0], size := S512x128.size, stride := ![8, 1], inb := inb_S4096x128_S512x128_5_0_s_8_1 } : LoadRect S4096x128))⟩,
   ⟨Rect.unit ![0, 512] S512x128.size inb_S512x1024_S512x128_0_512, k0_pay18 (look (F := F) x0 ({ off := ![4, 0], size := S512x128.size, stride := ![8, 1], inb := inb_S4096x128_S512x128_4_0_s_8_1 } : LoadRect S4096x128))⟩,
   ⟨Rect.unit ![0, 384] S512x128.size inb_S512x1024_S512x128_0_384, k0_pay17 (look (F := F) x0 ({ off := ![3, 0], size := S512x128.size, stride := ![8, 1], inb := inb_S4096x128_S512x128_3_0_s_8_1 } : LoadRect S4096x128))⟩,
   ⟨Rect.unit ![0, 256] S512x128.size inb_S512x1024_S512x128_0_256, k0_pay16 (look (F := F) x0 ({ off := ![2, 0], size := S512x128.size, stride := ![8, 1], inb := inb_S4096x128_S512x128_2_0_s_8_1 } : LoadRect S4096x128))⟩,
   ⟨Rect.unit ![0, 128] S512x128.size inb_S512x1024_S512x128_0_128, k0_pay15 (look (F := F) x0 ({ off := ![1, 0], size := S512x128.size, stride := ![8, 1], inb := inb_S4096x128_S512x128_1_0_s_8_1 } : LoadRect S4096x128))⟩,
   ⟨Rect.unit ![0, 0] S512x128.size inb_S512x1024_S512x128_0_0, k0_pay14 (look (F := F) x0 ({ off := ![0, 0], size := S512x128.size, stride := ![8, 1], inb := inb_S4096x128_S512x128_0_0_s_8_1 } : LoadRect S4096x128))⟩]

/-- The rows of the tile, joined. -/
def rows (x0 : Vec F S4096x128 .f32) : Vec F S512x1024 .bf16 := View.canon (rowPieces x0)

/-- The pieces of the output tile: the eight column slices of a result, each on every eighth row. -/
def outPieces (A : FVec F S512x1024 .f32) (g u : FVec F S512x512 .f32) (w : Vec F S512x1024 .bf16) : List (View.Piece (Elt F) S4096x128 .f32) :=
  [⟨{ off := ![7, 0], size := ![512, 128], stride := ![8, 1], inb := inb_S4096x128_S512x128_7_0_s_8_1, stride_pos := spos_8_1 }, k0_pay12 A g u (FloatOps.ofBits .f32 1071242019#32) w⟩,
   ⟨{ off := ![6, 0], size := ![512, 128], stride := ![8, 1], inb := inb_S4096x128_S512x128_6_0_s_8_1, stride_pos := spos_8_1 }, k0_pay11 A g u (FloatOps.ofBits .f32 1071242019#32) w⟩,
   ⟨{ off := ![5, 0], size := ![512, 128], stride := ![8, 1], inb := inb_S4096x128_S512x128_5_0_s_8_1, stride_pos := spos_8_1 }, k0_pay10 A g u (FloatOps.ofBits .f32 1071242019#32) w⟩,
   ⟨{ off := ![4, 0], size := ![512, 128], stride := ![8, 1], inb := inb_S4096x128_S512x128_4_0_s_8_1, stride_pos := spos_8_1 }, k0_pay9 A g u (FloatOps.ofBits .f32 1071242019#32) w⟩,
   ⟨{ off := ![3, 0], size := ![512, 128], stride := ![8, 1], inb := inb_S4096x128_S512x128_3_0_s_8_1, stride_pos := spos_8_1 }, k0_pay8 A g u (FloatOps.ofBits .f32 1071242019#32) w⟩,
   ⟨{ off := ![2, 0], size := ![512, 128], stride := ![8, 1], inb := inb_S4096x128_S512x128_2_0_s_8_1, stride_pos := spos_8_1 }, k0_pay7 A g u (FloatOps.ofBits .f32 1071242019#32) w⟩,
   ⟨{ off := ![1, 0], size := ![512, 128], stride := ![8, 1], inb := inb_S4096x128_S512x128_1_0_s_8_1, stride_pos := spos_8_1 }, k0_pay6 A g u (FloatOps.ofBits .f32 1071242019#32) w⟩,
   ⟨{ off := ![0, 0], size := ![512, 128], stride := ![8, 1], inb := inb_S4096x128_S512x128_0_0_s_8_1, stride_pos := spos_8_1 }, k0_pay5 A g u (FloatOps.ofBits .f32 1071242019#32) w⟩]

/-- The same from the values the body reads: the down bias, the rows, the halves of the weights and of the gate and up biases. -/
def partPieces (b : Vec F S1x1x1x1024 .f32) (xv : Vec F S512x1024 .bf16) (ga gb ua ub : Vec F S1024x512 .bf16) (ca cb da db : Vec F S1x1x1x512 .f32)
    (wa wb : Vec F S512x1024 .bf16) : List (View.Piece (Elt F) S4096x128 .f32) :=
  outPieces (k0_pay28 (k0_pay22 b) (k0_pay23 xv ga) (k0_pay24 xv ua) (k0_pay27 ca) da wa) (k0_pay29 (k0_pay25 xv gb) cb) (k0_pay30 (k0_pay26 xv ub) db) wb

theorem partPieces_congr {b b' : Vec F S1x1x1x1024 .f32} {xv xv' : Vec F S512x1024 .bf16} {ga gb ua ub ga' gb' ua' ub' : Vec F S1024x512 .bf16}
    {ca cb da db ca' cb' da' db' : Vec F S1x1x1x512 .f32} {wa wb wa' wb' : Vec F S512x1024 .bf16}
    (h1 : b = b') (h2 : xv = xv') (h3 : ga = ga') (h4 : gb = gb') (h5 : ua = ua') (h6 : ub = ub') (h7 : ca = ca') (h8 : cb = cb') (h9 : da = da') (h10 : db = db')
    (h11 : wa = wa') (h12 : wb = wb') :
    partPieces b xv ga gb ua ub ca cb da db wa wb = partPieces b' xv' ga' gb' ua' ub' ca' cb' da' db' wa' wb' := by
  subst h1 h2 h3 h4 h5 h6 h7 h8 h9 h10 h11 h12; rfl

def tilePieces (x0 : Vec F S4096x128 .f32) (s0 s1 s2 : Vec F S1024x1024 .bf16) (x4 x5 x6 : Vec F S1x1x1x1024 .f32) : List (View.Piece (Elt F) S4096x128 .f32) :=
  partPieces x6 (rows x0) (look (F := F) s0 (Rect.unit (s := S1024x1024) ![0, 0] S1024x512.size inb_S1024x1024_S1024x512_0_0).toLoadRect) (look (F := F) s0 (Rect.unit (s := S1024x1024) ![0, 512] S1024x512.size inb_S1024x1024_S1024x512_0_512).toLoadRect)
    (look (F := F) s1 (Rect.unit (s := S1024x1024) ![0, 0] S1024x512.size inb_S1024x1024_S1024x512_0_0).toLoadRect) (look (F := F) s1 (Rect.unit (s := S1024x1024) ![0, 512] S1024x512.size inb_S1024x1024_S1024x512_0_512).toLoadRect)
    (look (F := F) x4 (Rect.unit (s := S1x1x1x1024) ![0, 0, 0, 0] S1x1x1x512.size inb_S1x1x1x1024_S1x1x1x512_0_0_0_0).toLoadRect) (look (F := F) x4 (Rect.unit (s := S1x1x1x1024) ![0, 0, 0, 512] S1x1x1x512.size inb_S1x1x1x1024_S1x1x1x512_0_0_0_512).toLoadRect)
    (look (F := F) x5 (Rect.unit (s := S1x1x1x1024) ![0, 0, 0, 0] S1x1x1x512.size inb_S1x1x1x1024_S1x1x1x512_0_0_0_0).toLoadRect) (look (F := F) x5 (Rect.unit (s := S1x1x1x1024) ![0, 0, 0, 512] S1x1x1x512.size inb_S1x1x1x1024_S1x1x1x512_0_0_0_512).toLoadRect)
    (look (F := F) s2 (Rect.unit (s := S1024x1024) ![0, 0] S512x1024.size inb_S1024x1024_S512x1024_0_0).toLoadRect) (look (F := F) s2 (Rect.unit (s := S1024x1024) ![512, 0] ![512, 1024] inb_S1024x1024_S512x1024_512_0).toLoadRect)

/-- The output tile. -/
def tile (x0 : Vec F S4096x128 .f32) (s0 s1 s2 : Vec F S1024x1024 .bf16) (x4 x5 x6 : Vec F S1x1x1x1024 .f32) : Vec F S4096x128 .f32 :=
  View.canon (tilePieces x0 s0 s1 s2 x4 x5 x6)

/-! ## The pieces tile the output -/

theorem mem_stride {y : S4096x128.Idx} {k : ℕ} (r : Rect S4096x128) (hoff : r.off = ![k, 0]) (hsz : r.size = ![512, 128]) (hst : r.stride = ![8, 1])
    (h : (y 0).val % 8 = k) : y ∈ r.set := by
  rw [← Rect.map_emb_univ, Finset.mem_map]
  obtain ⟨⟨off, size, stride, inb⟩, pos⟩ := r
  dsimp only at hoff hsz hst
  subst hoff hsz hst
  have h0 : (y 0).val < 4096 := (y 0).isLt
  have h1 : (y 1).val < 128 := (y 1).isLt
  refine ⟨fun a => Fin.cases (motive := fun a => Fin ((![512, 128] : Fin 2 → ℕ) a)) ⟨(y 0).val / 8, by show _ < 512; omega⟩ (fun b => Fin.cases (motive := fun b => Fin ((![512, 128] : Fin 2 → ℕ) b.succ)) ⟨(y 1).val, by show _ < 128; omega⟩ (fun c => c.elim0) b) a, Finset.mem_univ _, ?_⟩
  funext a
  match a with
  | ⟨0, _⟩ => exact Fin.ext (by show k + 8 * ((y 0).val / 8) = (y 0).val; omega)
  | ⟨1, _⟩ => exact Fin.ext (by show 0 + 1 * (y 1).val = (y 1).val; omega)

theorem cover_out (A : FVec F S512x1024 .f32) (g u : FVec F S512x512 .f32) (w : Vec F S512x1024 .bf16) (y : S4096x128.Idx) :
    ∃ p ∈ outPieces A g u w, y ∈ p.1.set := by
  have h : (y 0).val % 8 < 8 := Nat.mod_lt _ (by decide)
  unfold outPieces
  rcases Nat.lt_or_ge 0 ((y 0).val % 8) with h0 | h0
  rotate_left
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_stride _ rfl rfl rfl (by omega)⟩
  rcases Nat.lt_or_ge 1 ((y 0).val % 8) with h1 | h1
  rotate_left
  · exact ⟨_, (List.mem_cons_of_mem _ (List.mem_cons_of_mem _ (List.mem_cons_of_mem _ (List.mem_cons_of_mem _ (List.mem_cons_of_mem _ (List.mem_cons_of_mem _ List.mem_cons_self)))))), mem_stride _ rfl rfl rfl (by omega)⟩
  rcases Nat.lt_or_ge 2 ((y 0).val % 8) with h2 | h2
  rotate_left
  · exact ⟨_, (List.mem_cons_of_mem _ (List.mem_cons_of_mem _ (List.mem_cons_of_mem _ (List.mem_cons_of_mem _ (List.mem_cons_of_mem _ List.mem_cons_self))))), mem_stride _ rfl rfl rfl (by omega)⟩
  rcases Nat.lt_or_ge 3 ((y 0).val % 8) with h3 | h3
  rotate_left
  · exact ⟨_, (List.mem_cons_of_mem _ (List.mem_cons_of_mem _ (List.mem_cons_of_mem _ (List.mem_cons_of_mem _ List.mem_cons_self)))), mem_stride _ rfl rfl rfl (by omega)⟩
  rcases Nat.lt_or_ge 4 ((y 0).val % 8) with h4 | h4
  rotate_left
  · exact ⟨_, (List.mem_cons_of_mem _ (List.mem_cons_of_mem _ (List.mem_cons_of_mem _ List.mem_cons_self))), mem_stride _ rfl rfl rfl (by omega)⟩
  rcases Nat.lt_or_ge 5 ((y 0).val % 8) with h5 | h5
  rotate_left
  · exact ⟨_, (List.mem_cons_of_mem _ (List.mem_cons_of_mem _ List.mem_cons_self)), mem_stride _ rfl rfl rfl (by omega)⟩
  rcases Nat.lt_or_ge 6 ((y 0).val % 8) with h6 | h6
  rotate_left
  · exact ⟨_, (List.mem_cons_of_mem _ List.mem_cons_self), mem_stride _ rfl rfl rfl (by omega)⟩
  exact ⟨_, List.mem_cons_self, mem_stride _ rfl rfl rfl (by omega : (y 0).val % 8 = 7)⟩

theorem readAt_unread {κ : Kind} {sp : Space} {s : Shape} {e : EltTy} {mr : Memref sig κ sp s e} (h : mr.IsWhole) (x : s.Idx → Elt F e) (r : LoadRect s) :
    View.readAt (Elt F) mr.view r (h.unread x) = look (F := F) x r :=
  funext fun j => (View.readAt_apply ..).trans (congrFun (h.read_unread x) _)

theorem readAt_unread_full {κ : Kind} {sp : Space} {s : Shape} {e : EltTy} {mr : Memref sig κ sp s e} (h : mr.IsWhole) (x : s.Idx → Elt F e)
    {off : Fin s.rank → ℕ} (inb : ∀ a, off a + s.size a ≤ s.size a) :
    View.readAt (Elt F) mr.view (Rect.unit off s.size inb).toLoadRect (h.unread x) = x :=
  (View.readAt_full mr.view _ inb).trans (h.read_unread x)

theorem readCov_one {κ : Kind} {sp : Space} {s : Shape} {e : EltTy} (v : View sig κ sp s e) {off : Fin s.rank → ℕ} (inb : ∀ a, off a + s.size a ≤ s.size a)
    (w : (Rect.unit off s.size inb).shape.Idx → Elt F e) (r : LoadRect s) :
    v.readCov [⟨Rect.unit off s.size inb, w⟩] r = look (F := F) w r :=
  funext fun j => congrFun (View.read_writes_full v v.junk inb w []) _

theorem readCov_all {κ : Kind} {sp : Space} {s : Shape} {e : EltTy} (v : View sig κ sp s e) (L : List (View.Piece (Elt F) s e))
    {off : Fin s.rank → ℕ} (inb : ∀ a, off a + s.size a ≤ s.size a) :
    v.readCov L (Rect.unit off s.size inb).toLoadRect = View.canon L :=
  (View.readAt_full v _ inb).trans (View.read_writes_junk_eq_canon v L)

theorem rowPieces_read {κ : Kind} {sp : Space} {mr : Memref sig κ sp S4096x128 .f32} (h : mr.IsWhole) (x0 : Vec F S4096x128 .f32) :
    [(⟨Rect.unit ![0, 896] S512x128.size inb_S512x1024_S512x128_0_896, k0_pay21 (View.readAt (Elt F) mr.view ({ off := ![7, 0], size := S512x128.size, stride := ![8, 1], inb := inb_S4096x128_S512x128_7_0_s_8_1 } : LoadRect S4096x128) (h.unread x0))⟩ : View.Piece (Elt F) S512x1024 .bf16),
   (⟨Rect.unit ![0, 768] S512x128.size inb_S512x1024_S512x128_0_768, k0_pay20 (View.readAt (Elt F) mr.view ({ off := ![6, 0], size := S512x128.size, stride := ![8, 1], inb := inb_S4096x128_S512x128_6_0_s_8_1 } : LoadRect S4096x128) (h.unread x0))⟩ : View.Piece (Elt F) S512x1024 .bf16),
   (⟨Rect.unit ![0, 640] S512x128.size inb_S512x1024_S512x128_0_640, k0_pay19 (View.readAt (Elt F) mr.view ({ off := ![5, 0], size := S512x128.size, stride := ![8, 1], inb := inb_S4096x128_S512x128_5_0_s_8_1 } : LoadRect S4096x128) (h.unread x0))⟩ : View.Piece (Elt F) S512x1024 .bf16),
   (⟨Rect.unit ![0, 512] S512x128.size inb_S512x1024_S512x128_0_512, k0_pay18 (View.readAt (Elt F) mr.view ({ off := ![4, 0], size := S512x128.size, stride := ![8, 1], inb := inb_S4096x128_S512x128_4_0_s_8_1 } : LoadRect S4096x128) (h.unread x0))⟩ : View.Piece (Elt F) S512x1024 .bf16),
   (⟨Rect.unit ![0, 384] S512x128.size inb_S512x1024_S512x128_0_384, k0_pay17 (View.readAt (Elt F) mr.view ({ off := ![3, 0], size := S512x128.size, stride := ![8, 1], inb := inb_S4096x128_S512x128_3_0_s_8_1 } : LoadRect S4096x128) (h.unread x0))⟩ : View.Piece (Elt F) S512x1024 .bf16),
   (⟨Rect.unit ![0, 256] S512x128.size inb_S512x1024_S512x128_0_256, k0_pay16 (View.readAt (Elt F) mr.view ({ off := ![2, 0], size := S512x128.size, stride := ![8, 1], inb := inb_S4096x128_S512x128_2_0_s_8_1 } : LoadRect S4096x128) (h.unread x0))⟩ : View.Piece (Elt F) S512x1024 .bf16),
   (⟨Rect.unit ![0, 128] S512x128.size inb_S512x1024_S512x128_0_128, k0_pay15 (View.readAt (Elt F) mr.view ({ off := ![1, 0], size := S512x128.size, stride := ![8, 1], inb := inb_S4096x128_S512x128_1_0_s_8_1 } : LoadRect S4096x128) (h.unread x0))⟩ : View.Piece (Elt F) S512x1024 .bf16),
   (⟨Rect.unit ![0, 0] S512x128.size inb_S512x1024_S512x128_0_0, k0_pay14 (View.readAt (Elt F) mr.view ({ off := ![0, 0], size := S512x128.size, stride := ![8, 1], inb := inb_S4096x128_S512x128_0_0_s_8_1 } : LoadRect S4096x128) (h.unread x0))⟩ : View.Piece (Elt F) S512x1024 .bf16)] = rowPieces x0 :=
  congrArg₂ List.cons (congrArg (fun v => (⟨Rect.unit ![0, 896] S512x128.size inb_S512x1024_S512x128_0_896, k0_pay21 v⟩ : View.Piece (Elt F) S512x1024 .bf16)) (readAt_unread h x0 ({ off := ![7, 0], size := S512x128.size, stride := ![8, 1], inb := inb_S4096x128_S512x128_7_0_s_8_1 } : LoadRect S4096x128))) (
  congrArg₂ List.cons (congrArg (fun v => (⟨Rect.unit ![0, 768] S512x128.size inb_S512x1024_S512x128_0_768, k0_pay20 v⟩ : View.Piece (Elt F) S512x1024 .bf16)) (readAt_unread h x0 ({ off := ![6, 0], size := S512x128.size, stride := ![8, 1], inb := inb_S4096x128_S512x128_6_0_s_8_1 } : LoadRect S4096x128))) (
  congrArg₂ List.cons (congrArg (fun v => (⟨Rect.unit ![0, 640] S512x128.size inb_S512x1024_S512x128_0_640, k0_pay19 v⟩ : View.Piece (Elt F) S512x1024 .bf16)) (readAt_unread h x0 ({ off := ![5, 0], size := S512x128.size, stride := ![8, 1], inb := inb_S4096x128_S512x128_5_0_s_8_1 } : LoadRect S4096x128))) (
  congrArg₂ List.cons (congrArg (fun v => (⟨Rect.unit ![0, 512] S512x128.size inb_S512x1024_S512x128_0_512, k0_pay18 v⟩ : View.Piece (Elt F) S512x1024 .bf16)) (readAt_unread h x0 ({ off := ![4, 0], size := S512x128.size, stride := ![8, 1], inb := inb_S4096x128_S512x128_4_0_s_8_1 } : LoadRect S4096x128))) (
  congrArg₂ List.cons (congrArg (fun v => (⟨Rect.unit ![0, 384] S512x128.size inb_S512x1024_S512x128_0_384, k0_pay17 v⟩ : View.Piece (Elt F) S512x1024 .bf16)) (readAt_unread h x0 ({ off := ![3, 0], size := S512x128.size, stride := ![8, 1], inb := inb_S4096x128_S512x128_3_0_s_8_1 } : LoadRect S4096x128))) (
  congrArg₂ List.cons (congrArg (fun v => (⟨Rect.unit ![0, 256] S512x128.size inb_S512x1024_S512x128_0_256, k0_pay16 v⟩ : View.Piece (Elt F) S512x1024 .bf16)) (readAt_unread h x0 ({ off := ![2, 0], size := S512x128.size, stride := ![8, 1], inb := inb_S4096x128_S512x128_2_0_s_8_1 } : LoadRect S4096x128))) (
  congrArg₂ List.cons (congrArg (fun v => (⟨Rect.unit ![0, 128] S512x128.size inb_S512x1024_S512x128_0_128, k0_pay15 v⟩ : View.Piece (Elt F) S512x1024 .bf16)) (readAt_unread h x0 ({ off := ![1, 0], size := S512x128.size, stride := ![8, 1], inb := inb_S4096x128_S512x128_1_0_s_8_1 } : LoadRect S4096x128))) (
  congrArg₂ List.cons (congrArg (fun v => (⟨Rect.unit ![0, 0] S512x128.size inb_S512x1024_S512x128_0_0, k0_pay14 v⟩ : View.Piece (Elt F) S512x1024 .bf16)) (readAt_unread h x0 ({ off := ![0, 0], size := S512x128.size, stride := ![8, 1], inb := inb_S4096x128_S512x128_0_0_s_8_1 } : LoadRect S4096x128))) (rfl))))))))

set_option maxHeartbeats 1600000 in
theorem runB_pieces  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (s0 : Vec F S1024x1024 .bf16) (s1 : Vec F S1024x1024 .bf16) (s2 : Vec F S1024x1024 .bf16) (xt0 : TbBuf0 (F := F) c tbM0_0) (xt1 : TbBuf0 (F := F) c tbM0_1) (xt2 : TbBuf0 (F := F) c tbM0_2) (hcN : ¬condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos)))) :
    (runB c i arg4 harg4 arg5 harg5 arg6 harg6 arg7 harg7 arg8 harg8 arg9 harg9 arg10 harg10 arg11 harg11 arg12 harg12 arg13 harg13 arg14 harg14 arg15 harg15 x0 x1 x2 x3 x4 x5 x6 s0 s1 s2 xt0 xt1 xt2 hcN hcV hcZ).1 = tilePieces x0 s0 s1 s2 x4 x5 x6 :=
  partPieces_congr (readAt_unread_full harg10 x6 inb_S1x1x1x1024_S1x1x1x1024_0_0_0_0) ((readCov_all arg15.view _ inb_S512x1024_S512x1024_0_0).trans (congrArg View.canon (rowPieces_read harg4 x0))) (readAt_unread harg12 s0 (Rect.unit (s := S1024x1024) ![0, 0] S1024x512.size inb_S1024x1024_S1024x512_0_0).toLoadRect) (readAt_unread harg12 s0 (Rect.unit (s := S1024x1024) ![0, 512] S1024x512.size inb_S1024x1024_S1024x512_0_512).toLoadRect) (readAt_unread harg13 s1 (Rect.unit (s := S1024x1024) ![0, 0] S1024x512.size inb_S1024x1024_S1024x512_0_0).toLoadRect) (readAt_unread harg13 s1 (Rect.unit (s := S1024x1024) ![0, 512] S1024x512.size inb_S1024x1024_S1024x512_0_512).toLoadRect) (readAt_unread harg8 x4 (Rect.unit (s := S1x1x1x1024) ![0, 0, 0, 0] S1x1x1x512.size inb_S1x1x1x1024_S1x1x1x512_0_0_0_0).toLoadRect) (readAt_unread harg8 x4 (Rect.unit (s := S1x1x1x1024) ![0, 0, 0, 512] S1x1x1x512.size inb_S1x1x1x1024_S1x1x1x512_0_0_0_512).toLoadRect) (readAt_unread harg9 x5 (Rect.unit (s := S1x1x1x1024) ![0, 0, 0, 0] S1x1x1x512.size inb_S1x1x1x1024_S1x1x1x512_0_0_0_0).toLoadRect) (readAt_unread harg9 x5 (Rect.unit (s := S1x1x1x1024) ![0, 0, 0, 512] S1x1x1x512.size inb_S1x1x1x1024_S1x1x1x512_0_0_0_512).toLoadRect) (readAt_unread harg14 s2 (Rect.unit (s := S1024x1024) ![0, 0] S512x1024.size inb_S1024x1024_S512x1024_0_0).toLoadRect) (readAt_unread harg14 s2 (Rect.unit (s := S1024x1024) ![512, 0] ![512, 1024] inb_S1024x1024_S512x1024_512_0).toLoadRect)

set_option maxHeartbeats 1600000 in
theorem runA_pieces  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos)))) :
    (runA c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 hcN hcV hcZ).1 = tilePieces x0 (k0_pay1 x1) (k0_pay2 x2) (k0_pay3 x3) x4 x5 x6 :=
  partPieces_congr (readAt_unread_full harg10 x6 inb_S1x1x1x1024_S1x1x1x1024_0_0_0_0) ((readCov_all arg15.view _ inb_S512x1024_S512x1024_0_0).trans (congrArg View.canon (rowPieces_read harg4 x0))) ((readCov_one arg12.view inb_S1024x1024_S1024x1024_0_0 (k0_pay1 (View.readAt (Elt F) arg5.view (Rect.unit (s := S1x1x1024x1024) ![0, 0, 0, 0] S1x1x1024x1024.size inb_S1x1x1024x1024_S1x1x1024x1024_0_0_0_0).toLoadRect (harg5.unread x1))) (Rect.unit (s := S1024x1024) ![0, 0] S1024x512.size inb_S1024x1024_S1024x512_0_0).toLoadRect).trans (congrArg (fun v : Vec F S1x1x1024x1024 .f32 => look (F := F) (s := S1024x1024) (e := .bf16) (k0_pay1 v) (Rect.unit (s := S1024x1024) ![0, 0] S1024x512.size inb_S1024x1024_S1024x512_0_0).toLoadRect) (readAt_unread_full harg5 x1 inb_S1x1x1024x1024_S1x1x1024x1024_0_0_0_0))) ((readCov_one arg12.view inb_S1024x1024_S1024x1024_0_0 (k0_pay1 (View.readAt (Elt F) arg5.view (Rect.unit (s := S1x1x1024x1024) ![0, 0, 0, 0] S1x1x1024x1024.size inb_S1x1x1024x1024_S1x1x1024x1024_0_0_0_0).toLoadRect (harg5.unread x1))) (Rect.unit (s := S1024x1024) ![0, 512] S1024x512.size inb_S1024x1024_S1024x512_0_512).toLoadRect).trans (congrArg (fun v : Vec F S1x1x1024x1024 .f32 => look (F := F) (s := S1024x1024) (e := .bf16) (k0_pay1 v) (Rect.unit (s := S1024x1024) ![0, 512] S1024x512.size inb_S1024x1024_S1024x512_0_512).toLoadRect) (readAt_unread_full harg5 x1 inb_S1x1x1024x1024_S1x1x1024x1024_0_0_0_0))) ((readCov_one arg13.view inb_S1024x1024_S1024x1024_0_0 (k0_pay2 (View.readAt (Elt F) arg6.view (Rect.unit (s := S1x1x1024x1024) ![0, 0, 0, 0] S1x1x1024x1024.size inb_S1x1x1024x1024_S1x1x1024x1024_0_0_0_0).toLoadRect (harg6.unread x2))) (Rect.unit (s := S1024x1024) ![0, 0] S1024x512.size inb_S1024x1024_S1024x512_0_0).toLoadRect).trans (congrArg (fun v : Vec F S1x1x1024x1024 .f32 => look (F := F) (s := S1024x1024) (e := .bf16) (k0_pay2 v) (Rect.unit (s := S1024x1024) ![0, 0] S1024x512.size inb_S1024x1024_S1024x512_0_0).toLoadRect) (readAt_unread_full harg6 x2 inb_S1x1x1024x1024_S1x1x1024x1024_0_0_0_0))) ((readCov_one arg13.view inb_S1024x1024_S1024x1024_0_0 (k0_pay2 (View.readAt (Elt F) arg6.view (Rect.unit (s := S1x1x1024x1024) ![0, 0, 0, 0] S1x1x1024x1024.size inb_S1x1x1024x1024_S1x1x1024x1024_0_0_0_0).toLoadRect (harg6.unread x2))) (Rect.unit (s := S1024x1024) ![0, 512] S1024x512.size inb_S1024x1024_S1024x512_0_512).toLoadRect).trans (congrArg (fun v : Vec F S1x1x1024x1024 .f32 => look (F := F) (s := S1024x1024) (e := .bf16) (k0_pay2 v) (Rect.unit (s := S1024x1024) ![0, 512] S1024x512.size inb_S1024x1024_S1024x512_0_512).toLoadRect) (readAt_unread_full harg6 x2 inb_S1x1x1024x1024_S1x1x1024x1024_0_0_0_0))) (readAt_unread harg8 x4 (Rect.unit (s := S1x1x1x1024) ![0, 0, 0, 0] S1x1x1x512.size inb_S1x1x1x1024_S1x1x1x512_0_0_0_0).toLoadRect) (readAt_unread harg8 x4 (Rect.unit (s := S1x1x1x1024) ![0, 0, 0, 512] S1x1x1x512.size inb_S1x1x1x1024_S1x1x1x512_0_0_0_512).toLoadRect) (readAt_unread harg9 x5 (Rect.unit (s := S1x1x1x1024) ![0, 0, 0, 0] S1x1x1x512.size inb_S1x1x1x1024_S1x1x1x512_0_0_0_0).toLoadRect) (readAt_unread harg9 x5 (Rect.unit (s := S1x1x1x1024) ![0, 0, 0, 512] S1x1x1x512.size inb_S1x1x1x1024_S1x1x1x512_0_0_0_512).toLoadRect) ((readCov_one arg14.view inb_S1024x1024_S1024x1024_0_0 (k0_pay3 (View.readAt (Elt F) arg7.view (Rect.unit (s := S1x1x1024x1024) ![0, 0, 0, 0] S1x1x1024x1024.size inb_S1x1x1024x1024_S1x1x1024x1024_0_0_0_0).toLoadRect (harg7.unread x3))) (Rect.unit (s := S1024x1024) ![0, 0] S512x1024.size inb_S1024x1024_S512x1024_0_0).toLoadRect).trans (congrArg (fun v : Vec F S1x1x1024x1024 .f32 => look (F := F) (s := S1024x1024) (e := .bf16) (k0_pay3 v) (Rect.unit (s := S1024x1024) ![0, 0] S512x1024.size inb_S1024x1024_S512x1024_0_0).toLoadRect) (readAt_unread_full harg7 x3 inb_S1x1x1024x1024_S1x1x1024x1024_0_0_0_0))) ((readCov_one arg14.view inb_S1024x1024_S1024x1024_0_0 (k0_pay3 (View.readAt (Elt F) arg7.view (Rect.unit (s := S1x1x1024x1024) ![0, 0, 0, 0] S1x1x1024x1024.size inb_S1x1x1024x1024_S1x1x1024x1024_0_0_0_0).toLoadRect (harg7.unread x3))) (Rect.unit (s := S1024x1024) ![512, 0] ![512, 1024] inb_S1024x1024_S512x1024_512_0).toLoadRect).trans (congrArg (fun v : Vec F S1x1x1024x1024 .f32 => look (F := F) (s := S1024x1024) (e := .bf16) (k0_pay3 v) (Rect.unit (s := S1024x1024) ![512, 0] ![512, 1024] inb_S1024x1024_S512x1024_512_0).toLoadRect) (readAt_unread_full harg7 x3 inb_S1x1x1024x1024_S1x1x1024x1024_0_0_0_0)))

theorem runA_held0  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos))))  (f : arg12.view.ty.Contents (Elt F)) :
    arg12.view.read (Elt F) (arg12.view.writes (Elt F) f (runA c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 hcN hcV hcZ).2.1) = k0_pay1 x1 :=
  (View.read_writes_full arg12.view f inb_S1024x1024_S1024x1024_0_0 (k0_pay1 (View.readAt (Elt F) arg5.view (Rect.unit (s := S1x1x1024x1024) ![0, 0, 0, 0] S1x1x1024x1024.size inb_S1x1x1024x1024_S1x1x1024x1024_0_0_0_0).toLoadRect (harg5.unread x1))) []).trans
    (congrArg k0_pay1 (readAt_unread_full harg5 x1 inb_S1x1x1024x1024_S1x1x1024x1024_0_0_0_0))

theorem runA_held1  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos))))  (f : arg13.view.ty.Contents (Elt F)) :
    arg13.view.read (Elt F) (arg13.view.writes (Elt F) f (runA c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 hcN hcV hcZ).2.2.1) = k0_pay2 x2 :=
  (View.read_writes_full arg13.view f inb_S1024x1024_S1024x1024_0_0 (k0_pay2 (View.readAt (Elt F) arg6.view (Rect.unit (s := S1x1x1024x1024) ![0, 0, 0, 0] S1x1x1024x1024.size inb_S1x1x1024x1024_S1x1x1024x1024_0_0_0_0).toLoadRect (harg6.unread x2))) []).trans
    (congrArg k0_pay2 (readAt_unread_full harg6 x2 inb_S1x1x1024x1024_S1x1x1024x1024_0_0_0_0))

theorem runA_held2  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : condV i (tbM0_2.view.readAt (Elt F) (Rect.unit (s := S1) ![0] S1.size inb_S1_S1_0).toLoadRect xt2 (Shape.Idx.first (numel1_S1.symm ▸ Nat.one_pos)))) (hcZ : ¬condZ i (tbM0_2.view.readAt (Elt F) (Rect.unit (s := S1) ![0] S1.size inb_S1_S1_0).toLoadRect xt2 (Shape.Idx.first (numel1_S1.symm ▸ Nat.one_pos))))  (f : arg14.view.ty.Contents (Elt F)) :
    arg14.view.read (Elt F) (arg14.view.writes (Elt F) f (runA c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 hcN hcV hcZ).2.2.2.1) = k0_pay3 x3 :=
  (View.read_writes_full arg14.view f inb_S1024x1024_S1024x1024_0_0 (k0_pay3 (View.readAt (Elt F) arg7.view (Rect.unit (s := S1x1x1024x1024) ![0, 0, 0, 0] S1x1x1024x1024.size inb_S1x1x1024x1024_S1x1x1024x1024_0_0_0_0).toLoadRect (harg7.unread x3))) []).trans
    (congrArg k0_pay3 (readAt_unread_full harg7 x3 inb_S1x1x1024x1024_S1x1x1024x1024_0_0_0_0))

theorem runC_out  (c : Dev nD) (i : grid0.Coords) (arg4 : Memref sig .tc .vmem S4096x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1x1x1x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S512x1024 .bf16) (harg15 : arg15.IsWhole)
    (x0 : Vec F S4096x128 .f32) (x1 : Vec F S1x1x1024x1024 .f32) (x2 : Vec F S1x1x1024x1024 .f32) (x3 : Vec F S1x1x1024x1024 .f32) (x4 : Vec F S1x1x1x1024 .f32) (x5 : Vec F S1x1x1x1024 .f32) (x6 : Vec F S1x1x1x1024 .f32) (xt0 : TbBuf0 (F := F) c tbM0_0) (xt1 : TbBuf0 (F := F) c tbM0_1) (xt2 : TbBuf0 (F := F) c tbM0_2) (hcN : ¬condN i (tbM0_0.view.readAt (Elt F) (Rect.unit (s := S288) (k0_off2 i) S1.size (k0_off2_inb i)).toLoadRect xt0 (Shape.Idx.first (numel1_S1.symm ▸ Nat.one_pos))) (tbM0_0.view.readAt (Elt F) (Rect.unit (s := S288) (k0_off1 i) S1.size (k0_off1_inb i)).toLoadRect xt0 (Shape.Idx.first (numel1_S1.symm ▸ Nat.one_pos))) (tbM0_2.view.readAt (Elt F) (Rect.unit (s := S1) ![0] S1.size inb_S1_S1_0).toLoadRect xt2 (Shape.Idx.first (numel1_S1.symm ▸ Nat.one_pos)))) (hcV : ¬condV i (tbM0_2.view.readAt (Elt F) (Rect.unit (s := S1) ![0] S1.size inb_S1_S1_0).toLoadRect xt2 (Shape.Idx.first (numel1_S1.symm ▸ Nat.one_pos)))) (hcZ : condZ i (tbM0_2.view.readAt (Elt F) (Rect.unit (s := S1) ![0] S1.size inb_S1_S1_0).toLoadRect xt2 (Shape.Idx.first (numel1_S1.symm ▸ Nat.one_pos))))  (f : arg11.view.ty.Contents (Elt F)) :
    arg11.view.read (Elt F) (arg11.view.writes (Elt F) f (runC c i arg4 harg4 arg5 harg5 arg6 harg6 arg7 harg7 arg8 harg8 arg9 harg9 arg10 harg10 arg11 harg11 arg12 harg12 arg13 harg13 arg14 harg14 arg15 harg15 x0 x1 x2 x3 x4 x5 x6 xt0 xt1 xt2 hcN hcV hcZ).1) = k0_pay13 :=
  View.read_writes_full arg11.view f inb_S4096x128_S4096x128_0_0 k0_pay13 []

theorem tile_read {κ : Kind} {sp : Space} (v : View sig κ sp S4096x128 .f32) (f : v.ty.Contents (Elt F)) (x0 : Vec F S4096x128 .f32) (s0 s1 s2 : Vec F S1024x1024 .bf16)
    (x4 x5 x6 : Vec F S1x1x1x1024 .f32) : v.read (Elt F) (v.writes (Elt F) f (tilePieces x0 s0 s1 s2 x4 x5 x6)) = tile x0 s0 s1 s2 x4 x5 x6 :=
  View.read_writes_eq_canon v f _ (fun y => cover_out _ _ _ _ y)

end Cert.Experts

end
-- ==== Proof.ExWords.lean ====
/- The words of the tables: which expert a tile has, which block it reads, how many tiles are in use. -/
module

public import proofs.«01_k».proof.Proof.ExVal

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert of tile `n`, the block tile `n` reads, the number of tiles in use. -/
def T0 : S288.Idx → BitVec 32 := tbl m 0
def T1 : S288.Idx → BitVec 32 := tbl m 1
def T2 : S1.Idx → BitVec 32 := tbl m 2
def ix (n : Fin 288) : S288.Idx := fun a => ⟨n.val, match a with | ⟨0, _⟩ => n.isLt⟩
def ix1 : S1.Idx := fun a => ⟨0, match a with | ⟨0, _⟩ => Nat.one_pos⟩
def te (n : Fin 288) : BitVec 32 := T0 m (ix n)
def tb (n : Fin 288) : BitVec 32 := T1 m (ix n)
def nu : BitVec 32 := T2 m ix1

theorem ix_ext (x : S288.Idx) (n : Fin 288) (h : (x 0).val = n.val) : x = ix n := by
  funext a
  obtain rfl : a = 0 := Subsingleton.elim _ _
  exact Fin.ext (show (x 0).val = n.val from h)

theorem ix1_ext (x : S1.Idx) : x = ix1 := by
  funext a
  obtain rfl : a = 0 := Subsingleton.elim _ _
  refine Fin.ext ?_
  have h : (x 0).val < 1 := (x 0).isLt
  show (x 0).val = 0
  omega

theorem coords_val (t : Fin grid0.N) : (grid0.coords t 0).val = t.val := by
  have h : t.val < 288 := t.isLt
  have := Pipeline.Grid.coords_val t 0 (S := 1) (B := 288) (by decide) rfl
  rw [this]; omega

theorem cur_word (i : grid0.Coords) : (tbM0_0.view.readAt (Elt F) (Rect.unit (s := S288) (k0_off1 i) S1.size (k0_off1_inb i)).toLoadRect (tbl m 0) (Shape.Idx.first (numel1_S1.symm ▸ Nat.one_pos))) = te m (i 0) := by
  refine (View.readAt_apply ..).trans ?_
  refine congrArg (T0 m) (ix_ext _ _ ?_)
  show (k0_off1 i) 0 + 1 * 0 = (i 0).val
  rw [k0_off1_eq]; rfl

theorem off2_val (i : grid0.Coords) (p : ℕ) (h : (i 0).val = p + 1) : (k0_off2 i) 0 = p := by
  have h288 : (i 0).val < 288 := (i 0).isLt
  show (Scalar.maxsi (Scalar.subi (BitVec.ofNat 32 (i 0).val) 1#32) 0#32).toNat = p
  rw [h]
  have e : Scalar.subi (BitVec.ofNat 32 (p + 1)) 1#32 = BitVec.ofNat 32 p := by
    apply BitVec.eq_of_toNat_eq
    show (BitVec.ofNat 32 (p + 1) - 1#32).toNat = _
    rw [BitVec.toNat_sub, BitVec.toNat_ofNat, BitVec.toNat_ofNat, BitVec.toNat_ofNat]; omega
  rw [e]
  show (if (0#32).slt (BitVec.ofNat 32 p) then BitVec.ofNat 32 p else 0#32).toNat = p
  by_cases hp : p = 0
  · rw [hp]; rfl
  have hs : (0#32).slt (BitVec.ofNat 32 p) = true := by
    rw [BitVec.slt_eq_decide, decide_eq_true_iff]
    rw [BitVec.toInt_eq_toNat_cond (x := BitVec.ofNat 32 p), BitVec.toInt_zero, BitVec.toNat_ofNat]
    split <;> omega
  rw [hs, if_pos rfl, BitVec.toNat_ofNat]; omega

theorem prev_word (i : grid0.Coords) (p : Fin 288) (h : (i 0).val = p.val + 1) : (tbM0_0.view.readAt (Elt F) (Rect.unit (s := S288) (k0_off2 i) S1.size (k0_off2_inb i)).toLoadRect (tbl m 0) (Shape.Idx.first (numel1_S1.symm ▸ Nat.one_pos))) = te m p := by
  refine (View.readAt_apply ..).trans ?_
  refine congrArg (T0 m) (ix_ext _ _ ?_)
  show (k0_off2 i) 0 + 1 * 0 = p.val
  rw [off2_val i p.val h]; rfl

theorem used_word : (tbM0_2.view.readAt (Elt F) (Rect.unit (s := S1) ![0] S1.size inb_S1_S1_0).toLoadRect (tbl m 2) (Shape.Idx.first (numel1_S1.symm ▸ Nat.one_pos))) = nu m := by
  refine (View.readAt_apply ..).trans ?_
  exact congrArg (T2 m) (ix1_ext _)

theorem used_atD : (tbl m).atD 2 ![0] = nu m := by
  refine (dif_pos (by decide)).trans ?_
  exact congrArg (T2 m) (ix1_ext _)

theorem at0 (i : grid0.Coords) : ((tbl m).at 0 (Rect.unit (s := S288) (k0_off1 i) S1.size (k0_off1_inb i)) numel1_S1 : BitVec 32) = te m (i 0) := by
  refine congrArg (T0 m) (ix_ext _ _ ?_)
  show (k0_off1 i) 0 + 1 * 0 = (i 0).val
  rw [k0_off1_eq]; rfl

theorem at1 (i : grid0.Coords) : ((tbl m).at 1 (Rect.unit (s := S288) (k0_off1 i) S1.size (k0_off1_inb i)) numel1_S1 : BitVec 32) = tb m (i 0) := by
  refine congrArg (T1 m) (ix_ext _ _ ?_)
  show (k0_off1 i) 0 + 1 * 0 = (i 0).val
  rw [k0_off1_eq]; rfl

theorem map0 (i : grid0.Coords) : cc0_transform_0 k0_off1_inb numel1_S1 (tbl m) i = ![(tb m (i 0)).toNat, 0] :=
  congrArg (fun b : BitVec 32 => (![b.toNat, 0] : Fin 2 → ℕ)) (at1 m i)
theorem map1 (i : grid0.Coords) : cc0_transform_1 k0_off1_inb numel1_S1 (tbl m) i = ![0, (te m (i 0)).toNat, 0, 0] :=
  congrArg (fun b : BitVec 32 => (![0, b.toNat, 0, 0] : Fin 4 → ℕ)) (at0 m i)
theorem map2 (i : grid0.Coords) : cc0_transform_2 k0_off1_inb numel1_S1 (tbl m) i = ![0, (te m (i 0)).toNat, 0, 0] :=
  congrArg (fun b : BitVec 32 => (![0, b.toNat, 0, 0] : Fin 4 → ℕ)) (at0 m i)
theorem map3 (i : grid0.Coords) : cc0_transform_3 k0_off1_inb numel1_S1 (tbl m) i = ![0, (te m (i 0)).toNat, 0, 0] :=
  congrArg (fun b : BitVec 32 => (![0, b.toNat, 0, 0] : Fin 4 → ℕ)) (at0 m i)
theorem map4 (i : grid0.Coords) : cc0_transform_4 k0_off1_inb numel1_S1 (tbl m) i = ![0, (te m (i 0)).toNat, 0, 0] :=
  congrArg (fun b : BitVec 32 => (![0, b.toNat, 0, 0] : Fin 4 → ℕ)) (at0 m i)
theorem map5 (i : grid0.Coords) : cc0_transform_5 k0_off1_inb numel1_S1 (tbl m) i = ![0, (te m (i 0)).toNat, 0, 0] :=
  congrArg (fun b : BitVec 32 => (![0, b.toNat, 0, 0] : Fin 4 → ℕ)) (at0 m i)
theorem map6 (i : grid0.Coords) : cc0_transform_6 k0_off1_inb numel1_S1 (tbl m) i = ![0, (te m (i 0)).toNat, 0, 0] :=
  congrArg (fun b : BitVec 32 => (![0, b.toNat, 0, 0] : Fin 4 → ℕ)) (at0 m i)

/-! ## The conditions -/

theorem bit_cases (b : BitVec 1) : b = 0#1 ∨ b = 1#1 := by
  revert b; decide

theorem condV_iff (i : grid0.Coords) (v : BitVec 32) : condV i v ↔ (BitVec.ofNat 32 (i 0).val).slt v = true := by
  show Scalar.cmpi .ne (Scalar.extui (Scalar.cmpi .slt (BitVec.ofNat 32 (i 0).val) v)) 0#32 = 1#1 ↔ _
  show BitVec.ofBool (BitVec.setWidth 32 (BitVec.ofBool ((BitVec.ofNat 32 (i 0).val).slt v)) != 0#32) = 1#1 ↔ _
  cases (BitVec.ofNat 32 (i 0).val).slt v <;> decide

theorem condZ_iff (i : grid0.Coords) (v : BitVec 32) : condZ i v ↔ ¬condV i v := by
  rw [condV_iff]
  show BitVec.ofBool (BitVec.setWidth 32 (BitVec.ofBool ((BitVec.ofNat 32 (i 0).val).slt v) ^^^ 1#1) != 0#32) = 1#1 ↔ _
  cases (BitVec.ofNat 32 (i 0).val).slt v <;> decide

theorem condN_iff (i : grid0.Coords) (v3 v6 v9 : BitVec 32) : condN i v3 v6 v9 ↔ ((i 0).val = 0 ∨ v6 ≠ v3) ∧ condV i v9 := by
  rw [condV_iff]
  have h288 : (i 0).val < 288 := (i 0).isLt
  have e0 : (BitVec.ofNat 32 (i 0).val == 0#32) = decide ((i 0).val = 0) := by
    rw [Bool.eq_iff_iff, beq_iff_eq, decide_eq_true_iff]
    constructor
    · intro h
      have := congrArg BitVec.toNat h
      rw [BitVec.toNat_ofNat] at this
      change (i 0).val % 2 ^ 32 = 0 at this
      omega
    · intro h; rw [h]
  have e1 : (v6 != v3) = decide (v6 ≠ v3) := by
    rw [Bool.eq_iff_iff, bne_iff_ne, decide_eq_true_iff]
  show BitVec.ofBool (BitVec.setWidth 32 ((BitVec.ofBool (BitVec.ofNat 32 (i 0).val == 0#32) ||| BitVec.ofBool (v6 != v3)) &&& BitVec.ofBool ((BitVec.ofNat 32 (i 0).val).slt v9)) != 0#32) = 1#1 ↔ _
  rw [e0, e1]
  by_cases a : (i 0).val = 0 <;> by_cases b : v6 = v3 <;> cases (BitVec.ofNat 32 (i 0).val).slt v9 <;> simp [a, b] <;> decide

/-- The output window is written at every point. -/
theorem idle7 (t : Fin grid0.N) : idle0 (F := F) (tbl m) 7 (grid0.coords t) = false := by
  have h := condZ_iff (grid0.coords t) (nu m)
  show (!(k0_cond2 (grid0.coords t) ((tbl m).atD 2 ![0]) == 1#1) && !(k0_cond3 (grid0.coords t) ((tbl m).atD 2 ![0]) == 1#1)) = false
  rw [used_atD]
  by_cases c : k0_cond2 (grid0.coords t) (nu m) = 1#1
  · rw [c]; rfl
  · rw [h.mpr c]; simp

/-! ## The same expert, the same blocks -/

theorem iblk1_congr (hO : Ok m) (c : Dev nD) (t p : Fin (cfgM m hO).N) (h : te m (grid0.coords t 0) = te m (grid0.coords p 0)) :
    (iblk m hO c 1 t : Vec F S1x1x1024x1024 .f32) = (iblk m hO c 1 p : Vec F S1x1x1024x1024 .f32) := by
  have h' : cc0_transform_1 k0_off1_inb numel1_S1 (tbl m) (grid0.coords t) = cc0_transform_1 k0_off1_inb numel1_S1 (tbl m) (grid0.coords p) := by
    rw [map1, map1, h]
  funext y
  unfold iblk
  refine (View.read_apply ..).trans (Eq.trans ?_ (View.read_apply ..).symm)
  refine congrArg (fun j => cast _ (V m c (Pipeline.arrRef spec0 1) j)) (funext fun a => Fin.ext ?_)
  show cc0_transform_1 k0_off1_inb numel1_S1 (tbl m) (grid0.coords t) a * S1x1x1024x1024.size a + 1 * (y a).val = cc0_transform_1 k0_off1_inb numel1_S1 (tbl m) (grid0.coords p) a * S1x1x1024x1024.size a + 1 * (y a).val
  rw [h']

theorem iblk2_congr (hO : Ok m) (c : Dev nD) (t p : Fin (cfgM m hO).N) (h : te m (grid0.coords t 0) = te m (grid0.coords p 0)) :
    (iblk m hO c 2 t : Vec F S1x1x1024x1024 .f32) = (iblk m hO c 2 p : Vec F S1x1x1024x1024 .f32) := by
  have h' : cc0_transform_2 k0_off1_inb numel1_S1 (tbl m) (grid0.coords t) = cc0_transform_2 k0_off1_inb numel1_S1 (tbl m) (grid0.coords p) := by
    rw [map2, map2, h]
  funext y
  unfold iblk
  refine (View.read_apply ..).trans (Eq.trans ?_ (View.read_apply ..).symm)
  refine congrArg (fun j => cast _ (V m c (Pipeline.arrRef spec0 2) j)) (funext fun a => Fin.ext ?_)
  show cc0_transform_2 k0_off1_inb numel1_S1 (tbl m) (grid0.coords t) a * S1x1x1024x1024.size a + 1 * (y a).val = cc0_transform_2 k0_off1_inb numel1_S1 (tbl m) (grid0.coords p) a * S1x1x1024x1024.size a + 1 * (y a).val
  rw [h']

theorem iblk3_congr (hO : Ok m) (c : Dev nD) (t p : Fin (cfgM m hO).N) (h : te m (grid0.coords t 0) = te m (grid0.coords p 0)) :
    (iblk m hO c 3 t : Vec F S1x1x1024x1024 .f32) = (iblk m hO c 3 p : Vec F S1x1x1024x1024 .f32) := by
  have h' : cc0_transform_3 k0_off1_inb numel1_S1 (tbl m) (grid0.coords t) = cc0_transform_3 k0_off1_inb numel1_S1 (tbl m) (grid0.coords p) := by
    rw [map3, map3, h]
  funext y
  unfold iblk
  refine (View.read_apply ..).trans (Eq.trans ?_ (View.read_apply ..).symm)
  refine congrArg (fun j => cast _ (V m c (Pipeline.arrRef spec0 3) j)) (funext fun a => Fin.ext ?_)
  show cc0_transform_3 k0_off1_inb numel1_S1 (tbl m) (grid0.coords t) a * S1x1x1024x1024.size a + 1 * (y a).val = cc0_transform_3 k0_off1_inb numel1_S1 (tbl m) (grid0.coords p) a * S1x1x1024x1024.size a + 1 * (y a).val
  rw [h']

end Cert.Experts

end
-- ==== Proof.ExPoint.lean ====
/- One point of the grid: what the body is given and what it leaves, case by case. -/
module

public import proofs.«01_k».proof.Proof.ExWords

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Tile `t` of the result: the expert's tile while tiles are in use, zeros after. -/
def outAt (hO : Ok m) (c : Dev nD) (t : Fin (cfgM m hO).N) : Vec F S4096x128 .f32 :=
  open Classical in
  if condV (grid0.coords t) (nu m) then
    tile (iblk m hO c 0 t) (k0_pay1 (iblk m hO c 1 t)) (k0_pay2 (iblk m hO c 2 t)) (k0_pay3 (iblk m hO c 3 t)) (iblk m hO c 4 t) (iblk m hO c 5 t) (iblk m hO c 6 t)
  else k0_pay13

theorem outAt_V (hO : Ok m) (c : Dev nD) (t : Fin (cfgM m hO).N) (h : condV (grid0.coords t) (nu m)) :
    outAt m hO c t = tile (iblk m hO c 0 t) (k0_pay1 (iblk m hO c 1 t)) (k0_pay2 (iblk m hO c 2 t)) (k0_pay3 (iblk m hO c 3 t)) (iblk m hO c 4 t) (iblk m hO c 5 t) (iblk m hO c 6 t) := by
  unfold outAt; exact if_pos h
theorem outAt_Z (hO : Ok m) (c : Dev nD) (t : Fin (cfgM m hO).N) (h : ¬condV (grid0.coords t) (nu m)) : outAt m hO c t = k0_pay13 := by
  unfold outAt; exact if_neg h

/-- The three held weights at given contents, and at any. -/
abbrev heldAt (c : Dev nD) (d0 d1 d2 : Vec F S1024x1024 .bf16) : sProp 𝕄 :=
  iprop(owns (c : Thread nD τ) scM0_0 fullShare d0 ∗ owns (c : Thread nD τ) scM0_1 fullShare d1 ∗ owns (c : Thread nD τ) scM0_2 fullShare d2)
abbrev heldAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

/-- Everything the body passes through: the row buffer, the tables, the input blocks, and what it does not touch. -/
abbrev around (hO : Ok m) (c : Dev nD) (t : Fin (cfgM m hO).N) (G O S out : sProp 𝕄) : sProp 𝕄 :=
  iprop(S ∗ (∃ d, owns (c : Thread nD τ) scM0_3 fullShare d) ∗ G ∗ tbPt0 c tbM0_0 (tbl m 0) ∗ tbPt0 c tbM0_1 (tbl m 1) ∗ tbPt0 c tbM0_2 (tbl m 2) ∗ O
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ out)

set_option maxHeartbeats 2400000 in
theorem sound_A (hO : Ok m) (c : Dev nD) (t : Fin (cfgM m hO).N) (G O : sProp 𝕄) (hV : condV (grid0.coords t) (nu m))
    (hcN : condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos)))) (hcV : condV (grid0.coords t) (tbM0_2.view.readAt (Elt F) (Rect.unit (s := S1) ![0] S1.size inb_S1_S1_0).toLoadRect (tbl m 2) (Shape.Idx.first (numel1_S1.symm ▸ Nat.one_pos)))) (hcZ : ¬condZ (grid0.coords t) (tbM0_2.view.readAt (Elt F) (Rect.unit (s := S1) ![0] S1.size inb_S1_S1_0).toLoadRect (tbl m 2) (Shape.Idx.first (numel1_S1.symm ▸ Nat.one_pos)))) :
    around m hO c t G O (heldAny c) (iprop(∃ d, owns (c : Thread nD τ) (ms0_7 m hO t) fullShare d))
      ⊢ wp frame (wpE (defs₀ (F := F)) Variants.none c none) Set.univ (bodyAt0 (adm m hO) t)
          (fun _ => around m hO c t G O (heldAt c (k0_pay1 (iblk m hO c 1 t)) (k0_pay2 (iblk m hO c 2 t)) (k0_pay3 (iblk m hO c 3 t))) (owns (c : Thread nD τ) (ms0_7 m hO t) fullShare (outAt m hO c t))) := by
  rw [outAt_V m hO c t hV]
  unfold bodyAt0
  iintro ⟨⟨HS0, HS1, HS2⟩, HS3, Hg, HT0, HT1, HT2, Ho, H0, H1, H2, H3, H4, H5, H6, H7⟩
  iapply ((runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, ⟨%fT0, HS0⟩, ⟨%fT1, HS1⟩, ⟨%fT2, HS2⟩, ⟨%fT3, HS3⟩, HT0, HT1, HT2⟩
  isplitl [HS0 HS1 HS2]
  · isplitl [HS0]
    · unfold owns; iexists _; isplitr
      swap; · iexact HS0
      ipureintro; exact runA_held0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ _
    isplitl [HS1]
    · unfold owns; iexists _; isplitr
      swap; · iexact HS1
      ipureintro; exact runA_held1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ _
    · unfold owns; iexists _; isplitr
      swap; · iexact HS2
      ipureintro; exact runA_held2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ _
  isplitl [HS3]
  · iexists _; unfold owns; iexists _; isplitr
    swap; · iexact HS3
    ipureintro; rfl
  isplitl [Hg]; · iexact Hg
  isplitl [HT0]; · iexact HT0
  isplitl [HT1]; · iexact HT1
  isplitl [HT2]; · iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact (congrArg (fun L => (ms0_7 m hO t).view.read (Elt F) ((ms0_7 m hO t).view.writes (Elt F) e7 L)) (runA_pieces c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ)).trans (tile_read _ _ _ _ _ _ _ _ _)

set_option maxHeartbeats 2400000 in
theorem sound_B (hO : Ok m) (c : Dev nD) (t : Fin (cfgM m hO).N) (G O : sProp 𝕄) (hV : condV (grid0.coords t) (nu m))
    (hcN : ¬condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos)))) (hcV : condV (grid0.coords t) (tbM0_2.view.readAt (Elt F) (Rect.unit (s := S1) ![0] S1.size inb_S1_S1_0).toLoadRect (tbl m 2) (Shape.Idx.first (numel1_S1.symm ▸ Nat.one_pos)))) (hcZ : ¬condZ (grid0.coords t) (tbM0_2.view.readAt (Elt F) (Rect.unit (s := S1) ![0] S1.size inb_S1_S1_0).toLoadRect (tbl m 2) (Shape.Idx.first (numel1_S1.symm ▸ Nat.one_pos)))) :
    around m hO c t G O (heldAt c (k0_pay1 (iblk m hO c 1 t)) (k0_pay2 (iblk m hO c 2 t)) (k0_pay3 (iblk m hO c 3 t))) (iprop(∃ d, owns (c : Thread nD τ) (ms0_7 m hO t) fullShare d))
      ⊢ wp frame (wpE (defs₀ (F := F)) Variants.none c none) Set.univ (bodyAt0 (adm m hO) t)
          (fun _ => around m hO c t G O (heldAt c (k0_pay1 (iblk m hO c 1 t)) (k0_pay2 (iblk m hO c 2 t)) (k0_pay3 (iblk m hO c 3 t))) (owns (c : Thread nD τ) (ms0_7 m hO t) fullShare (outAt m hO c t))) := by
  rw [outAt_V m hO c t hV]
  unfold bodyAt0
  iintro ⟨⟨HS0, HS1, HS2⟩, HS3, Hg, HT0, HT1, HT2, Ho, H0, H1, H2, H3, H4, H5, H6, H7⟩
  iapply ((runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (k0_pay1 (iblk m hO c 1 t)) (k0_pay2 (iblk m hO c 2 t)) (k0_pay3 (iblk m hO c 3 t)) (tbl m 0) (tbl m 1) (tbl m 2) hcN hcV hcZ).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, HS0, HS1, HS2, ⟨%fT3, HS3⟩, HT0, HT1, HT2⟩
  isplitl [HS0 HS1 HS2]
  · isplitl [HS0]; · iexact HS0
    isplitl [HS1]; · iexact HS1
    iexact HS2
  isplitl [HS3]
  · iexists _; unfold owns; iexists _; isplitr
    swap; · iexact HS3
    ipureintro; rfl
  isplitl [Hg]; · iexact Hg
  isplitl [HT0]; · iexact HT0
  isplitl [HT1]; · iexact HT1
  isplitl [HT2]; · iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact (congrArg (fun L => (ms0_7 m hO t).view.read (Elt F) ((ms0_7 m hO t).view.writes (Elt F) e7 L)) (runB_pieces c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (k0_pay1 (iblk m hO c 1 t)) (k0_pay2 (iblk m hO c 2 t)) (k0_pay3 (iblk m hO c 3 t)) (tbl m 0) (tbl m 1) (tbl m 2) hcN hcV hcZ)).trans (tile_read _ _ _ _ _ _ _ _ _)

set_option maxHeartbeats 2400000 in
theorem sound_Z (hO : Ok m) (c : Dev nD) (t : Fin (cfgM m hO).N) (G O : sProp 𝕄) (hV : ¬condV (grid0.coords t) (nu m))
    (hcN : ¬condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos)))) (hcV : ¬condV (grid0.coords t) (tbM0_2.view.readAt (Elt F) (Rect.unit (s := S1) ![0] S1.size inb_S1_S1_0).toLoadRect (tbl m 2) (Shape.Idx.first (numel1_S1.symm ▸ Nat.one_pos)))) (hcZ : condZ (grid0.coords t) (tbM0_2.view.readAt (Elt F) (Rect.unit (s := S1) ![0] S1.size inb_S1_S1_0).toLoadRect (tbl m 2) (Shape.Idx.first (numel1_S1.symm ▸ Nat.one_pos)))) :
    around m hO c t G O (heldAny c) (iprop(∃ d, owns (c : Thread nD τ) (ms0_7 m hO t) fullShare d))
      ⊢ wp frame (wpE (defs₀ (F := F)) Variants.none c none) Set.univ (bodyAt0 (adm m hO) t)
          (fun _ => around m hO c t G O (heldAny c) (owns (c : Thread nD τ) (ms0_7 m hO t) fullShare (outAt m hO c t))) := by
  rw [outAt_Z m hO c t hV]
  unfold bodyAt0
  iintro ⟨⟨HS0, HS1, HS2⟩, HS3, Hg, HT0, HT1, HT2, Ho, H0, H1, H2, H3, H4, H5, H6, H7⟩
  iapply ((runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT0]; · iexact HT0
  isplitl [HT1]; · iexact HT1
  isplitl [HT2]; · iexact HT2
  iintro ⟨H0, H1, H2, H3, H4, H5, H6, ⟨%e7, H7⟩, HS0, HS1, HS2, HS3, HT0, HT1, HT2⟩
  isplitl [HS0 HS1 HS2]
  · isplitl [HS0]; · iexact HS0
    isplitl [HS1]; · iexact HS1
    iexact HS2
  isplitl [HS3]
  · iexact HS3
  isplitl [Hg]; · iexact Hg
  isplitl [HT0]; · iexact HT0
  isplitl [HT1]; · iexact HT1
  isplitl [HT2]; · iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact runC_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) hcN hcV hcZ e7

end Cert.Experts

end
-- ==== Proof.ExFrame.lean ====
/- The launch: what the pipeline carries from point to point, and the frame. -/
module

public import proofs.«01_k».proof.Proof.ExPoint
public import Idealize.ShloMosaic.Lib.Claim

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before point `n` the held weights are those of tile `n - 1`, if that tile is in use. -/
def Held (hO : Ok m) (c : Dev nD) (n : ℕ) (d0 d1 d2 : Vec F S1024x1024 .bf16) : Prop :=
  ∀ p : Fin (cfgM m hO).N, p.val + 1 = n → condV (grid0.coords p) (nu m) →
    d0 = k0_pay1 (iblk m hO c 1 p) ∧ d1 = k0_pay2 (iblk m hO c 2 p) ∧ d2 = k0_pay3 (iblk m hO c 3 p)

/-- What is carried: the held weights, the row buffer, the generator register, the tables. -/
def carried (hO : Ok m) (c : Dev nD) (n : ℕ) : sProp 𝕄 :=
  iprop((∃ d0 d1 d2, ⌜Held m hO c n d0 d1 d2⌝ ∗ heldAt c d0 d1 d2) ∗ (∃ d, owns (c : Thread nD τ) scM0_3 fullShare d) ∗ (∃ r, prngReg c r)
    ∗ tbPt0 c tbM0_0 (tbl m 0) ∗ tbPt0 c tbM0_1 (tbl m 1) ∗ tbPt0 c tbM0_2 (tbl m 2))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outAt m hO c t)
  Φ t := carried m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## What is carried, read at a point -/

section Carry

theorem any_of_held {α : Type} {H : α → α → α → Prop} {X Y Z : α → sProp 𝕄} :
    iprop(∃ d0 d1 d2, ⌜H d0 d1 d2⌝ ∗ X d0 ∗ Y d1 ∗ Z d2) ⊢ iprop((∃ d, X d) ∗ (∃ d, Y d) ∗ (∃ d, Z d)) := by
  iintro ⟨%d0, %d1, %d2, -, HX, HY, HZ⟩
  isplitl [HX]; · iexists d0; iexact HX
  isplitl [HY]; · iexists d1; iexact HY
  iexists d2; iexact HZ

theorem held_of_any {α : Type} {H : α → α → α → Prop} {X Y Z : α → sProp 𝕄} (h : ∀ a b d, H a b d) :
    iprop((∃ d, X d) ∗ (∃ d, Y d) ∗ (∃ d, Z d)) ⊢ iprop(∃ d0 d1 d2, ⌜H d0 d1 d2⌝ ∗ X d0 ∗ Y d1 ∗ Z d2) := by
  iintro ⟨⟨%d0, HX⟩, ⟨%d1, HY⟩, ⟨%d2, HZ⟩⟩
  iexists d0; iexists d1; iexists d2
  isplitr; · ipureintro; exact h _ _ _
  isplitl [HX]; · iexact HX
  isplitl [HY]; · iexact HY
  iexact HZ

theorem at_of_held {α : Type} {H : α → α → α → Prop} {X Y Z : α → sProp 𝕄} {a b d : α} (h : ∀ a' b' d', H a' b' d' → a' = a ∧ b' = b ∧ d' = d) :
    iprop(∃ d0 d1 d2, ⌜H d0 d1 d2⌝ ∗ X d0 ∗ Y d1 ∗ Z d2) ⊢ iprop(X a ∗ Y b ∗ Z d) := by
  iintro ⟨%d0, %d1, %d2, %hh, HX, HY, HZ⟩
  obtain ⟨rfl, rfl, rfl⟩ := h _ _ _ hh
  isplitl [HX]; · iexact HX
  isplitl [HY]; · iexact HY
  iexact HZ

theorem held_of_at {α : Type} {H : α → α → α → Prop} {X Y Z : α → sProp 𝕄} {a b d : α} (h : H a b d) :
    iprop(X a ∗ Y b ∗ Z d) ⊢ iprop(∃ d0 d1 d2, ⌜H d0 d1 d2⌝ ∗ X d0 ∗ Y d1 ∗ Z d2) := by
  iintro ⟨HX, HY, HZ⟩
  iexists a; iexists b; iexists d
  isplitr; · ipureintro; exact h
  isplitl [HX]; · iexact HX
  isplitl [HY]; · iexact HY
  iexact HZ

end Carry

/-- After a tile in use the held weights are that tile's. -/
theorem held_succ (hO : Ok m) (c : Dev nD) (t : Fin (cfgM m hO).N) :
    Held m hO c (t.val + 1) (k0_pay1 (iblk m hO c 1 t)) (k0_pay2 (iblk m hO c 2 t)) (k0_pay3 (iblk m hO c 3 t)) := by
  intro p hp _
  obtain rfl : p = t := Fin.ext (by omega)
  exact ⟨rfl, rfl, rfl⟩

theorem held_none (hO : Ok m) (c : Dev nD) (t : Fin (cfgM m hO).N) (h : ¬condV (grid0.coords t) (nu m)) (a b d) : Held m hO c (t.val + 1) a b d := by
  intro p hp hv
  obtain rfl : p = t := Fin.ext (by omega)
  exact absurd hv h

/-- At a tile in use with the expert of the tile before, the held weights are this tile's. -/
theorem held_here (hO : Ok m) (c : Dev nD) (t : Fin (cfgM m hO).N) (hV : condV (grid0.coords t) (nu m))
    (hN : ¬condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos)))) (a b d) (h : Held m hO c t.val a b d) :
    a = k0_pay1 (iblk m hO c 1 t) ∧ b = k0_pay2 (iblk m hO c 2 t) ∧ d = k0_pay3 (iblk m hO c 3 t) := by
  rw [used_word, condN_iff] at hN
  have ht : t.val < 288 := t.isLt
  have hc := coords_val t
  have h0 : ¬((grid0.coords t 0).val = 0) := fun h => hN ⟨Or.inl h, hV⟩
  have hw : (tbM0_0.view.readAt (Elt F) (Rect.unit (s := S288) (k0_off1 (grid0.coords t)) S1.size (k0_off1_inb (grid0.coords t))).toLoadRect (tbl m 0) (Shape.Idx.first (numel1_S1.symm ▸ Nat.one_pos))) = (tbM0_0.view.readAt (Elt F) (Rect.unit (s := S288) (k0_off2 (grid0.coords t)) S1.size (k0_off2_inb (grid0.coords t))).toLoadRect (tbl m 0) (Shape.Idx.first (numel1_S1.symm ▸ Nat.one_pos))) := by
    by_contra h
    exact hN ⟨Or.inr h, hV⟩
  have hp : t.val - 1 < (cfgM m hO).N := by show t.val - 1 < 288; omega
  have hcp := coords_val ⟨t.val - 1, hp⟩
  have e : te m (grid0.coords t 0) = te m (grid0.coords ⟨t.val - 1, hp⟩ 0) := by
    rw [cur_word, prev_word m (grid0.coords t) (grid0.coords ⟨t.val - 1, hp⟩ 0) (by rw [hcp, hc]; show t.val = t.val - 1 + 1; omega)] at hw
    exact hw
  have hVp : condV (grid0.coords ⟨t.val - 1, hp⟩) (nu m) := by
    rw [condV_iff] at hV ⊢
    rw [hc] at hV
    rw [hcp]
    rw [BitVec.slt_eq_decide, decide_eq_true_iff] at hV ⊢
    rw [BitVec.toInt_eq_toNat_cond (x := BitVec.ofNat 32 _), BitVec.toNat_ofNat] at hV ⊢
    refine lt_of_le_of_lt ?_ hV
    show (if 2 * ((t.val - 1) % 2 ^ 32) < 2 ^ 32 then (((t.val - 1) % 2 ^ 32 : ℕ) : ℤ) else _) ≤ _
    split <;> split <;> omega
  obtain ⟨ha, hb, hd⟩ := h ⟨t.val - 1, hp⟩ (by show t.val - 1 + 1 = t.val; omega) hVp
  exact ⟨ha.trans (congrArg k0_pay1 (iblk1_congr m hO c t ⟨t.val - 1, hp⟩ e).symm), hb.trans (congrArg k0_pay2 (iblk2_congr m hO c t ⟨t.val - 1, hp⟩ e).symm),
    hd.trans (congrArg k0_pay3 (iblk3_congr m hO c t ⟨t.val - 1, hp⟩ e).symm)⟩

/-! ## The body obligation -/

theorem pick {α : Type _} (b : Bool) (x y : α) : b = false → (match b with | true => x | false => y) = y := by
  rintro rfl; rfl

/-- What the output window is left at. -/
def left7 (hO : Ok m) (c : Dev nD) (t : Fin (cfgM m hO).N) : sProp 𝕄 :=
  match (cfgM m hO).idle 7 ((cfgM m hO).grid.coords t) with
  | true =>
    match ((cfgM m hO).win 7).flush t with
    | false => iprop(∃ d, owns (c : Thread nD τ) (ms0_7 m hO t) fullShare ((dats m hO 0 c).before 7 t d))
    | true => owns (c : Thread nD τ) (ms0_7 m hO t) fullShare ((dats m hO 0 c).after 7 t)
  | false => owns (c : Thread nD τ) (ms0_7 m hO t) fullShare ((dats m hO 0 c).after 7 t)

theorem left7_eq (hO : Ok m) (c : Dev nD) (t : Fin (cfgM m hO).N) : left7 m hO c t = owns (c : Thread nD τ) (ms0_7 m hO t) fullShare (outAt m hO c t) := by
  unfold left7
  rw [after0_7]
  exact pick _ _ _ (idle7 m t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ left7 m hO c t)

/-- The obligation's two sides, in the form of one point's statement. -/
theorem pre_around (hO : Ok m) (c : Dev nD) (t : Fin (cfgM m hO).N) (S : sProp 𝕄)
    (hS : iprop(∃ d0 d1 d2, ⌜Held m hO c t.val d0 d1 d2⌝ ∗ heldAt c d0 d1 d2) ⊢ S) :
    bodyPre m hO c t ⊢ around m hO c t (iprop(∃ r, prngReg c r)) ((dats m hO 0 c).owesAt () t.castSucc) S (iprop(∃ d, owns (c : Thread nD τ) (ms0_7 m hO t) fullShare d)) := by
  unfold bodyPre
  simp only [before0_0, before0_1, before0_2, before0_3, before0_4, before0_5, before0_6]
  rw [show (dats m hO 0 c).Φ t.castSucc = carried m hO c t.val from rfl]
  unfold carried
  iintro ⟨⟨HS, HS3, Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  isplitl [HS]; · iapply hS; iexact HS
  isplitl [HS3]; · iexact HS3
  isplitl [Hg]; · iexact Hg
  isplitl [HT0]; · iexact HT0
  isplitl [HT1]; · iexact HT1
  isplitl [HT2]; · iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

theorem around_post (hO : Ok m) (c : Dev nD) (t : Fin (cfgM m hO).N) (S : sProp 𝕄)
    (hS : S ⊢ iprop(∃ d0 d1 d2, ⌜Held m hO c (t.val + 1) d0 d1 d2⌝ ∗ heldAt c d0 d1 d2)) :
    around m hO c t (iprop(∃ r, prngReg c r)) ((dats m hO 0 c).owesAt () t.castSucc) S (owns (c : Thread nD τ) (ms0_7 m hO t) fullShare (outAt m hO c t)) ⊢ bodyPost m hO c t := by
  unfold bodyPost
  rw [after0_0, after0_1, after0_2, after0_3, after0_4, after0_5, after0_6, left7_eq,
    show (dats m hO 0 c).Φ t.succ = carried m hO c (t.val + 1) from rfl,
    show (dats m hO 0 c).owesAt () t.succ = (dats m hO 0 c).owesAt () t.castSucc from rfl]
  unfold carried
  iintro ⟨HS, HS3, Hg, HT0, HT1, HT2, Ho, H0, H1, H2, H3, H4, H5, H6, H7⟩
  isplitl [HS HS3 Hg HT0 HT1 HT2]
  · isplitl [HS]; · iapply hS; iexact HS
    isplitl [HS3]; · iexact HS3
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases hV : condV (grid0.coords t) (nu m)
  · have hcV : condV (grid0.coords t) (tbM0_2.view.readAt (Elt F) (Rect.unit (s := S1) ![0] S1.size inb_S1_S1_0).toLoadRect (tbl m 2) (Shape.Idx.first (numel1_S1.symm ▸ Nat.one_pos))) := (used_word m).symm ▸ hV
    have hcZ : ¬condZ (grid0.coords t) (tbM0_2.view.readAt (Elt F) (Rect.unit (s := S1) ![0] S1.size inb_S1_S1_0).toLoadRect (tbl m 2) (Shape.Idx.first (numel1_S1.symm ▸ Nat.one_pos))) := fun h => (condZ_iff _ _).mp h hcV
    by_cases hN : condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos)))
    · exact triple_restated (sound_A m hO c t _ _ hV hN hcV hcZ) rfl
        (pre_around m hO c t _ any_of_held) fun _ => around_post m hO c t _ (held_of_at (held_succ m hO c t))
    · exact triple_restated (sound_B m hO c t _ _ hV hN hcV hcZ) rfl
        (pre_around m hO c t _ (at_of_held (held_here m hO c t hV hN))) fun _ => around_post m hO c t _ (held_of_at (held_succ m hO c t))
  · have hcV : ¬condV (grid0.coords t) (tbM0_2.view.readAt (Elt F) (Rect.unit (s := S1) ![0] S1.size inb_S1_S1_0).toLoadRect (tbl m 2) (Shape.Idx.first (numel1_S1.symm ▸ Nat.one_pos))) := (used_word m).symm ▸ hV
    have hcZ : condZ (grid0.coords t) (tbM0_2.view.readAt (Elt F) (Rect.unit (s := S1) ![0] S1.size inb_S1_S1_0).toLoadRect (tbl m 2) (Shape.Idx.first (numel1_S1.symm ▸ Nat.one_pos))) := (condZ_iff _ _).mpr hcV
    have hN : ¬condN (grid0.coords t) (tbM0_0.view.readAt (Elt F) (Rect.unit (s := S288) (k0_off2 (grid0.coords t)) S1.size (k0_off2_inb (grid0.coords t))).toLoadRect (tbl m 0) (Shape.Idx.first (numel1_S1.symm ▸ Nat.one_pos))) (tbM0_0.view.readAt (Elt F) (Rect.unit (s := S288) (k0_off1 (grid0.coords t)) S1.size (k0_off1_inb (grid0.coords t))).toLoadRect (tbl m 0) (Shape.Idx.first (numel1_S1.symm ▸ Nat.one_pos))) (tbM0_2.view.readAt (Elt F) (Rect.unit (s := S1) ![0] S1.size inb_S1_S1_0).toLoadRect (tbl m 2) (Shape.Idx.first (numel1_S1.symm ▸ Nat.one_pos))) := fun h => hcV ((condN_iff _ _ _ _).mp h).2
    exact triple_restated (sound_Z m hO c t _ _ hV hN hcV hcZ) rfl
      (pre_around m hO c t _ any_of_held) fun _ => around_post m hO c t _ (held_of_any (held_none m hO c t hV))

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

theorem enter (hO : Ok m) (c : Dev nD) : iprop(Pipeline.ΦA spec0 c ∗ Pipeline.ΦT pre0 (tbl m) c) ⊢ carried m hO c 0 := by
  rw [PhiT0_eq, PhiA0_eq]
  unfold carried
  iintro ⟨⟨⟨HS0, HS1, HS2, HS3⟩, Hg⟩, HT0, HT1, HT2⟩
  isplitl [HS0 HS1 HS2]
  · iapply (held_of_any (H := Held m hO c 0) (fun _ _ _ p hp _ => absurd hp (Nat.succ_ne_zero _)))
    isplitl [HS0]; · iexact HS0
    isplitl [HS1]; · iexact HS1
    iexact HS2
  isplitl [HS3]; · iexact HS3
  isplitl [Hg]; · iexact Hg
  isplitl [HT0]; · iexact HT0
  isplitl [HT1]; · iexact HT1
  iexact HT2

theorem leave (hO : Ok m) (c : Dev nD) (n : ℕ) : carried m hO c n ⊢ Pipeline.ΦA spec0 c := by
  rw [PhiA0_eq]
  unfold carried
  iintro ⟨⟨%d0, %d1, %d2, -, HS0, HS1, HS2⟩, HS3, Hg, -, -, -⟩
  isplitl [HS0 HS1 HS2 HS3]
  · isplitl [HS0]; · iexists d0; iexact HS0
    isplitl [HS1]; · iexists d1; iexact HS1
    isplitl [HS2]; · iexists d2; iexact HS2
    iexact HS3
  iexact Hg

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => enter m hO c) (hout := fun c => leave m hO c _)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- The run ends, with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Experts

end
-- ==== Proof.Range.lean ====
/- The precondition of the experts call: every tile's expert and every tile's block are in range. -/
module

public import proofs.«01_k».proof.Defs
public import proofs.«01_k».proof.Proof.Gen.Pre_in_range
public import Idealize.ShloMosaic.Lib.ReduceAll

@[expose] public section

set_option maxRecDepth 16384

noncomputable section

namespace Cert.Experts

open Idealize.ShloMosaic Cert.Pre_in_range Cert.Pre_in_range.Facts

theorem both_one : ∀ c d : BitVec 1, IntOp.andi c d = 1#1 → c = 1#1 ∧ d = 1#1 := by decide

theorem of_bool_one : ∀ b : Bool, BitVec.ofBool b = 1#1 → b = true := by decide

/-- A word that is at least zero and below a positive bound, read signed, is below it as a natural number. -/
theorem word_lt (v : BitVec 32) (n : ℕ) (hn : n < 2 ^ 31) (h0 : IntOp.cmpi .sge v 0#32 = 1#1) (h1 : IntOp.cmpi .slt v (BitVec.ofNat 32 n) = 1#1) : v.toNat < n := by
  have a0 : (0#32).sle v = true := of_bool_one _ h0
  have a1 : v.slt (BitVec.ofNat 32 n) = true := of_bool_one _ h1
  rw [BitVec.sle_iff_toInt_le] at a0
  rw [BitVec.slt_iff_toInt_lt] at a1
  have hv := v.isLt
  rw [BitVec.toInt_eq_toNat_cond, BitVec.toInt_eq_toNat_cond] at a0 a1
  simp only [BitVec.toNat_ofNat] at a0 a1
  rw [Nat.mod_eq_of_lt (show n < 2 ^ 32 by omega)] at a1
  split at a0 <;> split at a0 <;> split at a1 <;> split at a1 <;> omega

/-- What the precondition says of the two tables. -/
theorem in_range_of {F : FTy → Type} [FloatOps F] [Facts] (x0 x1 : IVec S288 32) (x2 : IVec S1 32) (x3 : FVec F S1179648x128 .f32) (x4 : FVec F S4x32x1024x1024 .f32) (x5 : FVec F S4x32x1x1024 .f32)
    (x6 : FVec F S4x32x1024x1024 .f32) (x7 : FVec F S4x32x1x1024 .f32) (x8 : FVec F S4x32x1024x1024 .f32) (x9 : FVec F S4x32x1x1024 .f32)
    (h : Cert.Pre_in_range.fn (F := F) x0 x1 x2 x3 x4 x5 x6 x7 x8 x9 = fun _ => 1#1) :
    (∀ i, (x0 i).toNat < 32) ∧ (∀ i, (x1 i).toNat < 288) := by
  haveI : Subsingleton S_.Idx := ⟨fun a b => funext fun d => d.elim0⟩
  have h0 := congrFun h (Shape.Idx.first h_S_)
  obtain ⟨ha, hb⟩ := both_one _ _ h0
  refine ⟨fun i => ?_, fun i => ?_⟩
  · obtain ⟨l, r⟩ := both_one _ _ (Host.reduce_andi_all _ _ _ _ _ ha i)
    exact word_lt _ 32 (by decide) l r
  · obtain ⟨l, r⟩ := both_one _ _ (Host.reduce_andi_all _ _ _ _ _ hb i)
    exact word_lt _ 288 (by decide) l r

end Cert.Experts

end
-- ==== Proof.ExOk.lean ====
/- The tables in range put every window's block inside its array, so the experts call runs. -/
module

public import proofs.«01_k».proof.Proof.ExFrame
public import proofs.«01_k».proof.Proof.Range

@[expose] public section

set_option maxRecDepth 16384

noncomputable section

namespace Cert.Experts

open Idealize.ShloMosaic Idealize.ShloMosaic.TcCoe Idealize.SL.Sem
open Cert.Kernel2Ideal Cert.Kernel2Ideal.Gen

variable {F : FTy → Type} [FloatOps F]
variable (m : (ℓ : Loc nD τ sig) → Buf (Elt F) ℓ) (ρ : Dev nD → PrngReg)

/-- An expert's block of weights is inside the array of weights. -/
theorem weight_in (n : ℕ) (h : n < 32) : ∀ a : Fin 4, ((![0, n, 0, 0] : Fin 4 → ℕ) a + 1) * S1x1x1024x1024.size a ≤ S4x32x1024x1024.size a := fun a => by
  match a with
  | ⟨0, _⟩ => show (0 + 1) * 1 ≤ 4; omega
  | ⟨1, _⟩ => show (n + 1) * 1 ≤ 32; omega
  | ⟨2, _⟩ => show (0 + 1) * 1024 ≤ 1024; omega
  | ⟨3, _⟩ => show (0 + 1) * 1024 ≤ 1024; omega
theorem bias_in (n : ℕ) (h : n < 32) : ∀ a : Fin 4, ((![0, n, 0, 0] : Fin 4 → ℕ) a + 1) * S1x1x1x1024.size a ≤ S4x32x1x1024.size a := fun a => by
  match a with
  | ⟨0, _⟩ => show (0 + 1) * 1 ≤ 4; omega
  | ⟨1, _⟩ => show (n + 1) * 1 ≤ 32; omega
  | ⟨2, _⟩ => show (0 + 1) * 1 ≤ 1; omega
  | ⟨3, _⟩ => show (0 + 1) * 1024 ≤ 1024; omega
theorem rows_in (n : ℕ) (h : n < 288) : ∀ a : Fin 2, ((![n, 0] : Fin 2 → ℕ) a + 1) * S4096x128.size a ≤ S1179648x128.size a := fun a => by
  match a with
  | ⟨0, _⟩ => show (n + 1) * 4096 ≤ 1179648; omega
  | ⟨1, _⟩ => show (0 + 1) * 128 ≤ 128; omega

theorem ok_of (he : ∀ n, (te m n).toNat < 32) (hb : ∀ n, (tb m n).toNat < 288) : Ok m :=
  ⟨fun i => ⟨by rw [map0]; exact rows_in _ (hb _), Or.inl rfl⟩, fun i => ⟨by rw [map1]; exact weight_in _ (he _), Or.inl rfl⟩,
    fun i => ⟨by rw [map2]; exact weight_in _ (he _), Or.inl rfl⟩, fun i => ⟨by rw [map3]; exact weight_in _ (he _), Or.inl rfl⟩,
    fun i => ⟨by rw [map4]; exact bias_in _ (he _), Or.inl rfl⟩, fun i => ⟨by rw [map5]; exact bias_in _ (he _), Or.inl rfl⟩,
    fun i => ⟨by rw [map6]; exact bias_in _ (he _), Or.inl rfl⟩⟩

variable [Cert.Pre_in_range.Facts]

/-- The tables' words in range, from the precondition on the arguments. -/
theorem words_of (h : Cert.Pre_in_range.fn (F := F) (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6))
      (m (((0 : Dev nD).tc : Thread nD τ).loc main_arg7)) (m (((0 : Dev nD).tc : Thread nD τ).loc main_arg8)) (m (((0 : Dev nD).tc : Thread nD τ).loc main_arg9)) = fun _ => 1#1) :
    (∀ n, (te m n).toNat < 32) ∧ (∀ n, (tb m n).toNat < 288) := by
  obtain ⟨h0, h1⟩ := Cert.Experts.in_range_of _ _ _ _ _ _ _ _ _ _ h
  exact ⟨fun n => h0 (ix n), fun n => h1 (ix n)⟩

end Cert.Experts

end
-- ==== Proof.ExSame.lean ====
/- The experts call over words and its idealisation are one program text: the run of the one is the run of the other. -/
module

public import proofs.«01_k».proof.Defs
public import proofs.«01_k».proof.Proof.Gen.Pre_in_range
public import proofs.«01_k».proof.Proof.Gen.Kernel2
public import proofs.«01_k».proof.Proof.ExOk

@[expose] public section

set_option maxRecDepth 16384
set_option maxHeartbeats 1000000

noncomputable section

namespace Cert.Experts

open Idealize.ShloMosaic Idealize.ShloMosaic.TcCoe Idealize.SL.Sem

/-- The two bodies are one. -/
theorem body_same : @Cert.Kernel2.cc0_moe_experts Bits _ _ = @Cert.Kernel2Ideal.cc0_moe_experts Bits _ _ := by
  unfold Cert.Kernel2.cc0_moe_experts Cert.Kernel2Ideal.cc0_moe_experts
  rfl

/-- So are the tables of bodies. -/
theorem table_same : @Cert.Kernel2.defs₀ Bits _ _ = @Cert.Kernel2Ideal.defs₀ Bits _ _ := by
  unfold Cert.Kernel2.defs₀ Cert.Kernel2Ideal.defs₀
  rw [body_same]
  refine congrArg Defs.onTc ?_
  funext l x
  match l, x with
  | ⟨0, _⟩, (t, s) => rfl
  | ⟨_ + 1, h⟩, _ => exact absurd h (Nat.not_lt.2 (Nat.le_add_left _ _))

/-- And with the pipeline's labels beside them. -/
theorem defs_same : @Cert.Kernel2.defs Bits _ _ = @Cert.Kernel2Ideal.defs Bits _ _ := by
  unfold Cert.Kernel2.defs Cert.Kernel2Ideal.defs
  rw [table_same]
  rfl

/-- With the tables in range the experts call as compiled runs, leaves its arguments, and ends with every counter at zero. -/
theorem frame_p2 : Cert.quiescent_Kernel2 := by
  intro m ρ h
  have hw := words_of (F := Bits) m (h 0)
  have key := frame (F := Bits) m ρ (ok_of (F := Bits) m hw.1 hw.2)
  refine (congrArg (fun d => θ_run d (onTc (τ := Cert.Kernel2.τ) (Cert.Kernel2.main (F := Bits))) ⟨m, fun _ => 0, ρ⟩ _) defs_same).mpr ?_
  exact key

end Cert.Experts

end
-- ==== Proof.ExOut.lean ====
/- The experts call's result array, read at an index, and the run that leaves it. -/
module

public import proofs.«01_k».proof.Proof.ExOk
public import Idealize.ShloMosaic.Lib.Pipeline.ValueKit
public import Idealize.ShloMosaic.Lib.Pointwise

@[expose] public section

set_option maxRecDepth 16384

noncomputable section

namespace Cert.Experts

open Idealize.ShloMosaic Idealize.ShloMosaic.TcCoe Idealize.SL.Sem
open Cert.Kernel2Ideal Cert.Kernel2Ideal.Gen

variable {F : FTy → Type} [FloatOps F]
variable (m : (ℓ : Loc nD τ sig) → Buf (Elt F) ℓ) (ρ : Dev nD → PrngReg)

theorem map7 (t : Fin grid0.N) : cc0_transform_7 (grid0.coords t) = ![t.val, 0] := by
  have h : t.val < 288 := t.isLt
  have e : (BitVec.ofNat 32 (grid0.coords t 0).val).toNat = t.val := by
    rw [BitVec.toNat_ofNat]
    exact (congrArg (· % 2 ^ 32) (coords_val t)).trans (Nat.mod_eq_of_lt (by omega))
  show ![(BitVec.ofNat 32 (grid0.coords t 0).val).toNat, (0#32).toNat] = ![t.val, 0]
  rw [e]; rfl

/-- The tile of a row of the result. -/
abbrev tileOf (i : S1179648x128.Idx) : Fin 288 := ⟨(i 0).val / 4096, by have h : (i 0).val < 1179648 := (i 0).isLt; omega⟩
/-- The row's place in its tile. -/
abbrev inTile (i : S1179648x128.Idx) : S4096x128.Idx := ix2 ⟨(i 0).val % 4096, by omega⟩ ⟨(i 1).val, (i 1).isLt⟩

/-- A tile's grid point. -/
abbrev pt (hO : Ok m) (t : Fin 288) : Fin (cfgM m hO).N := ⟨t.val, by show t.val < 288; exact t.isLt⟩

/-- The result: every tile's rows. -/
def outArr (hO : Ok m) (c : Dev nD) : Vec F S1179648x128 .f32 := fun i => outAt m hO c (pt m hO (tileOf i)) (inTile i)

theorem covers7 (hO : Ok m) : ((cfgM m hO).win 7).Covers := by
  refine ⟨fun a => ?_, fun β => ?_⟩
  · match a with
    | ⟨0, _⟩ => show 0 < 4096; omega
    | ⟨1, _⟩ => show 0 < 128; omega
  · have h0 : (β (0 : Fin 2)).val < 288 := Nat.lt_of_lt_of_eq (β (0 : Fin 2)).isLt (by show (1179648 + 4096 - 1) / 4096 = 288; norm_num)
    have h1 : (β (1 : Fin 2)).val < 1 := Nat.lt_of_lt_of_eq (β (1 : Fin 2)).isLt (by show (128 + 128 - 1) / 128 = 1; norm_num)
    refine ⟨⟨(β (0 : Fin 2)).val, h0⟩, flush0_7 (adm m hO) _, fun a => ⟨?_, Or.inl rfl⟩⟩
    show cc0_transform_7 (grid0.coords ⟨(β (0 : Fin 2)).val, h0⟩) a = (β a).val
    rw [map7]
    match a with
    | ⟨0, _⟩ => rfl
    | ⟨1, _⟩ => show 0 = (β (1 : Fin 2)).val; omega

theorem outArr_at (hO : Ok m) (c : Dev nD) (t : Fin (cfgM m hO).N) (j : S1179648x128.Idx) (y : S4096x128.Idx)
    (h0 : (j 0).val = t.val * 4096 + (y 0).val) (h1 : (j 1).val = (y 1).val) : outAt m hO c t y = outArr m hO c j := by
  have y0 : (y 0).val < 4096 := (y 0).isLt
  have et : pt m hO (tileOf j) = t := Fin.ext (by show (j 0).val / 4096 = t.val; omega)
  have ey : inTile j = y := by
    funext a
    match a with
    | ⟨0, _⟩ => exact Fin.ext (by show (j 0).val % 4096 = (y 0).val; omega)
    | ⟨1, _⟩ => exact Fin.ext h1
  show _ = outAt m hO c (pt m hO (tileOf j)) (inTile j)
  rw [et, ey]

theorem arr7 (hO : Ok m) (c : Dev nD) : (dats m hO 0 c).arrAt 7 (cfgM m hO).N = outArr m hO c := by
  refine (dats m hO 0 c).arrAt_eq_of_covers 7 _ (covers7 m hO) fun t hf y => ?_
  refine (cast_eq _ _).trans ((congrFun (after0_7 m hO c t) _).trans (outArr_at m hO c t _ _ ?_ ?_))
  · show cc0_transform_7 (grid0.coords t) (0 : Fin 2) * 4096 + 1 * ((show S4096x128.Idx from y) 0).val = t.val * 4096 + ((show S4096x128.Idx from y) 0).val
    rw [map7]; show t.val * 4096 + 1 * _ = _; rw [Nat.one_mul]
  · show cc0_transform_7 (grid0.coords t) (1 : Fin 2) * 128 + 1 * ((show S4096x128.Idx from y) 1).val = ((show S4096x128.Idx from y) 1).val
    rw [map7]; show 0 * 128 + 1 * _ = _; rw [Nat.one_mul, Nat.zero_mul, Nat.zero_add]

/-- The run ends with the result array at `outArr` and the arguments unchanged. -/
theorem value_run (hO : Ok m) : θ_run defs (onTc (τ := τ) (main (F := F))) ⟨m, fun _ => 0, ρ⟩ (fun r => ∀ c : Dev nD,
      r.2.mem ((c.tc : Thread nD τ).loc main_v0) = outArr m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hv : θ_run defs (onTc (τ := τ) (main (F := F))) ⟨m, fun _ => 0, ρ⟩ (fun r => ∀ c : Dev nD, r.2.mem ((c.tc : Thread nD τ).loc main_v0) = outArr m hO c) :=
    (θ_run defs _ _).mono (fun _ h c => ((h c).1 7).trans (arr7 m hO c)) (run_main m ρ hO)
  exact (θ_run defs _ _).mono (fun _ h c => ⟨h.1 c, h.2 c⟩) (θ_run_and hv (unchanged m ρ hO))

/-! ## The windows' blocks read at an index -/

variable (he : ∀ n, (te m n).toNat < 32) (hb : ∀ n, (tb m n).toNat < 288)

theorem coord_eq (hO : Ok m) (t : Fin 288) : grid0.coords (pt m hO t) 0 = t := Fin.ext (coords_val (pt m hO t))

theorem rows_read (hO : Ok m) (c : Dev nD) (t : Fin 288) (y : S4096x128.Idx) :
    iblk m hO c 0 (pt m hO t) y = m ((c.tc : Thread nD τ).loc main_arg3)
      (ix2 ⟨(tb m t).toNat * 4096 + (y 0).val, by have := hb t; have h0 : (y 0).val < 4096 := (y 0).isLt; omega⟩ ⟨(y 1).val, (y 1).isLt⟩) := by
  unfold iblk
  refine (View.read_apply ..).trans ((cast_eq _ _).trans (congrArg (V m c (Pipeline.arrRef spec0 0)) (funext fun a => Fin.ext ?_)))
  show cc0_transform_0 k0_off1_inb numel1_S1 (tbl m) (grid0.coords (pt m hO t)) a * S4096x128.size a + 1 * (y a).val = _
  rw [map0, coord_eq m hO]
  match a with
  | ⟨0, _⟩ => show (tb m t).toNat * 4096 + 1 * (y 0).val = (tb m t).toNat * 4096 + (y 0).val; omega
  | ⟨1, _⟩ => show 0 * 128 + 1 * (y 1).val = (y 1).val; omega

theorem weight1_read (hO : Ok m) (c : Dev nD) (t : Fin 288) (k f : Fin 1024) :
    iblk m hO c 1 (pt m hO t) (ix4 (0 : Fin 1) (0 : Fin 1) k f) = m ((c.tc : Thread nD τ).loc main_arg4) (ix4 (0 : Fin 4) ⟨(te m t).toNat, he t⟩ k f) := by
  unfold iblk
  refine (View.read_apply ..).trans ((cast_eq _ _).trans (congrArg (V m c (Pipeline.arrRef spec0 1)) (funext fun a => Fin.ext ?_)))
  show cc0_transform_1 k0_off1_inb numel1_S1 (tbl m) (grid0.coords (pt m hO t)) a * S1x1x1024x1024.size a + 1 * ((ix4 (0 : Fin 1) (0 : Fin 1) k f : S1x1x1024x1024.Idx) a).val = _
  rw [map1, coord_eq m hO]
  match a with
  | ⟨0, _⟩ => rfl
  | ⟨1, _⟩ => show (te m t).toNat * 1 + 1 * 0 = (te m t).toNat; omega
  | ⟨2, _⟩ => show 0 * 1024 + 1 * k.val = k.val; omega
  | ⟨3, _⟩ => show 0 * 1024 + 1 * f.val = f.val; omega

theorem weight2_read (hO : Ok m) (c : Dev nD) (t : Fin 288) (k f : Fin 1024) :
    iblk m hO c 2 (pt m hO t) (ix4 (0 : Fin 1) (0 : Fin 1) k f) = m ((c.tc : Thread nD τ).loc main_arg6) (ix4 (0 : Fin 4) ⟨(te m t).toNat, he t⟩ k f) := by
  unfold iblk
  refine (View.read_apply ..).trans ((cast_eq _ _).trans (congrArg (V m c (Pipeline.arrRef spec0 2)) (funext fun a => Fin.ext ?_)))
  show cc0_transform_2 k0_off1_inb numel1_S1 (tbl m) (grid0.coords (pt m hO t)) a * S1x1x1024x1024.size a + 1 * ((ix4 (0 : Fin 1) (0 : Fin 1) k f : S1x1x1024x1024.Idx) a).val = _
  rw [map2, coord_eq m hO]
  match a with
  | ⟨0, _⟩ => rfl
  | ⟨1, _⟩ => show (te m t).toNat * 1 + 1 * 0 = (te m t).toNat; omega
  | ⟨2, _⟩ => show 0 * 1024 + 1 * k.val = k.val; omega
  | ⟨3, _⟩ => show 0 * 1024 + 1 * f.val = f.val; omega

theorem weight3_read (hO : Ok m) (c : Dev nD) (t : Fin 288) (k f : Fin 1024) :
    iblk m hO c 3 (pt m hO t) (ix4 (0 : Fin 1) (0 : Fin 1) k f) = m ((c.tc : Thread nD τ).loc main_arg8) (ix4 (0 : Fin 4) ⟨(te m t).toNat, he t⟩ k f) := by
  unfold iblk
  refine (View.read_apply ..).trans ((cast_eq _ _).trans (congrArg (V m c (Pipeline.arrRef spec0 3)) (funext fun a => Fin.ext ?_)))
  show cc0_transform_3 k0_off1_inb numel1_S1 (tbl m) (grid0.coords (pt m hO t)) a * S1x1x1024x1024.size a + 1 * ((ix4 (0 : Fin 1) (0 : Fin 1) k f : S1x1x1024x1024.Idx) a).val = _
  rw [map3, coord_eq m hO]
  match a with
  | ⟨0, _⟩ => rfl
  | ⟨1, _⟩ => show (te m t).toNat * 1 + 1 * 0 = (te m t).toNat; omega
  | ⟨2, _⟩ => show 0 * 1024 + 1 * k.val = k.val; omega
  | ⟨3, _⟩ => show 0 * 1024 + 1 * f.val = f.val; omega

theorem bias4_read (hO : Ok m) (c : Dev nD) (t : Fin 288) (f : Fin 1024) :
    iblk m hO c 4 (pt m hO t) (ix4 (0 : Fin 1) (0 : Fin 1) (0 : Fin 1) f) = m ((c.tc : Thread nD τ).loc main_arg5) (ix4 (0 : Fin 4) ⟨(te m t).toNat, he t⟩ (0 : Fin 1) f) := by
  unfold iblk
  refine (View.read_apply ..).trans ((cast_eq _ _).trans (congrArg (V m c (Pipeline.arrRef spec0 4)) (funext fun a => Fin.ext ?_)))
  show cc0_transform_4 k0_off1_inb numel1_S1 (tbl m) (grid0.coords (pt m hO t)) a * S1x1x1x1024.size a + 1 * ((ix4 (0 : Fin 1) (0 : Fin 1) (0 : Fin 1) f : S1x1x1x1024.Idx) a).val = _
  rw [map4, coord_eq m hO]
  match a with
  | ⟨0, _⟩ => rfl
  | ⟨1, _⟩ => show (te m t).toNat * 1 + 1 * 0 = (te m t).toNat; omega
  | ⟨2, _⟩ => rfl
  | ⟨3, _⟩ => show 0 * 1024 + 1 * f.val = f.val; omega

theorem bias5_read (hO : Ok m) (c : Dev nD) (t : Fin 288) (f : Fin 1024) :
    iblk m hO c 5 (pt m hO t) (ix4 (0 : Fin 1) (0 : Fin 1) (0 : Fin 1) f) = m ((c.tc : Thread nD τ).loc main_arg7) (ix4 (0 : Fin 4) ⟨(te m t).toNat, he t⟩ (0 : Fin 1) f) := by
  unfold iblk
  refine (View.read_apply ..).trans ((cast_eq _ _).trans (congrArg (V m c (Pipeline.arrRef spec0 5)) (funext fun a => Fin.ext ?_)))
  show cc0_transform_5 k0_off1_inb numel1_S1 (tbl m) (grid0.coords (pt m hO t)) a * S1x1x1x1024.size a + 1 * ((ix4 (0 : Fin 1) (0 : Fin 1) (0 : Fin 1) f : S1x1x1x1024.Idx) a).val = _
  rw [map5, coord_eq m hO]
  match a with
  | ⟨0, _⟩ => rfl
  | ⟨1, _⟩ => show (te m t).toNat * 1 + 1 * 0 = (te m t).toNat; omega
  | ⟨2, _⟩ => rfl
  | ⟨3, _⟩ => show 0 * 1024 + 1 * f.val = f.val; omega

theorem bias6_read (hO : Ok m) (c : Dev nD) (t : Fin 288) (f : Fin 1024) :
    iblk m hO c 6 (pt m hO t) (ix4 (0 : Fin 1) (0 : Fin 1) (0 : Fin 1) f) = m ((c.tc : Thread nD τ).loc main_arg9) (ix4 (0 : Fin 4) ⟨(te m t).toNat, he t⟩ (0 : Fin 1) f) := by
  unfold iblk
  refine (View.read_apply ..).trans ((cast_eq _ _).trans (congrArg (V m c (Pipeline.arrRef spec0 6)) (funext fun a => Fin.ext ?_)))
  show cc0_transform_6 k0_off1_inb numel1_S1 (tbl m) (grid0.coords (pt m hO t)) a * S1x1x1x1024.size a + 1 * ((ix4 (0 : Fin 1) (0 : Fin 1) (0 : Fin 1) f : S1x1x1x1024.Idx) a).val = _
  rw [map6, coord_eq m hO]
  match a with
  | ⟨0, _⟩ => rfl
  | ⟨1, _⟩ => show (te m t).toNat * 1 + 1 * 0 = (te m t).toNat; omega
  | ⟨2, _⟩ => rfl
  | ⟨3, _⟩ => show 0 * 1024 + 1 * f.val = f.val; omega

end Cert.Experts

end
-- ==== Proof.ExSlices.lean ====
/- The experts reference's reads at an expert's or a block's number, at an index. -/
module

public import proofs.«01_k».proof.Proof.Gen.Reference2Ideal.Read
public import Idealize.ShloMosaic.Lib.Pointwise
public import Idealize.ShloMosaic.Lib.ValueIdxCore

@[expose] public section

set_option maxRecDepth 16384

noncomputable section

namespace Cert.Experts.Ref

open Idealize.ShloMosaic Cert.Reference2Ideal Cert.Reference2Ideal.Gen Cert.Reference2Ideal.Read

/-! ## Reading whole slices of a three-axis array at a list of numbers -/

section Slices
variable {α : Type} {N a b n : ℕ}

/-- The reading's dimension numbers. -/
abbrev dims3 (N a b n : ℕ) (wf : GatherDims.WF ⟨3, ![N, a, b]⟩ ⟨2, ![n, 1]⟩ ⟨3, ![n, a, b]⟩ [1, 2] [0] [] [0] [] 1 ![1, a, b]) :
    GatherDims ⟨3, ![N, a, b]⟩ ⟨2, ![n, 1]⟩ ⟨3, ![n, a, b]⟩ where
  offsetDims := [1, 2]
  collapsedSliceDims := [0]
  operandBatchingDims := []
  startIndicesBatchingDims := []
  startIndexMap := [0]
  indexVectorDim := 1
  sliceSizes := ![1, a, b]
  wf := wf

theorem ne1 : ¬(1 : Fin 3) = 0 := by decide
theorem ne2 : ¬(2 : Fin 3) = 0 := by decide

theorem slices_apply (wf : GatherDims.WF ⟨3, ![N, a, b]⟩ ⟨2, ![n, 1]⟩ ⟨3, ![n, a, b]⟩ [1, 2] [0] [] [0] [] 1 ![1, a, b])
    (x : (⟨3, ![N, a, b]⟩ : Shape).Idx → α) (idx : IVec ⟨2, ![n, 1]⟩ 32) (t : Fin n) (r : Fin a) (l : Fin b) (e : Fin N)
    (he : (idx (ix2 t (0 : Fin 1))).toInt = e.val) : Host.gather (dims3 N a b n wf) x idx (ix3 t r l) = x (ix3 e r l) := by
  unfold Host.gather
  refine congrArg x (funext fun k => Fin.ext ?_)
  match k with
  | ⟨0, _⟩ =>
    show (dims3 N a b n wf).start (ix3 t r l) idx 0 + (dims3 N a b n wf).batchCoord (ix3 t r l) 0 + (dims3 N a b n wf).offCoord (ix3 t r l) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N a b n wf).startIndexMap from List.mem_singleton.mpr rfl)]
    have hsi : (dims3 N a b n wf).siIdx (ix3 t r l) ⟨List.idxOf (0 : Fin 3) (dims3 N a b n wf).startIndexMap,
        List.idxOf_lt_length_iff.2 (List.mem_singleton.mpr rfl)⟩ = ix2 t (0 : Fin 1) := by
      funext b'; refine Fin.ext ?_
      match b' with
      | ⟨0, _⟩ => rfl
      | ⟨1, _⟩ => rfl
    rw [hsi, he]
    have := e.isLt
    show min ((e.val : ℤ)).toNat (N - 1) = e.val
    omega
  | ⟨1, _⟩ =>
    show (dims3 N a b n wf).start (ix3 t r l) idx 1 + (dims3 N a b n wf).batchCoord (ix3 t r l) 1 + (dims3 N a b n wf).offCoord (ix3 t r l) 1 = r.val
    rw [GatherDims.batchCoord_eq_zero _ _ _ List.not_mem_nil]
    have hm : (1 : Fin 3) ∉ (dims3 N a b n wf).startIndexMap := fun h => absurd (List.mem_singleton.1 h : (1 : Fin 3) = 0) ne1
    have hk : (1 : Fin 3) ∈ (dims3 N a b n wf).sKept := (GatherDims.mem_sKept _ _).2 ⟨fun h => absurd (List.mem_singleton.1 h : (1 : Fin 3) = 0) ne1, List.not_mem_nil⟩
    unfold GatherDims.start GatherDims.offCoord
    rw [dif_neg hm, dif_pos hk, Nat.zero_add]
    rfl
  | ⟨2, _⟩ =>
    show (dims3 N a b n wf).start (ix3 t r l) idx 2 + (dims3 N a b n wf).batchCoord (ix3 t r l) 2 + (dims3 N a b n wf).offCoord (ix3 t r l) 2 = l.val
    rw [GatherDims.batchCoord_eq_zero _ _ _ List.not_mem_nil]
    have hm : (2 : Fin 3) ∉ (dims3 N a b n wf).startIndexMap := fun h => absurd (List.mem_singleton.1 h : (2 : Fin 3) = 0) ne2
    have hk : (2 : Fin 3) ∈ (dims3 N a b n wf).sKept := (GatherDims.mem_sKept _ _).2 ⟨fun h => absurd (List.mem_singleton.1 h : (2 : Fin 3) = 0) ne2, List.not_mem_nil⟩
    unfold GatherDims.start GatherDims.offCoord
    rw [dif_neg hm, dif_pos hk, Nat.zero_add]
    rfl

end Slices

/-! ## A number that is not negative is read as it is -/

theorem toInt_small (v : BitVec 32) (h : v.toNat < 2 ^ 31) : v.toInt = v.toNat := by
  rw [BitVec.toInt_eq_toNat_cond, if_pos (by omega)]

theorem wrap (v w z : BitVec 32) (hz : z = 0#32) (h : v.toNat < 2 ^ 31) : Scalar.select (IntOp.cmpi .slt v z) w v = v := by
  have e : v.slt 0#32 = false := by
    rw [BitVec.slt_eq_decide, toInt_small v h, decide_eq_false_iff_not]
    show ¬((v.toNat : ℤ) < 0)
    omega
  rw [hz]
  show (if BitVec.ofBool (v.slt 0#32) = 1#1 then w else v) = v
  rw [e]
  rfl

variable (x0 x1 : (⟨S288, .i32⟩ : BufTy).Contents (Elt Ideal)) (x3 : (⟨S1179648x128, .f32⟩ : BufTy).Contents (Elt Ideal))

theorem word6 (h : ∀ i, (x1 i).toNat < 288) (t : Fin 288) : (val_main_v6 (F := Ideal) x1 (ix2 t (0 : Fin 1))).toInt = (x1 (ix1 t)).toNat := by
  have e : val_main_v6 (F := Ideal) x1 (ix2 t (0 : Fin 1)) = x1 (ix1 t) := by
    refine (val_main_v6_apply x1 _).trans ?_
    have ei : idx_main_v6 (ix2 t (0 : Fin 1)) = ix1 t := by funext a; fin_cases a; rfl
    refine (congrArg _ ei).trans ((val_main_v5_apply x1 _).trans (wrap _ _ _ ?_ (by have := h (ix1 t); omega)))
    exact (val_main_v1_apply (F := Ideal) _).trans (val_main_c_apply (F := Ideal) _)
  rw [e]
  exact toInt_small _ (by have := h (ix1 t); omega)

/-- The tokens of a tile. -/
theorem tok_apply (hb : ∀ i, (x1 i).toNat < 288) (t : Fin 288) (n : Fin 512) (k : Fin 1024) :
    @Eq EReal (val_main_v7 (F := Ideal) x1 x3 (ix3 t n k))
      (x3 (ix2 ⟨(x1 (ix1 t)).toNat * 4096 + (8 * n.val + k.val / 128), by have := hb (ix1 t); omega⟩ ⟨k.val % 128, by omega⟩)) := by
  unfold val_main_v7
  refine (slices_apply _ (val_main_v0 (F := Ideal) x3) (val_main_v6 (F := Ideal) x1) t n k ⟨(x1 (ix1 t)).toNat, hb _⟩ (word6 x1 hb t)).trans ?_
  refine (val_main_v0_apply x3 _).trans (congrArg x3 (funext fun a => Fin.ext ?_))
  match a with
  | ⟨0, _⟩ => show (((x1 (ix1 t)).toNat * 512 + n.val) * 1024 + k.val) / 128 = (x1 (ix1 t)).toNat * 4096 + (8 * n.val + k.val / 128); omega
  | ⟨1, _⟩ => show (((x1 (ix1 t)).toNat * 512 + n.val) * 1024 + k.val) % 128 = k.val % 128; omega

theorem flat1 (e k f : ℕ) (he : e < 32) (hk : k < 1024) (hf : f < 1024) : ((e * 1024 + k) * 1024 + f) / 1048576 % 32 = e := by omega
theorem flat2 (e k f : ℕ) (hk : k < 1024) (hf : f < 1024) : ((e * 1024 + k) * 1024 + f) / 1024 % 1024 = k := by omega
theorem flat3 (e k f : ℕ) (hf : f < 1024) : ((e * 1024 + k) * 1024 + f) % 1024 = f := by omega
theorem bflat1 (e f : ℕ) (he : e < 32) (hf : f < 1024) : ((e * 1 + 0) * 1024 + f) / 1024 % 32 = e := by omega
theorem bflat3 (e f : ℕ) (hf : f < 1024) : ((e * 1 + 0) * 1024 + f) % 1024 = f := by omega

theorem word15 (h : ∀ i, (x0 i).toNat < 32) (t : Fin 288) : (val_main_v15 (F := Ideal) x0 (ix2 t (0 : Fin 1))).toInt = (x0 (ix1 t)).toNat := by
  have e : val_main_v15 (F := Ideal) x0 (ix2 t (0 : Fin 1)) = x0 (ix1 t) := by
    refine (val_main_v15_apply x0 _).trans ?_
    have ei : idx_main_v15 (ix2 t (0 : Fin 1)) = ix1 t := by funext a; fin_cases a; rfl
    refine (congrArg _ ei).trans ((val_main_v14_apply x0 _).trans (wrap _ _ _ ?_ (by have := h (ix1 t); omega)))
    exact (val_main_v10_apply (F := Ideal) _).trans (val_main_c_1_apply (F := Ideal) _)
  rw [e]
  exact toInt_small _ (by have := h (ix1 t); omega)

theorem w16_apply (he : ∀ i, (x0 i).toNat < 32) (x4 : (⟨S4x32x1024x1024, .f32⟩ : BufTy).Contents (Elt Ideal)) (t : Fin 288) (k f : Fin 1024) :
    @Eq EReal (val_main_v16 (F := Ideal) x0 x4 (ix3 t k f)) (x4 (ix4 0 ⟨(x0 (ix1 t)).toNat, he _⟩ k f)) := by
  unfold val_main_v16
  refine (slices_apply _ (val_main_v9 (F := Ideal) x4) (val_main_v15 (F := Ideal) x0) t k f ⟨(x0 (ix1 t)).toNat, he _⟩ (word15 x0 he t)).trans ?_
  refine (val_main_v9_apply x4 _).trans ((val_main_v8_apply x4 _).trans (congrArg x4 (funext fun a => Fin.ext ?_)))
  match a with
  | ⟨0, _⟩ => rfl
  | ⟨1, _⟩ => exact flat1 _ _ _ (he _) k.isLt f.isLt
  | ⟨2, _⟩ => exact flat2 _ _ _ k.isLt f.isLt
  | ⟨3, _⟩ => exact flat3 _ _ _ f.isLt

theorem word24 (h : ∀ i, (x0 i).toNat < 32) (t : Fin 288) : (val_main_v24 (F := Ideal) x0 (ix2 t (0 : Fin 1))).toInt = (x0 (ix1 t)).toNat := by
  have e : val_main_v24 (F := Ideal) x0 (ix2 t (0 : Fin 1)) = x0 (ix1 t) := by
    refine (val_main_v24_apply x0 _).trans ?_
    have ei : idx_main_v24 (ix2 t (0 : Fin 1)) = ix1 t := by funext a; fin_cases a; rfl
    refine (congrArg _ ei).trans ((val_main_v23_apply x0 _).trans (wrap _ _ _ ?_ (by have := h (ix1 t); omega)))
    exact (val_main_v19_apply (F := Ideal) _).trans (val_main_c_3_apply (F := Ideal) _)
  rw [e]
  exact toInt_small _ (by have := h (ix1 t); omega)

theorem w25_apply (he : ∀ i, (x0 i).toNat < 32) (x5 : (⟨S4x32x1x1024, .f32⟩ : BufTy).Contents (Elt Ideal)) (t : Fin 288) (f : Fin 1024) :
    @Eq EReal (val_main_v25 (F := Ideal) x0 x5 (ix3 t (0 : Fin 1) f)) (x5 (ix4 0 ⟨(x0 (ix1 t)).toNat, he _⟩ 0 f)) := by
  unfold val_main_v25
  refine (slices_apply _ (val_main_v18 (F := Ideal) x5) (val_main_v24 (F := Ideal) x0) t (0 : Fin 1) f ⟨(x0 (ix1 t)).toNat, he _⟩ (word24 x0 he t)).trans ?_
  refine (val_main_v18_apply x5 _).trans ((val_main_v17_apply x5 _).trans (congrArg x5 (funext fun a => Fin.ext ?_)))
  match a with
  | ⟨0, _⟩ => rfl
  | ⟨1, _⟩ => exact bflat1 _ _ (he _) f.isLt
  | ⟨2, _⟩ => rfl
  | ⟨3, _⟩ => exact bflat3 _ _ f.isLt

theorem word33 (h : ∀ i, (x0 i).toNat < 32) (t : Fin 288) : (val_main_v33 (F := Ideal) x0 (ix2 t (0 : Fin 1))).toInt = (x0 (ix1 t)).toNat := by
  have e : val_main_v33 (F := Ideal) x0 (ix2 t (0 : Fin 1)) = x0 (ix1 t) := by
    refine (val_main_v33_apply x0 _).trans ?_
    have ei : idx_main_v33 (ix2 t (0 : Fin 1)) = ix1 t := by funext a; fin_cases a; rfl
    refine (congrArg _ ei).trans ((val_main_v32_apply x0 _).trans (wrap _ _ _ ?_ (by have := h (ix1 t); omega)))
    exact (val_main_v28_apply (F := Ideal) _).trans (val_main_c_5_apply (F := Ideal) _)
  rw [e]
  exact toInt_small _ (by have := h (ix1 t); omega)

theorem w34_apply (he : ∀ i, (x0 i).toNat < 32) (x6 : (⟨S4x32x1024x1024, .f32⟩ : BufTy).Contents (Elt Ideal)) (t : Fin 288) (k f : Fin 1024) :
    @Eq EReal (val_main_v34 (F := Ideal) x0 x6 (ix3 t k f)) (x6 (ix4 0 ⟨(x0 (ix1 t)).toNat, he _⟩ k f)) := by
  unfold val_main_v34
  refine (slices_apply _ (val_main_v27 (F := Ideal) x6) (val_main_v33 (F := Ideal) x0) t k f ⟨(x0 (ix1 t)).toNat, he _⟩ (word33 x0 he t)).trans ?_
  refine (val_main_v27_apply x6 _).trans ((val_main_v26_apply x6 _).trans (congrArg x6 (funext fun a => Fin.ext ?_)))
  match a with
  | ⟨0, _⟩ => rfl
  | ⟨1, _⟩ => exact flat1 _ _ _ (he _) k.isLt f.isLt
  | ⟨2, _⟩ => exact flat2 _ _ _ k.isLt f.isLt
  | ⟨3, _⟩ => exact flat3 _ _ _ f.isLt

theorem word42 (h : ∀ i, (x0 i).toNat < 32) (t : Fin 288) : (val_main_v42 (F := Ideal) x0 (ix2 t (0 : Fin 1))).toInt = (x0 (ix1 t)).toNat := by
  have e : val_main_v42 (F := Ideal) x0 (ix2 t (0 : Fin 1)) = x0 (ix1 t) := by
    refine (val_main_v42_apply x0 _).trans ?_
    have ei : idx_main_v42 (ix2 t (0 : Fin 1)) = ix1 t := by funext a; fin_cases a; rfl
    refine (congrArg _ ei).trans ((val_main_v41_apply x0 _).trans (wrap _ _ _ ?_ (by have := h (ix1 t); omega)))
    exact (val_main_v37_apply (F := Ideal) _).trans (val_main_c_7_apply (F := Ideal) _)
  rw [e]
  exact toInt_small _ (by have := h (ix1 t); omega)

theorem w43_apply (he : ∀ i, (x0 i).toNat < 32) (x7 : (⟨S4x32x1x1024, .f32⟩ : BufTy).Contents (Elt Ideal)) (t : Fin 288) (f : Fin 1024) :
    @Eq EReal (val_main_v43 (F := Ideal) x0 x7 (ix3 t (0 : Fin 1) f)) (x7 (ix4 0 ⟨(x0 (ix1 t)).toNat, he _⟩ 0 f)) := by
  unfold val_main_v43
  refine (slices_apply _ (val_main_v36 (F := Ideal) x7) (val_main_v42 (F := Ideal) x0) t (0 : Fin 1) f ⟨(x0 (ix1 t)).toNat, he _⟩ (word42 x0 he t)).trans ?_
  refine (val_main_v36_apply x7 _).trans ((val_main_v35_apply x7 _).trans (congrArg x7 (funext fun a => Fin.ext ?_)))
  match a with
  | ⟨0, _⟩ => rfl
  | ⟨1, _⟩ => exact bflat1 _ _ (he _) f.isLt
  | ⟨2, _⟩ => rfl
  | ⟨3, _⟩ => exact bflat3 _ _ f.isLt

theorem word51 (h : ∀ i, (x0 i).toNat < 32) (t : Fin 288) : (val_main_v51 (F := Ideal) x0 (ix2 t (0 : Fin 1))).toInt = (x0 (ix1 t)).toNat := by
  have e : val_main_v51 (F := Ideal) x0 (ix2 t (0 : Fin 1)) = x0 (ix1 t) := by
    refine (val_main_v51_apply x0 _).trans ?_
    have ei : idx_main_v51 (ix2 t (0 : Fin 1)) = ix1 t := by funext a; fin_cases a; rfl
    refine (congrArg _ ei).trans ((val_main_v50_apply x0 _).trans (wrap _ _ _ ?_ (by have := h (ix1 t); omega)))
    exact (val_main_v46_apply (F := Ideal) _).trans (val_main_c_9_apply (F := Ideal) _)
  rw [e]
  exact toInt_small _ (by have := h (ix1 t); omega)

theorem w52_apply (he : ∀ i, (x0 i).toNat < 32) (x8 : (⟨S4x32x1024x1024, .f32⟩ : BufTy).Contents (Elt Ideal)) (t : Fin 288) (k f : Fin 1024) :
    @Eq EReal (val_main_v52 (F := Ideal) x0 x8 (ix3 t k f)) (x8 (ix4 0 ⟨(x0 (ix1 t)).toNat, he _⟩ k f)) := by
  unfold val_main_v52
  refine (slices_apply _ (val_main_v45 (F := Ideal) x8) (val_main_v51 (F := Ideal) x0) t k f ⟨(x0 (ix1 t)).toNat, he _⟩ (word51 x0 he t)).trans ?_
  refine (val_main_v45_apply x8 _).trans ((val_main_v44_apply x8 _).trans (congrArg x8 (funext fun a => Fin.ext ?_)))
  match a with
  | ⟨0, _⟩ => rfl
  | ⟨1, _⟩ => exact flat1 _ _ _ (he _) k.isLt f.isLt
  | ⟨2, _⟩ => exact flat2 _ _ _ k.isLt f.isLt
  | ⟨3, _⟩ => exact flat3 _ _ _ f.isLt

theorem word60 (h : ∀ i, (x0 i).toNat < 32) (t : Fin 288) : (val_main_v60 (F := Ideal) x0 (ix2 t (0 : Fin 1))).toInt = (x0 (ix1 t)).toNat := by
  have e : val_main_v60 (F := Ideal) x0 (ix2 t (0 : Fin 1)) = x0 (ix1 t) := by
    refine (val_main_v60_apply x0 _).trans ?_
    have ei : idx_main_v60 (ix2 t (0 : Fin 1)) = ix1 t := by funext a; fin_cases a; rfl
    refine (congrArg _ ei).trans ((val_main_v59_apply x0 _).trans (wrap _ _ _ ?_ (by have := h (ix1 t); omega)))
    exact (val_main_v55_apply (F := Ideal) _).trans (val_main_c_11_apply (F := Ideal) _)
  rw [e]
  exact toInt_small _ (by have := h (ix1 t); omega)

theorem w61_apply (he : ∀ i, (x0 i).toNat < 32) (x9 : (⟨S4x32x1x1024, .f32⟩ : BufTy).Contents (Elt Ideal)) (t : Fin 288) (f : Fin 1024) :
    @Eq EReal (val_main_v61 (F := Ideal) x0 x9 (ix3 t (0 : Fin 1) f)) (x9 (ix4 0 ⟨(x0 (ix1 t)).toNat, he _⟩ 0 f)) := by
  unfold val_main_v61
  refine (slices_apply _ (val_main_v54 (F := Ideal) x9) (val_main_v60 (F := Ideal) x0) t (0 : Fin 1) f ⟨(x0 (ix1 t)).toNat, he _⟩ (word60 x0 he t)).trans ?_
  refine (val_main_v54_apply x9 _).trans ((val_main_v53_apply x9 _).trans (congrArg x9 (funext fun a => Fin.ext ?_)))
  match a with
  | ⟨0, _⟩ => rfl
  | ⟨1, _⟩ => exact bflat1 _ _ (he _) f.isLt
  | ⟨2, _⟩ => rfl
  | ⟨3, _⟩ => exact bflat3 _ _ f.isLt

end Cert.Experts.Ref

end
-- ==== Proof.ExPay.lean ====
/- The experts body's values at an index over the extended reals: the two projections with their biases and clips, the gate
   times its logistic, and the products with the down weights. -/
module

public import proofs.«01_k».proof.Proof.Gen.Kernel2Ideal.Skeleton
public import Idealize.ShloMosaic.Lib.Pointwise

@[expose] public section

set_option maxRecDepth 16384

noncomputable section

namespace Cert.Experts

open Idealize.ShloMosaic Cert.Kernel2Ideal Cert.Kernel2Ideal.Gen

/-- The clip's bound, its negative and the gate's factor. -/
def c7 : EReal := Ideal.ofBits .f32 0x40E00000#32
def cm7 : EReal := Ideal.ofBits .f32 0xC0E00000#32
def cA : EReal := Ideal.ofBits .f32 0x3FD9DB23#32

/-- The clipped gate, the clipped linear half, and their gated product. -/
def clipG (p b : EReal) : EReal := min (p + b) c7
def clipU (p b : EReal) : EReal := min c7 (max cm7 (p + b))
def act (g u : EReal) : EReal := g * Ideal.logistic (cA * g) * (u + 1)

theorem pay1_apply (v : Vec Ideal S1x1x1024x1024 .f32) (k f : Fin 1024) : @Eq EReal (k0_pay1 (F := Ideal) v (ix2 k f)) (v (ix4 0 0 k f)) := by
  pointwise [k0_pay1]
theorem pay2_apply (v : Vec Ideal S1x1x1024x1024 .f32) (k f : Fin 1024) : @Eq EReal (k0_pay2 (F := Ideal) v (ix2 k f)) (v (ix4 0 0 k f)) := by
  pointwise [k0_pay2]
theorem pay3_apply (v : Vec Ideal S1x1x1024x1024 .f32) (k f : Fin 1024) : @Eq EReal (k0_pay3 (F := Ideal) v (ix2 k f)) (v (ix4 0 0 k f)) := by
  pointwise [k0_pay3]

theorem pay22_apply (b : Vec Ideal S1x1x1x1024 .f32) (n : Fin 512) (d : Fin 1024) : @Eq EReal (k0_pay22 (F := Ideal) b (ix2 n d)) (b (ix4 0 0 0 d)) := by
  pointwise [k0_pay22]
theorem pay27_apply (b : Vec Ideal S1x1x1x512 .f32) (n f : Fin 512) : @Eq EReal (k0_pay27 (F := Ideal) b (ix2 n f)) (b (ix4 0 0 0 f)) := by
  pointwise [k0_pay27]

theorem pay23_apply (x : Vec Ideal S512x1024 .bf16) (w : Vec Ideal S1024x512 .bf16) (n f : Fin 512) :
    @Eq EReal (k0_pay23 (F := Ideal) x w (ix2 n f)) (∑ k : Fin 1024, @HMul.hMul EReal EReal EReal _ (x (ix2 n k)) (w (ix2 k f))) := by
  pointwise [k0_pay23]
theorem pay24_apply (x : Vec Ideal S512x1024 .bf16) (w : Vec Ideal S1024x512 .bf16) (n f : Fin 512) :
    @Eq EReal (k0_pay24 (F := Ideal) x w (ix2 n f)) (∑ k : Fin 1024, @HMul.hMul EReal EReal EReal _ (x (ix2 n k)) (w (ix2 k f))) := by
  pointwise [k0_pay24]
theorem pay25_apply (x : Vec Ideal S512x1024 .bf16) (w : Vec Ideal S1024x512 .bf16) (n f : Fin 512) :
    @Eq EReal (k0_pay25 (F := Ideal) x w (ix2 n f)) (∑ k : Fin 1024, @HMul.hMul EReal EReal EReal _ (x (ix2 n k)) (w (ix2 k f))) := by
  pointwise [k0_pay25]
theorem pay26_apply (x : Vec Ideal S512x1024 .bf16) (w : Vec Ideal S1024x512 .bf16) (n f : Fin 512) :
    @Eq EReal (k0_pay26 (F := Ideal) x w (ix2 n f)) (∑ k : Fin 1024, @HMul.hMul EReal EReal EReal _ (x (ix2 n k)) (w (ix2 k f))) := by
  pointwise [k0_pay26]

theorem pay29_apply (p : FVec Ideal S512x512 .f32) (b : Vec Ideal S1x1x1x512 .f32) (n f : Fin 512) :
    @Eq EReal (k0_pay29 (F := Ideal) p b (ix2 n f)) (clipG (p (ix2 n f)) (b (ix4 0 0 0 f))) := by
  pointwise [k0_pay29]
  rfl
theorem pay30_apply (p : FVec Ideal S512x512 .f32) (b : Vec Ideal S1x1x1x512 .f32) (n f : Fin 512) :
    @Eq EReal (k0_pay30 (F := Ideal) p b (ix2 n f)) (clipU (p (ix2 n f)) (b (ix4 0 0 0 f))) := by
  pointwise [k0_pay30]
  rfl

theorem pay28_apply (A : FVec Ideal S512x1024 .f32) (p q c : FVec Ideal S512x512 .f32) (b : Vec Ideal S1x1x1x512 .f32) (w : Vec Ideal S512x1024 .bf16) (n : Fin 512) (d : Fin 1024) :
    @Eq EReal (k0_pay28 (F := Ideal) A p q c b w (ix2 n d))
      (A (ix2 n d) + ∑ f : Fin 512, @HMul.hMul EReal EReal EReal _ (act (clipG (p (ix2 n f)) (c (ix2 n f))) (clipU (q (ix2 n f)) (b (ix4 0 0 0 f)))) (w (ix2 f d))) := by
  pointwise [k0_pay28]
  rfl

theorem pay4_apply (A : FVec Ideal S512x1024 .f32) (g u : FVec Ideal S512x512 .f32) (w : Vec Ideal S512x1024 .bf16) (n : Fin 512) (d : Fin 1024) :
    @Eq EReal (k0_pay4 (F := Ideal) A g u (FloatOps.ofBits .f32 1071242019#32) w (ix2 n d))
      (A (ix2 n d) + ∑ f : Fin 512, @HMul.hMul EReal EReal EReal _ (act (g (ix2 n f)) (u (ix2 n f))) (w (ix2 f d))) := by
  pointwise [k0_pay4]
  rfl

theorem pay5_apply (A : FVec Ideal S512x1024 .f32) (g u : FVec Ideal S512x512 .f32) (c : Ideal .f32) (w : Vec Ideal S512x1024 .bf16) (n : Fin 512) (l : Fin 128) :
    k0_pay5 (F := Ideal) A g u c w (ix2 n l) = k0_pay4 (F := Ideal) A g u c w (ix2 n ⟨0 + l.val, by omega⟩) := by
  unfold k0_pay5
  generalize k0_pay4 (F := Ideal) A g u c w = B
  pointwise []
theorem pay14_apply (v : Vec Ideal S512x128 .f32) (n : Fin 512) (l : Fin 128) : @Eq EReal (k0_pay14 (F := Ideal) v (ix2 n l)) (v (ix2 n l)) := by
  pointwise [k0_pay14]
theorem pay6_apply (A : FVec Ideal S512x1024 .f32) (g u : FVec Ideal S512x512 .f32) (c : Ideal .f32) (w : Vec Ideal S512x1024 .bf16) (n : Fin 512) (l : Fin 128) :
    k0_pay6 (F := Ideal) A g u c w (ix2 n l) = k0_pay4 (F := Ideal) A g u c w (ix2 n ⟨128 + l.val, by omega⟩) := by
  unfold k0_pay6
  generalize k0_pay4 (F := Ideal) A g u c w = B
  pointwise []
theorem pay15_apply (v : Vec Ideal S512x128 .f32) (n : Fin 512) (l : Fin 128) : @Eq EReal (k0_pay15 (F := Ideal) v (ix2 n l)) (v (ix2 n l)) := by
  pointwise [k0_pay15]
theorem pay7_apply (A : FVec Ideal S512x1024 .f32) (g u : FVec Ideal S512x512 .f32) (c : Ideal .f32) (w : Vec Ideal S512x1024 .bf16) (n : Fin 512) (l : Fin 128) :
    k0_pay7 (F := Ideal) A g u c w (ix2 n l) = k0_pay4 (F := Ideal) A g u c w (ix2 n ⟨256 + l.val, by omega⟩) := by
  unfold k0_pay7
  generalize k0_pay4 (F := Ideal) A g u c w = B
  pointwise []
theorem pay16_apply (v : Vec Ideal S512x128 .f32) (n : Fin 512) (l : Fin 128) : @Eq EReal (k0_pay16 (F := Ideal) v (ix2 n l)) (v (ix2 n l)) := by
  pointwise [k0_pay16]
theorem pay8_apply (A : FVec Ideal S512x1024 .f32) (g u : FVec Ideal S512x512 .f32) (c : Ideal .f32) (w : Vec Ideal S512x1024 .bf16) (n : Fin 512) (l : Fin 128) :
    k0_pay8 (F := Ideal) A g u c w (ix2 n l) = k0_pay4 (F := Ideal) A g u c w (ix2 n ⟨384 + l.val, by omega⟩) := by
  unfold k0_pay8
  generalize k0_pay4 (F := Ideal) A g u c w = B
  pointwise []
theorem pay17_apply (v : Vec Ideal S512x128 .f32) (n : Fin 512) (l : Fin 128) : @Eq EReal (k0_pay17 (F := Ideal) v (ix2 n l)) (v (ix2 n l)) := by
  pointwise [k0_pay17]
theorem pay9_apply (A : FVec Ideal S512x1024 .f32) (g u : FVec Ideal S512x512 .f32) (c : Ideal .f32) (w : Vec Ideal S512x1024 .bf16) (n : Fin 512) (l : Fin 128) :
    k0_pay9 (F := Ideal) A g u c w (ix2 n l) = k0_pay4 (F := Ideal) A g u c w (ix2 n ⟨512 + l.val, by omega⟩) := by
  unfold k0_pay9
  generalize k0_pay4 (F := Ideal) A g u c w = B
  pointwise []
theorem pay18_apply (v : Vec Ideal S512x128 .f32) (n : Fin 512) (l : Fin 128) : @Eq EReal (k0_pay18 (F := Ideal) v (ix2 n l)) (v (ix2 n l)) := by
  pointwise [k0_pay18]
theorem pay10_apply (A : FVec Ideal S512x1024 .f32) (g u : FVec Ideal S512x512 .f32) (c : Ideal .f32) (w : Vec Ideal S512x1024 .bf16) (n : Fin 512) (l : Fin 128) :
    k0_pay10 (F := Ideal) A g u c w (ix2 n l) = k0_pay4 (F := Ideal) A g u c w (ix2 n ⟨640 + l.val, by omega⟩) := by
  unfold k0_pay10
  generalize k0_pay4 (F := Ideal) A g u c w = B
  pointwise []
theorem pay19_apply (v : Vec Ideal S512x128 .f32) (n : Fin 512) (l : Fin 128) : @Eq EReal (k0_pay19 (F := Ideal) v (ix2 n l)) (v (ix2 n l)) := by
  pointwise [k0_pay19]
theorem pay11_apply (A : FVec Ideal S512x1024 .f32) (g u : FVec Ideal S512x512 .f32) (c : Ideal .f32) (w : Vec Ideal S512x1024 .bf16) (n : Fin 512) (l : Fin 128) :
    k0_pay11 (F := Ideal) A g u c w (ix2 n l) = k0_pay4 (F := Ideal) A g u c w (ix2 n ⟨768 + l.val, by omega⟩) := by
  unfold k0_pay11
  generalize k0_pay4 (F := Ideal) A g u c w = B
  pointwise []
theorem pay20_apply (v : Vec Ideal S512x128 .f32) (n : Fin 512) (l : Fin 128) : @Eq EReal (k0_pay20 (F := Ideal) v (ix2 n l)) (v (ix2 n l)) := by
  pointwise [k0_pay20]
theorem pay12_apply (A : FVec Ideal S512x1024 .f32) (g u : FVec Ideal S512x512 .f32) (c : Ideal .f32) (w : Vec Ideal S512x1024 .bf16) (n : Fin 512) (l : Fin 128) :
    k0_pay12 (F := Ideal) A g u c w (ix2 n l) = k0_pay4 (F := Ideal) A g u c w (ix2 n ⟨896 + l.val, by omega⟩) := by
  unfold k0_pay12
  generalize k0_pay4 (F := Ideal) A g u c w = B
  pointwise []
theorem pay21_apply (v : Vec Ideal S512x128 .f32) (n : Fin 512) (l : Fin 128) : @Eq EReal (k0_pay21 (F := Ideal) v (ix2 n l)) (v (ix2 n l)) := by
  pointwise [k0_pay21]

theorem pay13_apply (y : S4096x128.Idx) : @Eq EReal (k0_pay13 (F := Ideal) y) (Ideal.ofBits .f32 0#32) := rfl

end Cert.Experts

end
-- ==== Proof.ExTile.lean ====
/- The experts call's output tile, read at an index over the extended reals: a token's row through its expert. -/
module

public import proofs.«01_k».proof.Proof.ExVal
public import proofs.«01_k».proof.Proof.ExPay

@[expose] public section

set_option maxRecDepth 16384

noncomputable section

namespace Cert.Experts

open Idealize.ShloMosaic Cert.Kernel2Ideal Cert.Kernel2Ideal.Gen

theorem ext2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1
theorem ext4 {a b c d : ℕ} {i j : (⟨4, ![a, b, c, d]⟩ : Shape).Idx} (h0 : (i 0).val = (j 0).val) (h1 : (i 1).val = (j 1).val) (h2 : (i 2).val = (j 2).val)
    (h3 : (i 3).val = (j 3).val) : i = j := by
  funext k
  match k with
  | ⟨0, _⟩ => exact Fin.ext h0
  | ⟨1, _⟩ => exact Fin.ext h1
  | ⟨2, _⟩ => exact Fin.ext h2
  | ⟨3, _⟩ => exact Fin.ext h3

/-! ## The joined rows -/

/-- A token's row: the tile's rows `8 n` to `8 n + 7` side by side. -/
def rowIdx (y : S512x1024.Idx) : S4096x128.Idx :=
  ix2 ⟨8 * (y 0).val + (y 1).val / 128, by have h0 : (y 0).val < 512 := (y 0).isLt; have h1 : (y 1).val < 1024 := (y 1).isLt; omega⟩ ⟨(y 1).val % 128, by omega⟩

theorem mem_lanes {y : S512x1024.Idx} {o : ℕ} (inb : ∀ a, (![0, o] : Fin 2 → ℕ) a + S512x128.size a ≤ S512x1024.size a) (h0 : o ≤ (y 1).val) (h1 : (y 1).val < o + 128) :
    y ∈ (Rect.unit (s := S512x1024) ![0, o] S512x128.size inb).set := by
  rw [Rect.mem_set_unit]
  intro a
  match a with
  | ⟨0, _⟩ => exact ⟨Nat.zero_le _, by show (y 0).val < 0 + 512; have h : (y 0).val < 512 := (y 0).isLt; omega⟩
  | ⟨1, _⟩ => exact ⟨h0, h1⟩

theorem cover_rows (x0 : Vec Ideal S4096x128 .f32) (y : S512x1024.Idx) : ∃ p ∈ rowPieces (F := Ideal) x0, y ∈ p.1.set := by
  have h : (y 1).val < 1024 := (y 1).isLt
  unfold rowPieces
  rcases Nat.lt_or_ge (y 1).val 128 with g0 | g0
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_lanes inb_S512x1024_S512x128_0_0 (by omega) (by omega)⟩
  rcases Nat.lt_or_ge (y 1).val 256 with g1 | g1
  · exact ⟨_, (List.mem_cons_of_mem _ (List.mem_cons_of_mem _ (List.mem_cons_of_mem _ (List.mem_cons_of_mem _ (List.mem_cons_of_mem _ (List.mem_cons_of_mem _ List.mem_cons_self)))))), mem_lanes inb_S512x1024_S512x128_0_128 (by omega) (by omega)⟩
  rcases Nat.lt_or_ge (y 1).val 384 with g2 | g2
  · exact ⟨_, (List.mem_cons_of_mem _ (List.mem_cons_of_mem _ (List.mem_cons_of_mem _ (List.mem_cons_of_mem _ (List.mem_cons_of_mem _ List.mem_cons_self))))), mem_lanes inb_S512x1024_S512x128_0_256 (by omega) (by omega)⟩
  rcases Nat.lt_or_ge (y 1).val 512 with g3 | g3
  · exact ⟨_, (List.mem_cons_of_mem _ (List.mem_cons_of_mem _ (List.mem_cons_of_mem _ (List.mem_cons_of_mem _ List.mem_cons_self)))), mem_lanes inb_S512x1024_S512x128_0_384 (by omega) (by omega)⟩
  rcases Nat.lt_or_ge (y 1).val 640 with g4 | g4
  · exact ⟨_, (List.mem_cons_of_mem _ (List.mem_cons_of_mem _ (List.mem_cons_of_mem _ List.mem_cons_self))), mem_lanes inb_S512x1024_S512x128_0_512 (by omega) (by omega)⟩
  rcases Nat.lt_or_ge (y 1).val 768 with g5 | g5
  · exact ⟨_, (List.mem_cons_of_mem _ (List.mem_cons_of_mem _ List.mem_cons_self)), mem_lanes inb_S512x1024_S512x128_0_640 (by omega) (by omega)⟩
  rcases Nat.lt_or_ge (y 1).val 896 with g6 | g6
  · exact ⟨_, (List.mem_cons_of_mem _ List.mem_cons_self), mem_lanes inb_S512x1024_S512x128_0_768 (by omega) (by omega)⟩
  exact ⟨_, List.mem_cons_self, mem_lanes inb_S512x1024_S512x128_0_896 (by omega) (by omega)⟩

theorem rows_apply (x0 : Vec Ideal S4096x128 .f32) (y : S512x1024.Idx) : @Eq EReal (rows (F := Ideal) x0 y) (x0 (rowIdx y)) := by
  refine View.canon_apply_of_pieces (Val := Elt Ideal) (S := S512x1024) (e := .bf16) (fun y => x0 (rowIdx y)) (rowPieces (F := Ideal) x0) ?_ y (cover_rows x0 y)
  intro p hp x
  unfold rowPieces at hp
  simp only [List.mem_cons, List.mem_nil_iff, or_false] at hp
  rcases hp with rfl | rfl | rfl | rfl | rfl | rfl | rfl | rfl
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay21_apply _ ⟨(x 0).val, h0⟩ ⟨(x 1).val, h1⟩)).trans ?_
    refine congrArg x0 (ext2 (a := 4096) (b := 128) ?_ ?_)
    · show 7 + 8 * (x 0).val = 8 * (0 + 1 * (x 0).val) + (896 + 1 * (x 1).val) / 128; omega
    · show 0 + 1 * (x 1).val = (896 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay20_apply _ ⟨(x 0).val, h0⟩ ⟨(x 1).val, h1⟩)).trans ?_
    refine congrArg x0 (ext2 (a := 4096) (b := 128) ?_ ?_)
    · show 6 + 8 * (x 0).val = 8 * (0 + 1 * (x 0).val) + (768 + 1 * (x 1).val) / 128; omega
    · show 0 + 1 * (x 1).val = (768 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay19_apply _ ⟨(x 0).val, h0⟩ ⟨(x 1).val, h1⟩)).trans ?_
    refine congrArg x0 (ext2 (a := 4096) (b := 128) ?_ ?_)
    · show 5 + 8 * (x 0).val = 8 * (0 + 1 * (x 0).val) + (640 + 1 * (x 1).val) / 128; omega
    · show 0 + 1 * (x 1).val = (640 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay18_apply _ ⟨(x 0).val, h0⟩ ⟨(x 1).val, h1⟩)).trans ?_
    refine congrArg x0 (ext2 (a := 4096) (b := 128) ?_ ?_)
    · show 4 + 8 * (x 0).val = 8 * (0 + 1 * (x 0).val) + (512 + 1 * (x 1).val) / 128; omega
    · show 0 + 1 * (x 1).val = (512 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay17_apply _ ⟨(x 0).val, h0⟩ ⟨(x 1).val, h1⟩)).trans ?_
    refine congrArg x0 (ext2 (a := 4096) (b := 128) ?_ ?_)
    · show 3 + 8 * (x 0).val = 8 * (0 + 1 * (x 0).val) + (384 + 1 * (x 1).val) / 128; omega
    · show 0 + 1 * (x 1).val = (384 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay16_apply _ ⟨(x 0).val, h0⟩ ⟨(x 1).val, h1⟩)).trans ?_
    refine congrArg x0 (ext2 (a := 4096) (b := 128) ?_ ?_)
    · show 2 + 8 * (x 0).val = 8 * (0 + 1 * (x 0).val) + (256 + 1 * (x 1).val) / 128; omega
    · show 0 + 1 * (x 1).val = (256 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay15_apply _ ⟨(x 0).val, h0⟩ ⟨(x 1).val, h1⟩)).trans ?_
    refine congrArg x0 (ext2 (a := 4096) (b := 128) ?_ ?_)
    · show 1 + 8 * (x 0).val = 8 * (0 + 1 * (x 0).val) + (128 + 1 * (x 1).val) / 128; omega
    · show 0 + 1 * (x 1).val = (128 + 1 * (x 1).val) % 128; omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay14_apply _ ⟨(x 0).val, h0⟩ ⟨(x 1).val, h1⟩)).trans ?_
    refine congrArg x0 (ext2 (a := 4096) (b := 128) ?_ ?_)
    · show 0 + 8 * (x 0).val = 8 * (0 + 1 * (x 0).val) + (0 + 1 * (x 1).val) / 128; omega
    · show 0 + 1 * (x 1).val = (0 + 1 * (x 1).val) % 128; omega

/-! ## The output tile's pieces -/

/-- The token and the column that an element of the tile is. -/
def colIdx (y : S4096x128.Idx) : S512x1024.Idx :=
  ix2 ⟨(y 0).val / 8, by have h0 : (y 0).val < 4096 := (y 0).isLt; omega⟩ ⟨128 * ((y 0).val % 8) + (y 1).val, by have h1 : (y 1).val < 128 := (y 1).isLt; omega⟩

theorem out_apply (A : FVec Ideal S512x1024 .f32) (g u : FVec Ideal S512x512 .f32) (w : Vec Ideal S512x1024 .bf16) (y : S4096x128.Idx) :
    @Eq EReal (View.canon (outPieces (F := Ideal) A g u w) y) (k0_pay4 (F := Ideal) A g u (FloatOps.ofBits .f32 1071242019#32) w (colIdx y)) := by
  refine View.canon_apply_of_pieces (Val := Elt Ideal) (S := S4096x128) (e := .f32) (fun y => k0_pay4 (F := Ideal) A g u (FloatOps.ofBits .f32 1071242019#32) w (colIdx y)) (outPieces (F := Ideal) A g u w) ?_ y (cover_out A g u w y)
  intro p hp x
  unfold outPieces at hp
  simp only [List.mem_cons, List.mem_nil_iff, or_false] at hp
  rcases hp with rfl | rfl | rfl | rfl | rfl | rfl | rfl | rfl
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay12_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (7 + 8 * (x 0).val) / 8; omega
    · show 896 + (x 1).val = 128 * ((7 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay11_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (6 + 8 * (x 0).val) / 8; omega
    · show 768 + (x 1).val = 128 * ((6 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay10_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (5 + 8 * (x 0).val) / 8; omega
    · show 640 + (x 1).val = 128 * ((5 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay9_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (4 + 8 * (x 0).val) / 8; omega
    · show 512 + (x 1).val = 128 * ((4 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay8_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (3 + 8 * (x 0).val) / 8; omega
    · show 384 + (x 1).val = 128 * ((3 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay7_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (2 + 8 * (x 0).val) / 8; omega
    · show 256 + (x 1).val = 128 * ((2 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay6_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (1 + 8 * (x 0).val) / 8; omega
    · show 128 + (x 1).val = 128 * ((1 + 8 * (x 0).val) % 8) + (0 + 1 * (x 1).val); omega
  · have h0 : (x 0).val < 512 := (x 0).isLt
    have h1 : (x 1).val < 128 := (x 1).isLt
    refine ((congrArg _ (ext2 (a := 512) (b := 128) (i := x) (j := ix2 ⟨(x 0).val, h0⟩ ⟨(x 1).val, h1⟩) rfl rfl)).trans (pay5_apply A g u (FloatOps.ofBits .f32 1071242019#32) w ⟨(x 0).val, h0⟩ ⟨(x 1).val, h1⟩)).trans ?_
    refine congrArg (k0_pay4 (F := Ideal) A g u (FloatOps.ofBits .f32 1071242019#32) w) (ext2 (a := 512) (b := 1024) ?_ ?_)
    · show (x 0).val = (0 + 8 * (x 0).val) / 8; omega
    · show 0 + (x 1).val = 128 * ((0 + 8 * (x 0).val) % 8) + (0 + 1 * (x 1).val); omega

/-! ## A token through its expert -/

/-- The hidden value at `f`: the row against the gate's and the linear half's columns, clipped and gated. -/
def hid (x : Fin 1024 → EReal) (wg wu : Fin 1024 → Fin 1024 → EReal) (bg bu : Fin 1024 → EReal) (f : Fin 1024) : EReal :=
  act (clipG (∑ k : Fin 1024, x k * wg k f) (bg f)) (clipU (∑ k : Fin 1024, x k * wu k f) (bu f))
/-- The result's column `d`. -/
def moe (x : Fin 1024 → EReal) (wg wu wd : Fin 1024 → Fin 1024 → EReal) (bg bu bd : Fin 1024 → EReal) (d : Fin 1024) : EReal :=
  (∑ f : Fin 1024, hid x wg wu bg bu f * wd f d) + bd d

/-- A sum over the hidden columns, by its two halves. -/
theorem sum_halves (h : Fin 1024 → EReal) (b : EReal) :
    b + (∑ f : Fin 512, h ⟨f.val, by omega⟩) + (∑ f : Fin 512, h ⟨512 + f.val, by omega⟩) = (∑ f : Fin 1024, h f) + b := by
  have e : (∑ f : Fin 1024, h f) = (∑ f : Fin 512, h ⟨f.val, by omega⟩) + (∑ f : Fin 512, h ⟨512 + f.val, by omega⟩) := Fin.sum_univ_add (a := 512) (b := 512) h
  rw [e, add_assoc, add_comm]

/-- A gate or linear column's product from the rows and a half of the weights. -/
theorem half_sum (x0 : Vec Ideal S4096x128 .f32) (s : Vec Ideal S1024x1024 .bf16) (o : ℕ) (ho : o + 512 ≤ 1024) (inb : ∀ a, (![0, o] : Fin 2 → ℕ) a + S1024x512.size a ≤ S1024x1024.size a)
    (n f : Fin 512) :
    (∑ k : Fin 1024, @HMul.hMul EReal EReal EReal _ (rows (F := Ideal) x0 (ix2 n k)) (look (F := Ideal) s (Rect.unit (s := S1024x1024) ![0, o] S1024x512.size inb).toLoadRect (ix2 k f)))
      = ∑ k : Fin 1024, @HMul.hMul EReal EReal EReal _ (x0 (rowIdx (ix2 n k))) (s (ix2 k ⟨o + f.val, by omega⟩)) := by
  refine Finset.sum_congr rfl fun k _ => ?_
  refine congrArg₂ (fun a b : EReal => a * b) (rows_apply x0 _) (congrArg s (ext2 (a := 1024) (b := 1024) ?_ ?_))
  · show 0 + 1 * k.val = k.val; omega
  · show o + 1 * f.val = o + f.val; omega

theorem half_bias (b : Vec Ideal S1x1x1x1024 .f32) (o : ℕ) (ho : o + 512 ≤ 1024) (inb : ∀ a, (![0, 0, 0, o] : Fin 4 → ℕ) a + S1x1x1x512.size a ≤ S1x1x1x1024.size a) (f : Fin 512) :
    @Eq EReal (look (F := Ideal) b (Rect.unit (s := S1x1x1x1024) ![0, 0, 0, o] S1x1x1x512.size inb).toLoadRect (ix4 0 0 0 f)) (b (ix4 0 0 0 ⟨o + f.val, by omega⟩)) := by
  refine congrArg b (ext4 (a := 1) (b := 1) (c := 1) (d := 1024) ?_ ?_ ?_ ?_)
  · rfl
  · rfl
  · rfl
  · show o + 1 * f.val = o + f.val; omega

theorem half_down (s : Vec Ideal S1024x1024 .bf16) (o : ℕ) (ho : o + 512 ≤ 1024) (inb : ∀ a, (![o, 0] : Fin 2 → ℕ) a + S512x1024.size a ≤ S1024x1024.size a) (f : Fin 512) (d : Fin 1024) :
    @Eq EReal (look (F := Ideal) s (Rect.unit (s := S1024x1024) ![o, 0] S512x1024.size inb).toLoadRect (ix2 f d)) (s (ix2 ⟨o + f.val, by omega⟩ d)) := by
  refine congrArg s (ext2 (a := 1024) (b := 1024) ?_ ?_)
  · show o + 1 * f.val = o + f.val; omega
  · show 0 + 1 * d.val = d.val; omega

theorem mul_congr {a b c d : EReal} (h : a = b) (h' : c = d) : a * c = b * d := by rw [h, h']
theorem add_congr {a b c d : EReal} (h : a = b) (h' : c = d) : a + c = b + d := by rw [h, h']

theorem tile_apply (x0 : Vec Ideal S4096x128 .f32) (s0 s1 s2 : Vec Ideal S1024x1024 .bf16) (x4 x5 x6 : Vec Ideal S1x1x1x1024 .f32) (y : S4096x128.Idx) :
    @Eq EReal (tile (F := Ideal) x0 s0 s1 s2 x4 x5 x6 y)
      (moe (fun k => x0 (rowIdx (ix2 (colIdx y 0) k))) (fun k f => s0 (ix2 k f)) (fun k f => s1 (ix2 k f)) (fun f d => s2 (ix2 f d))
        (fun f => x4 (ix4 0 0 0 f)) (fun f => x5 (ix4 0 0 0 f)) (fun f => x6 (ix4 0 0 0 f)) (colIdx y 1)) := by
  unfold tile tilePieces partPieces
  refine (out_apply _ _ _ _ y).trans ?_
  refine ((congrArg _ (ext2 (a := 512) (b := 1024) (i := colIdx y) (j := ix2 (colIdx y 0) (colIdx y 1)) rfl rfl)).trans (pay4_apply _ _ _ _ (colIdx y 0) (colIdx y 1))).trans ?_
  unfold moe
  refine Eq.trans ?_ (sum_halves _ _)
  refine add_congr ?_ ?_
  · refine (pay28_apply _ _ _ _ _ _ _ _).trans (add_congr (pay22_apply _ _ _) ?_)
    refine Finset.sum_congr rfl fun f _ => mul_congr (congrArg₂ act (congrArg₂ clipG ?_ ?_) (congrArg₂ clipU ?_ ?_)) ?_
    · refine (pay23_apply _ _ _ _).trans ((half_sum x0 s0 0 (by omega) _ _ f).trans (Finset.sum_congr rfl fun k _ => mul_congr rfl (congrArg s0 (ext2 (a := 1024) (b := 1024) rfl ?_))))
      show 0 + f.val = f.val; omega
    · refine (pay27_apply _ _ _).trans ((half_bias x4 0 (by omega) _ f).trans (congrArg x4 (ext4 (a := 1) (b := 1) (c := 1) (d := 1024) rfl rfl rfl ?_)))
      show 0 + f.val = f.val; omega
    · refine (pay24_apply _ _ _ _).trans ((half_sum x0 s1 0 (by omega) _ _ f).trans (Finset.sum_congr rfl fun k _ => mul_congr rfl (congrArg s1 (ext2 (a := 1024) (b := 1024) rfl ?_))))
      show 0 + f.val = f.val; omega
    · refine (half_bias x5 0 (by omega) _ f).trans (congrArg x5 (ext4 (a := 1) (b := 1) (c := 1) (d := 1024) rfl rfl rfl ?_))
      show 0 + f.val = f.val; omega
    · refine (half_down s2 0 (by omega) _ f _).trans (congrArg s2 (ext2 (a := 1024) (b := 1024) ?_ rfl))
      show 0 + f.val = f.val; omega
  · refine Finset.sum_congr rfl fun f _ => mul_congr (congrArg₂ act ?_ ?_) ?_
    · refine (pay29_apply _ _ _ _).trans (congrArg₂ clipG ?_ ?_)
      · exact (pay25_apply _ _ _ _).trans (half_sum x0 s0 512 (by omega) _ _ f)
      · exact half_bias x4 512 (by omega) _ f
    · refine (pay30_apply _ _ _ _).trans (congrArg₂ clipU ?_ ?_)
      · exact (pay26_apply _ _ _ _).trans (half_sum x0 s1 512 (by omega) _ _ f)
      · exact half_bias x5 512 (by omega) _ f
    · exact half_down s2 512 (by omega) _ f _

end Cert.Experts

end
-- ==== Proof.ExRef.lean ====
/- The experts reference's result, read at an index: a token's row through its tile's expert. -/
module

public import proofs.«01_k».proof.Proof.ExSlices
public import proofs.«01_k».proof.Proof.ExTile

@[expose] public section

set_option maxRecDepth 16384

noncomputable section

namespace Cert.Experts.Ref

open Idealize.ShloMosaic Cert.Reference2Ideal Cert.Reference2Ideal.Gen Cert.Reference2Ideal.Read

variable (x0 x1 : (⟨S288, .i32⟩ : BufTy).Contents (Elt Ideal)) (x2 : (⟨S1, .i32⟩ : BufTy).Contents (Elt Ideal)) (x3 : (⟨S1179648x128, .f32⟩ : BufTy).Contents (Elt Ideal))
variable (x4 : (⟨S4x32x1024x1024, .f32⟩ : BufTy).Contents (Elt Ideal)) (x5 : (⟨S4x32x1x1024, .f32⟩ : BufTy).Contents (Elt Ideal))
variable (x6 : (⟨S4x32x1024x1024, .f32⟩ : BufTy).Contents (Elt Ideal)) (x7 : (⟨S4x32x1x1024, .f32⟩ : BufTy).Contents (Elt Ideal))
variable (x8 : (⟨S4x32x1024x1024, .f32⟩ : BufTy).Contents (Elt Ideal)) (x9 : (⟨S4x32x1x1024, .f32⟩ : BufTy).Contents (Elt Ideal))
variable (he : ∀ i, (x0 i).toNat < 32) (hb : ∀ i, (x1 i).toNat < 288)

/-- A token's row, an expert's weights and its bias. -/
def tok (t : Fin 288) (n : Fin 512) (k : Fin 1024) : EReal :=
  x3 (ix2 ⟨(x1 (ix1 t)).toNat * 4096 + (8 * n.val + k.val / 128), by have := hb (ix1 t); omega⟩ ⟨k.val % 128, by omega⟩)
def wt (w : (⟨S4x32x1024x1024, .f32⟩ : BufTy).Contents (Elt Ideal)) (t : Fin 288) (k f : Fin 1024) : EReal := w (ix4 0 ⟨(x0 (ix1 t)).toNat, he _⟩ k f)
def bs (w : (⟨S4x32x1x1024, .f32⟩ : BufTy).Contents (Elt Ideal)) (t : Fin 288) (f : Fin 1024) : EReal := w (ix4 0 ⟨(x0 (ix1 t)).toNat, he _⟩ 0 f)

theorem at62 (t : Fin 288) (n : Fin 512) (f : Fin 1024) :
    @Eq EReal (val_main_v62 (F := Ideal) x0 x1 x3 x4 (ix3 t n f)) (∑ k : Fin 1024, tok x1 x3 hb t n k * wt x0 he x4 t k f) := by
  refine (val_main_v62_apply x0 x1 x3 x4 _).trans (Finset.sum_congr rfl fun k _ => ?_)
  have el : lidx_main_v62 (ix3 t n f) k = ix3 t n k := by funext a; fin_cases a <;> rfl
  have er : ridx_main_v62 (ix3 t n f) k = ix3 t k f := by funext a; fin_cases a <;> rfl
  exact mul_congr ((congrArg _ el).trans (tok_apply x1 x3 hb t n k)) ((congrArg _ er).trans (w16_apply x0 he x4 t k f))

theorem at63 (t : Fin 288) (n : Fin 512) (f : Fin 1024) : @Eq EReal (val_main_v63 (F := Ideal) x0 x5 (ix3 t n f)) (bs x0 he x5 t f) := by
  have e : idx_main_v63 (ix3 t n f) = ix3 t (0 : Fin 1) f := by funext a; fin_cases a <;> rfl
  exact (val_main_v63_apply x0 x5 _).trans ((congrArg _ e).trans (w25_apply x0 he x5 t f))

theorem at67 (t : Fin 288) (n : Fin 512) (f : Fin 1024) :
    @Eq EReal (val_main_v67 (F := Ideal) x0 x1 x3 x6 (ix3 t n f)) (∑ k : Fin 1024, tok x1 x3 hb t n k * wt x0 he x6 t k f) := by
  refine (val_main_v67_apply x0 x1 x3 x6 _).trans (Finset.sum_congr rfl fun k _ => ?_)
  have el : lidx_main_v67 (ix3 t n f) k = ix3 t n k := by funext a; fin_cases a <;> rfl
  have er : ridx_main_v67 (ix3 t n f) k = ix3 t k f := by funext a; fin_cases a <;> rfl
  exact mul_congr ((congrArg _ el).trans (tok_apply x1 x3 hb t n k)) ((congrArg _ er).trans (w34_apply x0 he x6 t k f))

theorem at68 (t : Fin 288) (n : Fin 512) (f : Fin 1024) : @Eq EReal (val_main_v68 (F := Ideal) x0 x7 (ix3 t n f)) (bs x0 he x7 t f) := by
  have e : idx_main_v68 (ix3 t n f) = ix3 t (0 : Fin 1) f := by funext a; fin_cases a <;> rfl
  exact (val_main_v68_apply x0 x7 _).trans ((congrArg _ e).trans (w43_apply x0 he x7 t f))

theorem at84 (t : Fin 288) (n : Fin 512) (f : Fin 1024) : @Eq EReal (val_main_v84 (F := Ideal) x0 x9 (ix3 t n f)) (bs x0 he x9 t f) := by
  have e : idx_main_v84 (ix3 t n f) = ix3 t (0 : Fin 1) f := by funext a; fin_cases a <;> rfl
  exact (val_main_v84_apply x0 x9 _).trans ((congrArg _ e).trans (w61_apply x0 he x9 t f))

/-- The clipped gate. -/
theorem at66 (t : Fin 288) (n : Fin 512) (f : Fin 1024) : @Eq EReal (val_main_v66 (F := Ideal) x0 x1 x3 x4 x5 (ix3 t n f))
    (clipG (∑ k : Fin 1024, tok x1 x3 hb t n k * wt x0 he x4 t k f) (bs x0 he x5 t f)) := by
  refine (val_main_v66_apply x0 x1 x3 x4 x5 _).trans ?_
  have e : @Eq EReal (val_main_v65 (F := Ideal) (ix3 t n f)) c7 := (val_main_v65_apply (F := Ideal) _).trans (val_main_cst_apply (F := Ideal) _)
  exact congrArg₂ (fun a b : EReal => min a b) ((val_main_v64_apply x0 x1 x3 x4 x5 _).trans (add_congr (at62 x0 x1 x3 x4 he hb t n f) (at63 x0 x5 he t n f))) e

/-- The clipped linear half. -/
theorem at70 (t : Fin 288) (n : Fin 512) (f : Fin 1024) : @Eq EReal (val_main_v70 (F := Ideal) x0 x1 x3 x6 x7 (ix3 t n f))
    (clipU (∑ k : Fin 1024, tok x1 x3 hb t n k * wt x0 he x6 t k f) (bs x0 he x7 t f)) := by
  refine (val_main_v70_apply x0 x1 x3 x6 x7 _).trans ?_
  have e4 : @Eq EReal (val_main_call0_v4 (F := Ideal) (ix3 t n f)) c7 := (val_main_call0_v4_apply (F := Ideal) _).trans (val_main_call0_v3_apply (F := Ideal) _)
  have e1 : @Eq EReal (val_main_call0_v1 (F := Ideal) (ix3 t n f)) cm7 := (val_main_call0_v1_apply (F := Ideal) _).trans (val_main_call0_v0_apply (F := Ideal) _)
  exact congrArg₂ (fun a b : EReal => min a b) e4 ((val_main_call0_v2_apply x0 x1 x3 x6 x7 _).trans (congrArg₂ (fun a b : EReal => max a b) e1
    ((val_main_v69_apply x0 x1 x3 x6 x7 _).trans (add_congr (at67 x0 x1 x3 x6 he hb t n f) (at68 x0 x7 he t n f)))))

theorem at75 (i : S288x512x1024.Idx) : @Eq EReal (val_main_v75 (F := Ideal) i) 1 := (val_main_v75_apply (F := Ideal) i).trans Ideal.ofBits_one_f32
theorem at77 (i : S288x512x1024.Idx) : @Eq EReal (val_main_v77 (F := Ideal) i) 1 := (val_main_v77_apply (F := Ideal) i).trans Ideal.ofBits_one_f32
theorem at80 (i : S288x512x1024.Idx) : @Eq EReal (val_main_v80 (F := Ideal) i) 1 := (val_main_v80_apply (F := Ideal) i).trans Ideal.ofBits_one_f32
theorem at71 (i : S288x512x1024.Idx) : @Eq EReal (val_main_v71 (F := Ideal) i) cA := (val_main_v71_apply (F := Ideal) i).trans rfl

/-- The hidden value. -/
theorem at82 (t : Fin 288) (n : Fin 512) (f : Fin 1024) : @Eq EReal (val_main_v82 (F := Ideal) x0 x1 x3 x4 x5 x6 x7 (ix3 t n f))
    (hid (tok x1 x3 hb t n) (wt x0 he x4 t) (wt x0 he x6 t) (bs x0 he x5 t) (bs x0 he x7 t) f) := by
  have g := at66 x0 x1 x3 x4 x5 he hb t n f
  have u := at70 x0 x1 x3 x6 x7 he hb t n f
  have e72 : @Eq EReal (val_main_v72 (F := Ideal) x0 x1 x3 x4 x5 (ix3 t n f)) (cA * val_main_v66 (F := Ideal) x0 x1 x3 x4 x5 (ix3 t n f)) :=
    (val_main_v72_apply x0 x1 x3 x4 x5 _).trans (mul_congr (at71 _) rfl)
  have e74 : @Eq EReal (val_main_v74 (F := Ideal) x0 x1 x3 x4 x5 (ix3 t n f)) (Ideal.exp (-(cA * val_main_v66 (F := Ideal) x0 x1 x3 x4 x5 (ix3 t n f)))) :=
    (val_main_v74_apply x0 x1 x3 x4 x5 _).trans (congrArg Ideal.exp ((val_main_v73_apply x0 x1 x3 x4 x5 _).trans (congrArg (fun a : EReal => -a) e72)))
  have e78 : @Eq EReal (val_main_v78 (F := Ideal) x0 x1 x3 x4 x5 (ix3 t n f)) (Ideal.logistic (cA * val_main_v66 (F := Ideal) x0 x1 x3 x4 x5 (ix3 t n f))) :=
    (val_main_v78_apply x0 x1 x3 x4 x5 _).trans (congrArg₂ Ideal.div (at77 _) ((val_main_v76_apply x0 x1 x3 x4 x5 _).trans (add_congr (at75 _) e74)))
  have e82 : @Eq EReal (val_main_v82 (F := Ideal) x0 x1 x3 x4 x5 x6 x7 (ix3 t n f))
      (act (val_main_v66 (F := Ideal) x0 x1 x3 x4 x5 (ix3 t n f)) (val_main_v70 (F := Ideal) x0 x1 x3 x6 x7 (ix3 t n f))) :=
    (val_main_v82_apply x0 x1 x3 x4 x5 x6 x7 _).trans (mul_congr ((val_main_v79_apply x0 x1 x3 x4 x5 _).trans (mul_congr rfl e78))
      ((val_main_v81_apply x0 x1 x3 x6 x7 _).trans (add_congr rfl (at80 _))))
  exact e82.trans (congrArg₂ act g u)

/-- A token through its tile's expert. -/
theorem at85 (t : Fin 288) (n : Fin 512) (d : Fin 1024) : @Eq EReal (val_main_v85 (F := Ideal) x0 x1 x3 x4 x5 x6 x7 x8 x9 (ix3 t n d))
    (moe (tok x1 x3 hb t n) (wt x0 he x4 t) (wt x0 he x6 t) (wt x0 he x8 t) (bs x0 he x5 t) (bs x0 he x7 t) (bs x0 he x9 t) d) := by
  refine (val_main_v85_apply x0 x1 x3 x4 x5 x6 x7 x8 x9 _).trans (add_congr ?_ (at84 x0 x9 he t n d))
  refine (val_main_v83_apply x0 x1 x3 x4 x5 x6 x7 x8 _).trans (Finset.sum_congr rfl fun f _ => ?_)
  have el : lidx_main_v83 (ix3 t n d) f = ix3 t n f := by funext a; fin_cases a <;> rfl
  have er : ridx_main_v83 (ix3 t n d) f = ix3 t f d := by funext a; fin_cases a <;> rfl
  exact mul_congr ((congrArg _ el).trans (at82 x0 x1 x3 x4 x5 x6 x7 he hb t n f)) ((congrArg _ er).trans (w52_apply x0 he x8 t f d))

/-- Whether a tile is in use. -/
theorem at_used (t : Fin 288) (n : Fin 512) (d : Fin 1024) :
    val_main_call1_v1 (F := Ideal) x2 (ix3 t n d) = BitVec.ofBool ((BitVec.ofNat 32 t.val).slt (x2 (ix1 0))) := by
  have e87 : ∀ j : S_.Idx, val_main_v87 (F := Ideal) x2 j = x2 (ix1 0) := fun j => by
    unfold val_main_v87
    refine congrArg x2 (funext fun a => ?_)
    match a with
    | ⟨0, _⟩ => exact Fin.ext (Nat.lt_one_iff.1 (Fin.isLt _))
  refine (val_main_call1_v1_apply x2 _).trans ((val_main_v90_apply x2 _).trans ((val_main_v89_apply x2 _).trans ?_))
  exact congrArg₂ (fun a b : BitVec 32 => BitVec.ofBool (a.slt b)) ((val_main_v86_apply (F := Ideal) _).trans rfl) ((val_main_v88_apply x2 _).trans (e87 _))

/-- The reference's result at an index. -/
theorem ref_apply (i : S1179648x128.Idx) : @Eq EReal (val_main_v92 (F := Ideal) x0 x1 x2 x3 x4 x5 x6 x7 x8 x9 i)
    (if (BitVec.ofNat 32 ((i 0).val / 4096)).slt (x2 (ix1 0)) = true then
      moe (tok x1 x3 hb ⟨(i 0).val / 4096, by have h : (i 0).val < 1179648 := (i 0).isLt; omega⟩ ⟨(i 0).val % 4096 / 8, by omega⟩)
        (wt x0 he x4 ⟨(i 0).val / 4096, by have h : (i 0).val < 1179648 := (i 0).isLt; omega⟩)
        (wt x0 he x6 ⟨(i 0).val / 4096, by have h : (i 0).val < 1179648 := (i 0).isLt; omega⟩)
        (wt x0 he x8 ⟨(i 0).val / 4096, by have h : (i 0).val < 1179648 := (i 0).isLt; omega⟩)
        (bs x0 he x5 ⟨(i 0).val / 4096, by have h : (i 0).val < 1179648 := (i 0).isLt; omega⟩)
        (bs x0 he x7 ⟨(i 0).val / 4096, by have h : (i 0).val < 1179648 := (i 0).isLt; omega⟩)
        (bs x0 he x9 ⟨(i 0).val / 4096, by have h : (i 0).val < 1179648 := (i 0).isLt; omega⟩)
        ⟨128 * ((i 0).val % 4096 % 8) + (i 1).val, by have h1 : (i 1).val < 128 := (i 1).isLt; omega⟩
    else Ideal.ofBits .f32 0#32) := by
  have h0 : (i 0).val < 1179648 := (i 0).isLt
  have h1 : (i 1).val < 128 := (i 1).isLt
  have ei : idx_main_v92 i = ix3 (⟨(i 0).val / 4096, by omega⟩ : Fin 288) (⟨(i 0).val % 4096 / 8, by omega⟩ : Fin 512) (⟨128 * ((i 0).val % 4096 % 8) + (i 1).val, by omega⟩ : Fin 1024) := by
    funext a
    apply Fin.ext
    match a with
    | ⟨0, _⟩ => show ((i 0).val * 128 + (i 1).val) / 524288 = (i 0).val / 4096; omega
    | ⟨1, _⟩ => show ((i 0).val * 128 + (i 1).val) / 1024 % 512 = (i 0).val % 4096 / 8; omega
    | ⟨2, _⟩ => show ((i 0).val * 128 + (i 1).val) % 1024 = 128 * ((i 0).val % 4096 % 8) + (i 1).val; omega
  refine (val_main_v92_apply x0 x1 x2 x3 x4 x5 x6 x7 x8 x9 i).trans ((congrArg _ ei).trans ((val_main_v91_apply x0 x1 x2 x3 x4 x5 x6 x7 x8 x9 _).trans ?_))
  have ez : ∀ j, @Eq EReal (val_main_call1_v2 (F := Ideal) j) (Ideal.ofBits .f32 0#32) := fun j => (val_main_call1_v2_apply (F := Ideal) j).trans (val_main_call1_v0_apply (F := Ideal) _)
  have es : ∀ (b : Bool) (p q : EReal), @Eq EReal (Scalar.select (BitVec.ofBool b) p q) (if b = true then p else q) := fun b p q => by cases b <;> rfl
  refine (congrArg (fun c : BitVec 1 => @Scalar.select EReal c _ _) (at_used x2 _ _ _)).trans ((es _ _ _).trans ?_)
  exact congrArg₂ (fun p q : EReal => if (BitVec.ofNat 32 ((i 0).val / 4096)).slt (x2 (ix1 0)) = true then p else q) (at85 x0 x1 x3 x4 x5 x6 x7 x8 x9 he hb _ _ _) (ez _)

end Cert.Experts.Ref

end
-- ==== Proof.ExEqual.lean ====
/- The experts call's result array is the reference's: both put a token's row through its tile's expert. -/
module

public import proofs.«01_k».proof.Proof.ExOut
public import proofs.«01_k».proof.Proof.ExRef

@[expose] public section

set_option maxRecDepth 16384

noncomputable section

namespace Cert.Experts

open Idealize.ShloMosaic Idealize.ShloMosaic.TcCoe Idealize.SL.Sem
open Cert.Kernel2Ideal Cert.Kernel2Ideal.Gen

variable (m : (ℓ : Loc nD τ sig) → Buf (Elt Ideal) ℓ)

theorem moe_congr {x x' : Fin 1024 → EReal} {wg wg' wu wu' wd wd' : Fin 1024 → Fin 1024 → EReal} {bg bg' bu bu' bd bd' : Fin 1024 → EReal} {d d' : Fin 1024}
    (h0 : ∀ k, x k = x' k) (h1 : ∀ k f, wg k f = wg' k f) (h2 : ∀ k f, wu k f = wu' k f) (h3 : ∀ k f, wd k f = wd' k f) (h4 : ∀ f, bg f = bg' f) (h5 : ∀ f, bu f = bu' f)
    (h6 : ∀ f, bd f = bd' f) (hd : d = d') : moe x wg wu wd bg bu bd d = moe x' wg' wu' wd' bg' bu' bd' d' := by
  obtain rfl := funext h0
  obtain rfl := funext fun k => funext (h1 k)
  obtain rfl := funext fun k => funext (h2 k)
  obtain rfl := funext fun k => funext (h3 k)
  obtain rfl := funext h4
  obtain rfl := funext h5
  obtain rfl := funext h6
  rw [hd]

theorem te_ix (t : Fin 288) : te m t = T0 m (Idealize.ShloMosaic.ix1 t) := congrArg (T0 m) (ix_ext _ t rfl).symm
theorem word_ix (t : Fin 288) : (te m t).toNat = (T0 m (Idealize.ShloMosaic.ix1 t)).toNat := congrArg BitVec.toNat (te_ix m t)
theorem tb_ix (t : Fin 288) : tb m t = T1 m (Idealize.ShloMosaic.ix1 t) := congrArg (T1 m) (ix_ext _ t rfl).symm
theorem nu_ix : nu m = T2 m (Idealize.ShloMosaic.ix1 0) := congrArg (T2 m) (ix1_ext _).symm

theorem every_word {N : ℕ} (T : S288.Idx → BitVec 32) (h : ∀ n, (T (ix n)).toNat < N) (i : S288.Idx) : (T i).toNat < N := by
  rw [ix_ext i (i 0) rfl]; exact h _

/-- Contents of an argument buffer. -/
abbrev A3 (c : Dev nD) : Vec Ideal S1179648x128 .f32 := m ((c.tc : Thread nD τ).loc main_arg3)
abbrev A4 (c : Dev nD) : Vec Ideal S4x32x1024x1024 .f32 := m ((c.tc : Thread nD τ).loc main_arg4)
abbrev A5 (c : Dev nD) : Vec Ideal S4x32x1x1024 .f32 := m ((c.tc : Thread nD τ).loc main_arg5)
abbrev A6 (c : Dev nD) : Vec Ideal S4x32x1024x1024 .f32 := m ((c.tc : Thread nD τ).loc main_arg6)
abbrev A7 (c : Dev nD) : Vec Ideal S4x32x1x1024 .f32 := m ((c.tc : Thread nD τ).loc main_arg7)
abbrev A8 (c : Dev nD) : Vec Ideal S4x32x1024x1024 .f32 := m ((c.tc : Thread nD τ).loc main_arg8)
abbrev A9 (c : Dev nD) : Vec Ideal S4x32x1x1024 .f32 := m ((c.tc : Thread nD τ).loc main_arg9)

theorem used_iff (hO : Ok m) (t : Fin 288) : condV (grid0.coords (pt m hO t)) (nu m) ↔ (BitVec.ofNat 32 t.val).slt (T2 m (Idealize.ShloMosaic.ix1 0)) = true := by
  rw [condV_iff, coord_eq, nu_ix]

/-- Entry by entry, the result array is the reference's value of the same arguments. -/
theorem result_eq (he : ∀ n, (te m n).toNat < 32) (hb : ∀ n, (tb m n).toNat < 288) (hO : Ok m) (c : Dev nD) (i : S1179648x128.Idx) :
    @Eq EReal (outArr m hO c i) (Cert.Reference2Ideal.Read.val_main_v92 (F := Ideal) (T0 m) (T1 m) (T2 m) (A3 m c) (A4 m c) (A5 m c) (A6 m c) (A7 m c) (A8 m c) (A9 m c) i) := by
  have hE : ∀ i, (T0 m i).toNat < 32 := every_word (T0 m) he
  have hB : ∀ i, (T1 m i).toNat < 288 := every_word (T1 m) hb
  refine Eq.trans ?_ (Cert.Experts.Ref.ref_apply (T0 m) (T1 m) (T2 m) (A3 m c) (A4 m c) (A5 m c) (A6 m c) (A7 m c) (A8 m c) (A9 m c) hE hB i).symm
  have h0 : (i 0).val < 1179648 := (i 0).isLt
  have h1 : (i 1).val < 128 := (i 1).isLt
  unfold outArr
  by_cases hu : (BitVec.ofNat 32 (tileOf i).val).slt (T2 m (Idealize.ShloMosaic.ix1 0)) = true
  · refine (congrFun (outAt_V m hO c _ ((used_iff m hO _).2 hu)) _).trans ((tile_apply _ _ _ _ _ _ _ _).trans (Eq.trans ?_ (if_pos hu).symm))
    refine moe_congr (fun k => ?_) (fun k f => ?_) (fun k f => ?_) (fun k f => ?_) (fun f => ?_) (fun f => ?_) (fun f => ?_) (Fin.ext rfl)
    · refine (rows_read m hb hO c _ _).trans (congrArg (A3 m c) (ext2 (a := 1179648) (b := 128) ?_ rfl))
      show (tb m (tileOf i)).toNat * 4096 + (8 * ((i 0).val % 4096 / 8) + k.val / 128) = (T1 m (Idealize.ShloMosaic.ix1 (tileOf i))).toNat * 4096 + (8 * ((i 0).val % 4096 / 8) + k.val / 128)
      rw [tb_ix]
    · refine (pay1_apply _ _ _).trans ((weight1_read m he hO c _ k f).trans (congrArg (A4 m c) (ext4 (a := 4) (b := 32) (c := 1024) (d := 1024) rfl ?_ rfl rfl)))
      exact word_ix m (tileOf i)
    · refine (pay2_apply _ _ _).trans ((weight2_read m he hO c _ k f).trans (congrArg (A6 m c) (ext4 (a := 4) (b := 32) (c := 1024) (d := 1024) rfl ?_ rfl rfl)))
      exact word_ix m (tileOf i)
    · refine (pay3_apply _ _ _).trans ((weight3_read m he hO c _ k f).trans (congrArg (A8 m c) (ext4 (a := 4) (b := 32) (c := 1024) (d := 1024) rfl ?_ rfl rfl)))
      exact word_ix m (tileOf i)
    · refine (bias4_read m he hO c _ f).trans (congrArg (A5 m c) (ext4 (a := 4) (b := 32) (c := 1) (d := 1024) rfl ?_ rfl rfl))
      exact word_ix m (tileOf i)
    · refine (bias5_read m he hO c _ f).trans (congrArg (A7 m c) (ext4 (a := 4) (b := 32) (c := 1) (d := 1024) rfl ?_ rfl rfl))
      exact word_ix m (tileOf i)
    · refine (bias6_read m he hO c _ f).trans (congrArg (A9 m c) (ext4 (a := 4) (b := 32) (c := 1) (d := 1024) rfl ?_ rfl rfl))
      exact word_ix m (tileOf i)
  · exact (congrFun (outAt_Z m hO c _ (fun h => hu ((used_iff m hO _).1 h))) _).trans ((pay13_apply _).trans (if_neg hu).symm)

end Cert.Experts

end
-- ==== Proof.ExClaims.lean ====
/- The experts call's claims: the frames, and the kernel against the reference. -/
module

public import proofs.«01_k».proof.Defs
public import proofs.«01_k».proof.Proof.Gen.Pre_in_range
public import proofs.«01_k».proof.Proof.Gen.Reference2Ideal.Run
public import proofs.«01_k».proof.Proof.Gen.Reference2Ideal.Read
public import proofs.«01_k».proof.Proof.ExOk
public import proofs.«01_k».proof.Proof.ExSame
public import proofs.«01_k».proof.Proof.ExEqual
public import Idealize.ShloMosaic.Lib.Quiescent

@[expose] public section

set_option maxRecDepth 16384

noncomputable section

namespace Cert.Experts

open Idealize.ShloMosaic Idealize.ShloMosaic.TcCoe Idealize.SL.Sem

/-- With the tables in range the idealised experts call runs, leaves its arguments, and ends with every counter at zero. -/
theorem frame_pi2 : Cert.quiescent_Kernel2Ideal := fun m ρ h =>
  frame m ρ (ok_of m (words_of m (h 0)).1 (words_of m (h 0)).2)

/-- The reference runs, leaves its arguments, and has no counter to leave. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- And under the precondition. -/
theorem frame_ri2_in_range : Cert.quiescent_Reference2Ideal_pre_in_range := fun m ρ _ => frame_ri2 m ρ trivial

/-- The idealisation of this call names no constant. -/
theorem preserves2 : Cert.preserves_Kernel2_Kernel2Ideal := trivial

/-- With the tables in range the experts call and its reference end with equal results. -/
theorem algebraic2 : Cert.algebraic_Kernel2Ideal_Reference2Ideal := by
  intro m ρ m' ρ' hpre hagree
  obtain ⟨he, hb⟩ := words_of m (hpre 0)
  have hO := ok_of m he hb
  refine ⟨fun c => outArr m hO c, value_run m ρ hO, ?_⟩
  refine (θ_run Cert.Reference2Ideal.defs _ _).mono (fun _ h c => ⟨(h c).1.trans ?_, (h c).2⟩) (Cert.Reference2Ideal.Value.run (F := Ideal) m' ρ')
  refine (Cert.Reference2Ideal.Read.val_main_v92_eq _ _).trans ?_
  obtain ⟨e0, e1, e2, e3, e4, e5, e6, e7, e8, e9⟩ := hagree c
  refine Eq.trans ?_ (funext fun i => (result_eq m he hb hO c i).symm)
  obtain rfl : c = 0 := Subsingleton.elim _ _
  show Cert.Reference2Ideal.Read.val_main_v92 (F := Ideal) (m' (((0 : Dev Cert.Reference2Ideal.nD).tc : Thread Cert.Reference2Ideal.nD Cert.Reference2Ideal.τ).loc Cert.Reference2Ideal.main_arg0)) (m' (((0 : Dev Cert.Reference2Ideal.nD).tc : Thread Cert.Reference2Ideal.nD Cert.Reference2Ideal.τ).loc Cert.Reference2Ideal.main_arg1)) (m' (((0 : Dev Cert.Reference2Ideal.nD).tc : Thread Cert.Reference2Ideal.nD Cert.Reference2Ideal.τ).loc Cert.Reference2Ideal.main_arg2)) (m' (((0 : Dev Cert.Reference2Ideal.nD).tc : Thread Cert.Reference2Ideal.nD Cert.Reference2Ideal.τ).loc Cert.Reference2Ideal.main_arg3)) (m' (((0 : Dev Cert.Reference2Ideal.nD).tc : Thread Cert.Reference2Ideal.nD Cert.Reference2Ideal.τ).loc Cert.Reference2Ideal.main_arg4)) (m' (((0 : Dev Cert.Reference2Ideal.nD).tc : Thread Cert.Reference2Ideal.nD Cert.Reference2Ideal.τ).loc Cert.Reference2Ideal.main_arg5)) (m' (((0 : Dev Cert.Reference2Ideal.nD).tc : Thread Cert.Reference2Ideal.nD Cert.Reference2Ideal.τ).loc Cert.Reference2Ideal.main_arg6)) (m' (((0 : Dev Cert.Reference2Ideal.nD).tc : Thread Cert.Reference2Ideal.nD Cert.Reference2Ideal.τ).loc Cert.Reference2Ideal.main_arg7)) (m' (((0 : Dev Cert.Reference2Ideal.nD).tc : Thread Cert.Reference2Ideal.nD Cert.Reference2Ideal.τ).loc Cert.Reference2Ideal.main_arg8)) (m' (((0 : Dev Cert.Reference2Ideal.nD).tc : Thread Cert.Reference2Ideal.nD Cert.Reference2Ideal.τ).loc Cert.Reference2Ideal.main_arg9)) = _
  rw [e0, e1, e2, e3, e4, e5, e6, e7, e8, e9]
  rfl

end Cert.Experts

end
-- ==== Proof.lean ====
/- The proof of the certificate: the programs' stated facts, then the claims in order. -/
module

public import proofs.«01_k».proof.Proof.Claims
public import proofs.«01_k».proof.Proof.ExClaims

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Pre_finite.Gen.facts, Cert.Pre_in_range.Gen.facts,
    Cert.Attn.frame_p, Cert.Attn.frame_pi, Cert.Attn.frame_pi_finite, Cert.Attn.frame_ri, Cert.Attn.frame_ri_finite,
    Cert.Experts.frame_p2, Cert.Experts.frame_pi2, Cert.Experts.frame_ri2, Cert.Experts.frame_ri2_in_range,
    Cert.Attn.preserves, Cert.Attn.algebraic, Cert.Experts.preserves2, Cert.Experts.algebraic2⟩

end Cert.Proof

end
